-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)) (v3 : (c : Dev Cert.Kernel4Ideal.nD) → Buf (Elt Ideal) ((c.tc : Thread Cert.Kernel4Ideal.nD Cert.Kernel4Ideal.τ).loc Cert.Kernel4Ideal.main_v44_3)) (v4 : (c : Dev Cert.Kernel4Ideal.nD) → Buf (Elt Ideal) ((c.tc : Thread Cert.Kernel4Ideal.nD Cert.Kernel4Ideal.τ).loc Cert.Kernel4Ideal.main_v44_4)) (v5 : (c : Dev Cert.Kernel4Ideal.nD) → Buf (Elt Ideal) ((c.tc : Thread Cert.Kernel4Ideal.nD Cert.Kernel4Ideal.τ).loc Cert.Kernel4Ideal.main_v44_5)) (v6 : (c : Dev Cert.Kernel4Ideal.nD) → Buf (Elt Ideal) ((c.tc : Thread Cert.Kernel4Ideal.nD Cert.Kernel4Ideal.τ).loc Cert.Kernel4Ideal.main_v44_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_v44_3) = v3 c
          ∧ r.2.mem ((c.tc : Thread Cert.Kernel4Ideal.nD Cert.Kernel4Ideal.τ).loc Cert.Kernel4Ideal.main_v44_4) = v4 c
          ∧ r.2.mem ((c.tc : Thread Cert.Kernel4Ideal.nD Cert.Kernel4Ideal.τ).loc Cert.Kernel4Ideal.main_v44_5) = v5 c
          ∧ r.2.mem ((c.tc : Thread Cert.Kernel4Ideal.nD Cert.Kernel4Ideal.τ).loc Cert.Kernel4Ideal.main_v44_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_v25) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "inv_sqrt_d" .f32 0x3DD105EC#32 (((Real.sqrt 96)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)) (v3 : (c : Dev Cert.Kernel5Ideal.nD) → Buf (Elt Ideal) ((c.tc : Thread Cert.Kernel5Ideal.nD Cert.Kernel5Ideal.τ).loc Cert.Kernel5Ideal.main_v45_3)) (v4 : (c : Dev Cert.Kernel5Ideal.nD) → Buf (Elt Ideal) ((c.tc : Thread Cert.Kernel5Ideal.nD Cert.Kernel5Ideal.τ).loc Cert.Kernel5Ideal.main_v45_4)) (v5 : (c : Dev Cert.Kernel5Ideal.nD) → Buf (Elt Ideal) ((c.tc : Thread Cert.Kernel5Ideal.nD Cert.Kernel5Ideal.τ).loc Cert.Kernel5Ideal.main_v45_5)) (v6 : (c : Dev Cert.Kernel5Ideal.nD) → Buf (Elt Ideal) ((c.tc : Thread Cert.Kernel5Ideal.nD Cert.Kernel5Ideal.τ).loc Cert.Kernel5Ideal.main_v45_6)) (v7 : (c : Dev Cert.Kernel5Ideal.nD) → Buf (Elt Ideal) ((c.tc : Thread Cert.Kernel5Ideal.nD Cert.Kernel5Ideal.τ).loc Cert.Kernel5Ideal.main_v45_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_v45_3) = v3 c
          ∧ r.2.mem ((c.tc : Thread Cert.Kernel5Ideal.nD Cert.Kernel5Ideal.τ).loc Cert.Kernel5Ideal.main_v45_4) = v4 c
          ∧ r.2.mem ((c.tc : Thread Cert.Kernel5Ideal.nD Cert.Kernel5Ideal.τ).loc Cert.Kernel5Ideal.main_v45_5) = v5 c
          ∧ r.2.mem ((c.tc : Thread Cert.Kernel5Ideal.nD Cert.Kernel5Ideal.τ).loc Cert.Kernel5Ideal.main_v45_6) = v6 c
          ∧ r.2.mem ((c.tc : Thread Cert.Kernel5Ideal.nD Cert.Kernel5Ideal.τ).loc Cert.Kernel5Ideal.main_v45_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_v61) = v4 c
          ∧ r.2.mem ((c.tc : Thread Cert.Reference5Ideal.nD Cert.Reference5Ideal.τ).loc Cert.Reference5Ideal.main_v66) = v5 c
          ∧ r.2.mem ((c.tc : Thread Cert.Reference5Ideal.nD Cert.Reference5Ideal.τ).loc Cert.Reference5Ideal.main_v40) = v6 c
          ∧ r.2.mem ((c.tc : Thread Cert.Reference5Ideal.nD Cert.Reference5Ideal.τ).loc Cert.Reference5Ideal.main_v74) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v55_0)) (v1 : (c : Dev Cert.Kernel6Ideal.nD) → Buf (Elt Ideal) ((c.tc : Thread Cert.Kernel6Ideal.nD Cert.Kernel6Ideal.τ).loc Cert.Kernel6Ideal.main_v55_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v55_0) = v0 c
          ∧ r.2.mem ((c.tc : Thread Cert.Kernel6Ideal.nD Cert.Kernel6Ideal.τ).loc Cert.Kernel6Ideal.main_v55_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_finite_weights.lean ====
abbrev S2x8192x320 : Shape := ⟨3, ![2, 8192, 320]⟩
abbrev S32x96 : Shape := ⟨2, ![32, 96]⟩
abbrev S3072x256 : Shape := ⟨2, ![3072, 256]⟩
abbrev S256x96 : Shape := ⟨2, ![256, 96]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x96 : S_.BroadcastsInDim S32x96 (![] : Fin 0 → Fin S32x96.rank)
  reducesTo_S32x96_S_d0_1 : S32x96.ReducesTo [0, 1] S_
  h_S_ : 0 < S_.numel
  bcast_S_S3072x256 : S_.BroadcastsInDim S3072x256 (![] : Fin 0 → Fin S3072x256.rank)
  reducesTo_S3072x256_S_d0_1 : S3072x256.ReducesTo [0, 1] S_
  bcast_S_S32x64 : S_.BroadcastsInDim S32x64 (![] : Fin 0 → Fin S32x64.rank)
  reducesTo_S32x64_S_d0_1 : S32x64.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  main_v18

def fn {F : FTy → Type} [FloatOps F] (main_arg0 : FVec F S2x8192x320 .f32) (main_arg1 : FVec F S32x96 .f32) (main_arg2 : FVec F S3072x256 .f32) (main_arg3 : FVec F S256x96 .f32) (main_arg4 : FVec F S32x64 .f32) (main_arg5 : FVec F S2048x256 .f32) (main_arg6 : FVec F S256x64 .f32) : IVec S_ 1 :=
  let main_v0 : FVec F S32x96 .f32 := Host.absf main_arg1
  let main_cst : FVec F S_ .f32 := constant S_ .f32 0x7F800000#32
  let main_v1 : FVec F S32x96 .f32 := broadcastInDim S32x96 ![] bcast_S_S32x96 main_cst
  let main_v2 : IVec S32x96 1 := cmpf .olt main_v0 main_v1
  let main_c : IVec S_ 1 := constantI S_ 1 1#1
  let main_v3 : IVec S_ 1 := (fun x v => Host.reduce IntOp.andi x v reducesTo_S32x96_S_d0_1 h_S_) main_v2 main_c
  let main_v4 : FVec F S3072x256 .f32 := Host.absf main_arg2
  let main_cst_0 : FVec F S_ .f32 := constant S_ .f32 0x7F800000#32
  let main_v5 : FVec F S3072x256 .f32 := broadcastInDim S3072x256 ![] bcast_S_S3072x256 main_cst_0
  let main_v6 : IVec S3072x256 1 := cmpf .olt main_v4 main_v5
  let main_c_1 : IVec S_ 1 := constantI S_ 1 1#1
  let main_v7 : IVec S_ 1 := (fun x v => Host.reduce IntOp.andi x v reducesTo_S3072x256_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S2048x256 .f32 := Host.absf main_arg5
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_v13 main_v16
-- ==== Kernel.lean ====
abbrev S2x8192x256 : Shape := ⟨3, ![2, 8192, 256]⟩
abbrev S2x8192x512 : Shape := ⟨3, ![2, 8192, 512]⟩
abbrev S2x8192x16 : Shape := ⟨3, ![2, 8192, 16]⟩
abbrev S16x256 : Shape := ⟨2, ![16, 256]⟩
abbrev S256 : Shape := ⟨1, ![256]⟩
abbrev S128 : Shape := ⟨1, ![128]⟩
abbrev S_ : Shape := ⟨0, ![]⟩
abbrev S2x8192x128 : Shape := ⟨3, ![2, 8192, 128]⟩
abbrev S128x256 : Shape := ⟨2, ![128, 256]⟩
abbrev S1x256 : Shape := ⟨2, ![1, 256]⟩
abbrev S1x128 : Shape := ⟨2, ![1, 128]⟩
abbrev S1x256x512 : Shape := ⟨3, ![1, 256, 512]⟩
abbrev S1x256x128 : Shape := ⟨3, ![1, 256, 128]⟩
abbrev S272x256 : Shape := ⟨2, ![272, 256]⟩
abbrev S272x512 : Shape := ⟨2, ![272, 512]⟩
abbrev S4x128x64 : Shape := ⟨3, ![4, 128, 64]⟩
abbrev S16x512 : Shape := ⟨2, ![16, 512]⟩
abbrev S256x512 : Shape := ⟨2, ![256, 512]⟩
abbrev S256x256 : Shape := ⟨2, ![256, 256]⟩
abbrev S256x128 : Shape := ⟨2, ![256, 128]⟩
abbrev S256x1 : Shape := ⟨2, ![256, 1]⟩
abbrev S1x128x64 : Shape := ⟨3, ![1, 128, 64]⟩
abbrev S128x64 : Shape := ⟨2, ![128, 64]⟩
abbrev S16x64 : Shape := ⟨2, ![16, 64]⟩
abbrev S16x128 : Shape := ⟨2, ![16, 128]⟩
abbrev S1x64 : Shape := ⟨2, ![1, 64]⟩

abbrev nBuf : Space → Nat
  | .hbm => 19
  | .vmem => 17
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x512, .f32⟩
  | .hbm, ⟨3, _⟩ => ⟨S2x8192x512, .f32⟩
  | .hbm, ⟨4, _⟩ => ⟨S2x8192x16, .f32⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S2x8192x512, .f32⟩
  | .hbm, ⟨9, _⟩ => ⟨S_, .i32⟩
  | .hbm, ⟨10, _⟩ => ⟨S_, .f32⟩
  | .hbm, ⟨11, _⟩ => ⟨S2x8192x128, .f32⟩
  | .hbm, ⟨12, _⟩ => ⟨S_, .i32⟩
  | .hbm, ⟨13, _⟩ => ⟨S_, .f32⟩
  | .hbm, ⟨14, _⟩ => ⟨S128x256, .f32⟩
  | .hbm, ⟨15, _⟩ => ⟨S128x256, .bf16⟩
  | .hbm, ⟨16, _⟩ => ⟨S1x256, .f32⟩
  | .hbm, ⟨17, _⟩ => ⟨S1x128, .f32⟩
  | .hbm, ⟨18, _⟩ => ⟨S2x8192x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x128, .f32⟩
  | .local _ .vmem, ⟨7, _⟩ => ⟨S1x256x128, .f32⟩
  | .local _ .vmem, ⟨8, _⟩ => ⟨S128x256, .bf16⟩
  | .local _ .vmem, ⟨9, _⟩ => ⟨S1x256, .f32⟩
  | .local _ .vmem, ⟨10, _⟩ => ⟨S1x128, .f32⟩
  | .local _ .vmem, ⟨11, _⟩ => ⟨S1x256x512, .f32⟩
  | .local _ .vmem, ⟨12, _⟩ => ⟨S1x256x512, .f32⟩
  | .local _ .vmem, ⟨13, _⟩ => ⟨S272x256, .f32⟩
  | .local _ .vmem, ⟨14, _⟩ => ⟨S272x256, .f32⟩
  | .local _ .vmem, ⟨15, _⟩ => ⟨S272x512, .f32⟩
  | .local _ .vmem, ⟨16, _⟩ => ⟨S4x128x64, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x256 : Shape := ⟨3, ![2, 8192, 256]⟩
abbrev S2x8192x512 : Shape := ⟨3, ![2, 8192, 512]⟩
abbrev S2x8192x16 : Shape := ⟨3, ![2, 8192, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S2x512x16x4x64 : Shape := ⟨5, ![2, 512, 16, 4, 64]⟩
abbrev S2x4x512x16x64 : Shape := ⟨5, ![2, 4, 512, 16, 64]⟩
abbrev S2x512x16x4x128 : Shape := ⟨5, ![2, 512, 16, 4, 128]⟩
abbrev S2x4x512x16x128 : Shape := ⟨5, ![2, 4, 512, 16, 128]⟩
abbrev S16x16 : Shape := ⟨2, ![16, 16]⟩
abbrev S16x16x1 : Shape := ⟨3, ![16, 16, 1]⟩
abbrev S2x4x512x16x1x64 : Shape := ⟨6, ![2, 4, 512, 16, 1, 64]⟩
abbrev S2x4x512x1x16x64 : Shape := ⟨6, ![2, 4, 512, 1, 16, 64]⟩
abbrev S2x4x512x16x16x64 : Shape := ⟨6, ![2, 4, 512, 16, 16, 64]⟩
abbrev S2x4x512x16x16 : Shape := ⟨5, ![2, 4, 512, 16, 16]⟩
abbrev S2x4x512x1x64 : Shape := ⟨5, ![2, 4, 512, 1, 64]⟩
abbrev S2x4x512x64 : Shape := ⟨4, ![2, 4, 512, 64]⟩
abbrev S512x2x4x16x64 : Shape := ⟨5, ![512, 2, 4, 16, 64]⟩
abbrev S512x2x4x16x128 : Shape := ⟨5, ![512, 2, 4, 16, 128]⟩
abbrev S512x2x4x64 : Shape := ⟨4, ![512, 2, 4, 64]⟩
abbrev S2x4x64x128 : Shape := ⟨4, ![2, 4, 64, 128]⟩
abbrev S1x2x4x16x64 : Shape := ⟨5, ![1, 2, 4, 16, 64]⟩
abbrev S2x4x16x64 : Shape := ⟨4, ![2, 4, 16, 64]⟩
abbrev S1x2x4x16x128 : Shape := ⟨5, ![1, 2, 4, 16, 128]⟩
abbrev S2x4x16x128 : Shape := ⟨4, ![2, 4, 16, 128]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 182
  | .vmem => 0
  | .smem => 0
  | _ => 0

abbrev hbmTy0_0 (i : Nat) : BufTy := match i % 128 with
  | 0 => ⟨S2x8192x256, .f32⟩
  | 1 => ⟨S2x8192x256, .f32⟩
  | 2 => ⟨S2x8192x512, .f32⟩
  | 3 => ⟨S2x8192x512, .f32⟩
  | 4 => ⟨S2x8192x16, .f32⟩
  | 5 => ⟨S16x256, .f32⟩
  | 6 => ⟨S256, .f32⟩
  | 7 => ⟨S128, .f32⟩
  | 8 => ⟨S2x8192x256, .f32⟩
  | 9 => ⟨S1x1x256, .f32⟩
  | 10 => ⟨S2x8192x256, .f32⟩
  | 11 => ⟨S2x8192x256, .f32⟩
  | 12 => ⟨S2x8192x256, .f32⟩
  | 13 => ⟨S_, .f32⟩
  | 14 => ⟨S2x8192x256, .f32⟩
  | 15 => ⟨S2x8192x256, .f32⟩
  | 16 => ⟨S2x8192x256, .f32⟩
  | 17 => ⟨S2x8192x256, .f32⟩
  | 18 => ⟨S2x8192x256, .i1⟩
  | 19 => ⟨S2x8192x256, .f32⟩
  | 20 => ⟨S2x8192x256, .f32⟩
  | 21 => ⟨S2x8192x256, .f32⟩
  | 22 => ⟨S2x8192x256, .f32⟩
  | 23 => ⟨S2x8192x256, .f32⟩
  | 24 => ⟨S2x8192x256, .f32⟩
  | 25 => ⟨S2x8192x256, .f32⟩
  | 26 => ⟨S2x8192x256, .f32⟩
  | 27 => ⟨S2x8192x256, .f32⟩
  | 28 => ⟨S_, .f32⟩
  | 29 => ⟨S2x8192x256, .f32⟩
  | 30 => ⟨S2x8192x256, .f32⟩
  | 31 => ⟨S2x512x16x4x64, .f32⟩
  | 32 => ⟨S2x4x512x16x64, .f32⟩
  | 33 => ⟨S_, .f32⟩
  | 34 => ⟨S2x4x512x16x64, .f32⟩
  | 35 => ⟨S2x4x512x16x64, .f32⟩
  | 36 => ⟨S2x512x16x4x64, .f32⟩
  | 37 => ⟨S2x4x512x16x64, .f32⟩
  | 38 => ⟨S2x512x16x4x128, .f32⟩
  | 39 => ⟨S2x4x512x16x128, .f32⟩
  | 40 => ⟨S2x512x16x4x64, .f32⟩
  | 41 => ⟨S2x4x512x16x64, .f32⟩
  | 42 => ⟨S_, .f32⟩
  | 43 => ⟨S_, .f32⟩
  | 44 => ⟨S2x4x512x16x64, .f32⟩
  | 45 => ⟨S_, .i1⟩
  | 46 => ⟨S16x16, .i1⟩
  | 47 => ⟨S16x16, .i32⟩
  | 48 => ⟨S_, .i32⟩
  | 49 => ⟨S16x16, .i32⟩
  | 50 => ⟨S16x16, .i32⟩
  | 51 => ⟨S16x16, .i32⟩
  | 52 => ⟨S16x16, .i1⟩
  | 53 => ⟨S_, .i1⟩
  | 54 => ⟨S16x16, .i1⟩
  | 55 => ⟨S16x16, .i1⟩
  | 56 => ⟨S16x16x1, .i1⟩
  | 57 => ⟨S2x4x512x16x1x64, .f32⟩
  | 58 => ⟨S2x4x512x1x16x64, .f32⟩
  | 59 => ⟨S2x4x512x16x16x64, .f32⟩
  | 60 => ⟨S2x4x512x16x16x64, .f32⟩
  | 61 => ⟨S2x4x512x16x16x64, .f32⟩
  | 62 => ⟨S_, .f32⟩
  | 63 => ⟨S_, .f32⟩
  | 64 => ⟨S2x4x512x16x16x64, .i1⟩
  | 65 => ⟨S2x4x512x16x16x64, .f32⟩
  | 66 => ⟨S2x4x512x16x16x64, .f32⟩
  | 67 => ⟨S2x4x512x16x16x64, .f32⟩
  | 68 => ⟨S2x4x512x16x1x64, .f32⟩
  | 69 => ⟨S2x4x512x1x16x64, .f32⟩
  | 70 => ⟨S2x4x512x16x16x64, .f32⟩
  | 71 => ⟨S2x4x512x16x16x64, .f32⟩
  | 72 => ⟨S2x4x512x16x16x64, .f32⟩
  | 73 => ⟨S2x4x512x16x16x64, .f32⟩
  | 74 => ⟨S_, .f32⟩
  | 75 => ⟨S2x4x512x16x16, .f32⟩
  | 76 => ⟨S2x4x512x16x128, .f32⟩
  | 77 => ⟨S2x4x512x16x64, .f32⟩
  | 78 => ⟨S2x4x512x16x64, .f32⟩
  | 79 => ⟨S2x4x512x1x64, .f32⟩
  | 80 => ⟨S2x4x512x16x64, .f32⟩
  | 81 => ⟨S2x4x512x16x64, .f32⟩
  | 82 => ⟨S2x4x512x16x64, .f32⟩
  | 83 => ⟨S2x4x512x16x64, .f32⟩
  | 84 => ⟨S2x4x512x1x64, .f32⟩
  | 85 => ⟨S2x4x512x64, .f32⟩
  | 86 => ⟨S2x4x512x64, .f32⟩
  | 87 => ⟨S512x2x4x16x64, .f32⟩
  | 88 => ⟨S512x2x4x16x64, .f32⟩
  | 89 => ⟨S512x2x4x16x128, .f32⟩
  | 90 => ⟨S512x2x4x64, .f32⟩
  | 91 => ⟨S512x2x4x16x128, .f32⟩
  | 92 => ⟨S_, .f32⟩
  | 93 => ⟨S2x4x64x128, .f32⟩
  | 94 => ⟨S_, .f32⟩
  | 95 => ⟨S512x2x4x16x128, .f32⟩
  | 96 => ⟨S_, .i32⟩
  | 97 => ⟨S512x2x4x16x64, .f32⟩
  | 98 => ⟨S512x2x4x16x64, .f32⟩
  | 99 => ⟨S512x2x4x16x128, .f32⟩
  | 100 => ⟨S512x2x4x64, .f32⟩
  | 101 => ⟨S512x2x4x16x128, .f32⟩
  | 102 => ⟨S_, .i32⟩
  | 103 => ⟨S2x4x64x128, .f32⟩
  | 104 => ⟨S512x2x4x16x128, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x2x4x16x64, .f32⟩
  | 112 => ⟨S2x4x16x64, .f32⟩
  | 113 => ⟨S_, .i32⟩
  | 114 => ⟨S_, .i32⟩
  | 115 => ⟨S_, .i32⟩
  | 116 => ⟨S_, .i32⟩
  | 117 => ⟨S1x2x4x16x64, .f32⟩
  | 118 => ⟨S2x4x16x64, .f32⟩
  | 119 => ⟨S_, .i32⟩
  | 120 => ⟨S_, .i32⟩
  | 121 => ⟨S_, .i32⟩
  | 122 => ⟨S_, .i32⟩
  | 123 => ⟨S1x2x4x16x128, .f32⟩
  | 124 => ⟨S2x4x16x128, .f32⟩
  | 125 => ⟨S_, .i32⟩
  | 126 => ⟨S_, .i32⟩
  | 127 => ⟨S_, .i32⟩
  | _ => ⟨S2x8192x256, .f32⟩

abbrev hbmTy0_1 (i : Nat) : BufTy := match i % 128 with
  | 0 => ⟨S1x2x4x64, .f32⟩
  | 1 => ⟨S2x4x64, .f32⟩
  | 2 => ⟨S_, .i32⟩
  | 3 => ⟨S_, .i32⟩
  | 4 => ⟨S_, .i32⟩
  | 5 => ⟨S_, .i32⟩
  | 6 => ⟨S1x2x4x16x128, .f32⟩
  | 7 => ⟨S2x4x16x128, .f32⟩
  | 8 => ⟨S2x4x16x128, .f32⟩
  | 9 => ⟨S2x4x16x128, .f32⟩
  | 10 => ⟨S2x4x64x1, .f32⟩
  | 11 => ⟨S2x4x64x128, .f32⟩
  | 12 => ⟨S2x4x64x128, .f32⟩
  | 13 => ⟨S2x4x64x128, .f32⟩
  | 14 => ⟨S2x4x64x128, .f32⟩
  | 15 => ⟨S1x2x4x16x128, .f32⟩
  | 16 => ⟨S_, .i32⟩
  | 17 => ⟨S_, .i32⟩
  | 18 => ⟨S_, .i32⟩
  | 19 => ⟨S_, .i32⟩
  | 20 => ⟨S512x2x4x16x128, .f32⟩
  | 21 => ⟨S_, .i32⟩
  | 22 => ⟨S_, .i32⟩
  | 23 => ⟨S2x4x512x16x128, .f32⟩
  | 24 => ⟨S2x512x16x4x128, .f32⟩
  | 25 => ⟨S2x8192x4x128, .f32⟩
  | 26 => ⟨S2x8192x4x128, .f32⟩
  | 27 => ⟨S_, .f32⟩
  | 28 => ⟨S2x8192x4, .f32⟩
  | 29 => ⟨S2x8192x4x1, .f32⟩
  | 30 => ⟨S_, .f32⟩
  | 31 => ⟨S2x8192x4x1, .f32⟩
  | 32 => ⟨S2x8192x4x1, .f32⟩
  | 33 => ⟨S_, .f32⟩
  | 34 => ⟨S2x8192x4x1, .f32⟩
  | 35 => ⟨S2x8192x4x1, .f32⟩
  | 36 => ⟨S2x8192x4x1, .f32⟩
  | 37 => ⟨S2x8192x4x128, .f32⟩
  | 38 => ⟨S2x8192x4x128, .f32⟩
  | 39 => ⟨S1x1x1x128, .f32⟩
  | 40 => ⟨S2x8192x4x128, .f32⟩
  | 41 => ⟨S2x8192x4x128, .f32⟩
  | 42 => ⟨S2x8192x4x128, .f32⟩
  | 43 => ⟨S2x8192x4x128, .f32⟩
  | 44 => ⟨S2x8192x4x128, .f32⟩
  | 45 => ⟨S_, .f32⟩
  | 46 => ⟨S2x8192x4x128, .f32⟩
  | 47 => ⟨S2x8192x4x128, .f32⟩
  | 48 => ⟨S_, .f32⟩
  | 49 => ⟨S2x8192x4x128, .f32⟩
  | 50 => ⟨S2x8192x4x128, .f32⟩
  | 51 => ⟨S2x8192x4x128, .f32⟩
  | 52 => ⟨S2x8192x4x128, .f32⟩
  | 53 => ⟨S2x8192x512, .f32⟩
  | _ => ⟨S2x8192x256, .f32⟩

abbrev hbmTy (i : Nat) : BufTy := match i / 128 with
  | 0 => hbmTy0_0 i
  | 1 => hbmTy0_1 i
  | _ => ⟨S2x8192x256, .f32⟩

abbrev bufTy : (tb : Table) → Fin (tcTables nBuf tb) → BufTy
  | .hbm, ⟨i, _⟩ => hbmTy i
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call1_call0_cst : Ref sig .tc := ⟨.hbm, 42, rfl⟩
abbrev main_call1_call0_v0 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_0 : Ref sig .tc := ⟨.hbm, 53, rfl⟩
abbrev main_call2_v5 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_2 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_3 : Ref sig .tc := ⟨.hbm, 92, rfl⟩
abbrev main_v51 : Ref sig .tc := ⟨.hbm, 93, rfl⟩
abbrev main_cst_4 : Ref sig .tc := ⟨.hbm, 94, rfl⟩
abbrev main_v52 : Ref sig .tc := ⟨.hbm, 95, rfl⟩
abbrev main_c_5 : Ref sig .tc := ⟨.hbm, 96, rfl⟩
abbrev main_v53_0 : Ref sig .tc := ⟨.hbm, 97, rfl⟩
abbrev main_v53_1 : Ref sig .tc := ⟨.hbm, 98, rfl⟩
abbrev main_v53_2 : Ref sig .tc := ⟨.hbm, 99, rfl⟩
abbrev main_v53_3 : Ref sig .tc := ⟨.hbm, 100, rfl⟩
abbrev main_v53_4 : Ref sig .tc := ⟨.hbm, 101, rfl⟩
abbrev main_v53_5 : Ref sig .tc := ⟨.hbm, 102, rfl⟩
abbrev main_v53_6 : Ref sig .tc := ⟨.hbm, 103, rfl⟩
abbrev main_v53_7 : Ref sig .tc := ⟨.hbm, 104, rfl⟩
abbrev main_while0c_c_16 : Ref sig .tc := ⟨.hbm, 105, rfl⟩
abbrev main_while0c_v74 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v74 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v75 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_c_2 : Ref sig .tc := ⟨.hbm, 122, rfl⟩
abbrev main_while0b_call6_v0 : Ref sig .tc := ⟨.hbm, 123, rfl⟩
abbrev main_while0b_v76 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_call7_c_1 : Ref sig .tc := ⟨.hbm, 127, rfl⟩
abbrev main_while0b_call7_v0 : Ref sig .tc := ⟨.hbm, 128, rfl⟩
abbrev main_while0b_v77 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_call8_v0 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_v82 : Ref sig .tc := ⟨.hbm, 139, rfl⟩
abbrev main_while0b_v83 : Ref sig .tc := ⟨.hbm, 140, rfl⟩
abbrev main_while0b_v84 : Ref sig .tc := ⟨.hbm, 141, rfl⟩
abbrev main_while0b_v85 : Ref sig .tc := ⟨.hbm, 142, rfl⟩
abbrev main_while0b_call9_v0 : Ref sig .tc := ⟨.hbm, 143, rfl⟩
abbrev main_while0b_call9_c : Ref sig .tc := ⟨.hbm, 144, rfl⟩
abbrev main_while0b_call9_c_0 : Ref sig .tc := ⟨.hbm, 145, rfl⟩
abbrev main_while0b_call9_c_1 : Ref sig .tc := ⟨.hbm, 146, rfl⟩
abbrev main_while0b_call9_c_2 : Ref sig .tc := ⟨.hbm, 147, rfl⟩
abbrev main_while0b_v86 : Ref sig .tc := ⟨.hbm, 148, rfl⟩
abbrev main_while0b_c_16 : Ref sig .tc := ⟨.hbm, 149, rfl⟩
abbrev main_while0b_v87 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_cst_6 : Ref sig .tc := ⟨.hbm, 155, rfl⟩
abbrev main_v58 : Ref sig .tc := ⟨.hbm, 156, rfl⟩
abbrev main_v59 : Ref sig .tc := ⟨.hbm, 157, rfl⟩
abbrev main_cst_7 : Ref sig .tc := ⟨.hbm, 158, rfl⟩
abbrev main_v60 : Ref sig .tc := ⟨.hbm, 159, rfl⟩
abbrev main_v61 : Ref sig .tc := ⟨.hbm, 160, rfl⟩
abbrev main_cst_8 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_call10_v0 : Ref sig .tc := ⟨.hbm, 171, rfl⟩
abbrev main_call10_v1 : Ref sig .tc := ⟨.hbm, 172, rfl⟩
abbrev main_call10_cst : Ref sig .tc := ⟨.hbm, 173, rfl⟩
abbrev main_call10_v2 : Ref sig .tc := ⟨.hbm, 174, rfl⟩
abbrev main_call10_v3 : Ref sig .tc := ⟨.hbm, 175, rfl⟩
abbrev main_call10_cst_0 : Ref sig .tc := ⟨.hbm, 176, rfl⟩
abbrev main_call10_v4 : Ref sig .tc := ⟨.hbm, 177, rfl⟩
abbrev main_call10_v5 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x5632, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S_, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S2x8192x3072 : Shape := ⟨3, ![2, 8192, 3072]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S16384x8x64 : Shape := ⟨3, ![16384, 8, 64]⟩
abbrev S_ : Shape := ⟨0, ![]⟩
abbrev S16384x8x128 : Shape := ⟨3, ![16384, 8, 128]⟩
abbrev S8x64x1024 : Shape := ⟨3, ![8, 64, 1024]⟩
abbrev S8x128x1024 : Shape := ⟨3, ![8, 128, 1024]⟩
abbrev S16384x512 : Shape := ⟨2, ![16384, 512]⟩
abbrev S16384x3072 : Shape := ⟨2, ![16384, 3072]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 31
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S16384x8x64, .f32⟩
  | .hbm, ⟨12, _⟩ => ⟨S_, .i32⟩
  | .hbm, ⟨13, _⟩ => ⟨S_, .f32⟩
  | .hbm, ⟨14, _⟩ => ⟨S16384x8x128, .f32⟩
  | .hbm, ⟨15, _⟩ => ⟨S16384x1024, .f32⟩
  | .hbm, ⟨16, _⟩ => ⟨S8x64x1024, .f32⟩
  | .hbm, ⟨17, _⟩ => ⟨S_, .i32⟩
  | .hbm, ⟨18, _⟩ => ⟨S_, .f32⟩
  | .hbm, ⟨19, _⟩ => ⟨S8x128x1024, .f32⟩
  | .hbm, ⟨20, _⟩ => ⟨S1024x1024, .f32⟩
  | .hbm, ⟨21, _⟩ => ⟨S16384x512, .f32⟩
  | .hbm, ⟨22, _⟩ => ⟨S16384x512, .f32⟩
  | .hbm, ⟨23, _⟩ => ⟨S16384x3072, .f32⟩
  | .hbm, ⟨24, _⟩ => ⟨S16384x3072, .bf16⟩
  | .hbm, ⟨25, _⟩ => ⟨S512x1024, .bf16⟩
  | .hbm, ⟨26, _⟩ => ⟨S1024x1024, .bf16⟩
  | .hbm, ⟨27, _⟩ => ⟨S512x1024, .bf16⟩
  | .hbm, ⟨28, _⟩ => ⟨S1024x1024, .bf16⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x8192x1024 : Shape := ⟨3, ![2, 8192, 1024]⟩
abbrev S2x8192x512 : Shape := ⟨3, ![2, 8192, 512]⟩
abbrev S2x8192x3072 : Shape := ⟨3, ![2, 8192, 3072]⟩
abbrev S512x1024 : Shape := ⟨2, ![512, 1024]⟩
abbrev S1024x1024 : Shape := ⟨2, ![1024, 1024]⟩
abbrev S1024 : Shape := ⟨1, ![1024]⟩
abbrev S2x8192x3x1024 : Shape := ⟨4, ![2, 8192, 3, 1024]⟩
abbrev S2x8192x1x1024 : Shape := ⟨4, ![2, 8192, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S2x8192x3x1024, .f32⟩
  | .hbm, ⟨11, _⟩ => ⟨S2x8192x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x8432 : Shape := ⟨2, ![1024, 8432]⟩
abbrev S1024x512 : Shape := ⟨2, ![1024, 512]⟩
abbrev S1024x4 : Shape := ⟨2, ![1024, 4]⟩
abbrev S1024x768 : Shape := ⟨2, ![1024, 768]⟩
abbrev S1024x320 : Shape := ⟨2, ![1024, 320]⟩
abbrev S1024x24 : Shape := ⟨2, ![1024, 24]⟩
abbrev S1024x256 : Shape := ⟨2, ![1024, 256]⟩
abbrev S1024x16 : Shape := ⟨2, ![1024, 16]⟩
abbrev S1024x3072 : Shape := ⟨2, ![1024, 3072]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x8x96 : Shape := ⟨3, ![1024, 8, 96]⟩
abbrev S1024x8x128 : Shape := ⟨3, ![1024, 8, 128]⟩
abbrev S1024x2x160 : Shape := ⟨3, ![1024, 2, 160]⟩
abbrev S1024x2x96 : Shape := ⟨3, ![1024, 2, 96]⟩
abbrev S1024x2x128 : Shape := ⟨3, ![1024, 2, 128]⟩
abbrev S1024x2x64 : Shape := ⟨3, ![1024, 2, 64]⟩
abbrev S1024x1024 : Shape := ⟨2, ![1024, 1024]⟩
abbrev S16384x1024 : Shape := ⟨2, ![16384, 1024]⟩
abbrev S1024x3840 : Shape := ⟨2, ![1024, 3840]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 70
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8432, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x768, .f32⟩
  | .hbm, ⟨10, _⟩ => ⟨S1024x320, .f32⟩
  | .hbm, ⟨11, _⟩ => ⟨S1024x320, .f32⟩
  | .hbm, ⟨12, _⟩ => ⟨S1024x320, .f32⟩
  | .hbm, ⟨13, _⟩ => ⟨S1024x24, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .f32⟩
  | .hbm, ⟨18, _⟩ => ⟨S1024x16, .f32⟩
  | .hbm, ⟨19, _⟩ => ⟨S1024x3072, .f32⟩
  | .hbm, ⟨20, _⟩ => ⟨S1024x1536, .f32⟩
  | .hbm, ⟨21, _⟩ => ⟨S1024x8, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x512, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x8x96, .f32⟩
  | .hbm, ⟨30, _⟩ => ⟨S_, .i32⟩
  | .hbm, ⟨31, _⟩ => ⟨S_, .f32⟩
  | .hbm, ⟨32, _⟩ => ⟨S1024x8x128, .f32⟩
  | .hbm, ⟨33, _⟩ => ⟨S1024x2x160, .f32⟩
  | .hbm, ⟨34, _⟩ => ⟨S1024x2x96, .f32⟩
  | .hbm, ⟨35, _⟩ => ⟨S_, .i32⟩
  | .hbm, ⟨36, _⟩ => ⟨S_, .f32⟩
  | .hbm, ⟨37, _⟩ => ⟨S1024x2x128, .f32⟩
  | .hbm, ⟨38, _⟩ => ⟨S1024x256, .f32⟩
  | .hbm, ⟨39, _⟩ => ⟨S1024x2x64, .f32⟩
  | .hbm, ⟨40, _⟩ => ⟨S_, .i32⟩
  | .hbm, ⟨41, _⟩ => ⟨S_, .f32⟩
  | .hbm, ⟨42, _⟩ => ⟨S1024x2x128, .f32⟩
  | .hbm, ⟨43, _⟩ => ⟨S1024x256, .f32⟩
  | .hbm, ⟨44, _⟩ => ⟨S1024x2x160, .f32⟩
  | .hbm, ⟨45, _⟩ => ⟨S1024x2x96, .f32⟩
  | .hbm, ⟨46, _⟩ => ⟨S_, .i32⟩
  | .hbm, ⟨47, _⟩ => ⟨S_, .f32⟩
  | .hbm, ⟨48, _⟩ => ⟨S1024x2x128, .f32⟩
  | .hbm, ⟨49, _⟩ => ⟨S1024x256, .f32⟩
  | .hbm, ⟨50, _⟩ => ⟨S1024x2x64, .f32⟩
  | .hbm, ⟨51, _⟩ => ⟨S_, .i32⟩
  | .hbm, ⟨52, _⟩ => ⟨S_, .f32⟩
  | .hbm, ⟨53, _⟩ => ⟨S1024x2x128, .f32⟩
  | .hbm, ⟨54, _⟩ => ⟨S1024x256, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x1024, .f32⟩
  | .hbm, ⟨59, _⟩ => ⟨S16384x1024, .f32⟩
  | .hbm, ⟨60, _⟩ => ⟨S1024x3840, .f32⟩
  | .hbm, ⟨61, _⟩ => ⟨S1024x3840, .bf16⟩
  | .hbm, ⟨62, _⟩ => ⟨S1x1024, .f32⟩
  | .hbm, ⟨63, _⟩ => ⟨S16384x1536, .f32⟩
  | .hbm, ⟨64, _⟩ => ⟨S16384x512, .f32⟩
  | .hbm, ⟨65, _⟩ => ⟨S16384x128, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_call0_v0 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_call2_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call3_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_call4_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_call5_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_call6_v0 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_call7_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v44_2 : Ref sig .tc := ⟨.hbm, 65, rfl⟩
abbrev main_v44_3 : Ref sig .tc := ⟨.hbm, 66, rfl⟩
abbrev main_v44_4 : Ref sig .tc := ⟨.hbm, 67, rfl⟩
abbrev main_v44_5 : Ref sig .tc := ⟨.hbm, 68, rfl⟩
abbrev main_v44_6 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S2x8192x1024 : Shape := ⟨3, ![2, 8192, 1024]⟩
abbrev S1024 : Shape := ⟨1, ![1024]⟩
abbrev S1024x8432 : Shape := ⟨2, ![1024, 8432]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x8432 : Shape := ⟨3, ![2, 8192, 8432]⟩
abbrev S16384x8432 : Shape := ⟨2, ![16384, 8432]⟩
abbrev S16384x1536 : Shape := ⟨2, ![16384, 1536]⟩
abbrev S16384x512 : Shape := ⟨2, ![16384, 512]⟩
abbrev S16384x8 : Shape := ⟨2, ![16384, 8]⟩
abbrev S16384x16 : Shape := ⟨2, ![16384, 16]⟩
abbrev S16384x120 : Shape := ⟨2, ![16384, 120]⟩
abbrev S16384x128 : Shape := ⟨2, ![16384, 128]⟩
abbrev S16384x112 : Shape := ⟨2, ![16384, 112]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8432, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x8432, .f32⟩
  | .hbm, ⟨20, _⟩ => ⟨S16384x8432, .f32⟩
  | .hbm, ⟨21, _⟩ => ⟨S16384x1536, .f32⟩
  | .hbm, ⟨22, _⟩ => ⟨S16384x512, .f32⟩
  | .hbm, ⟨23, _⟩ => ⟨S16384x8, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x16, .f32⟩
  | .hbm, ⟨28, _⟩ => ⟨S_, .f32⟩
  | .hbm, ⟨29, _⟩ => ⟨S16384x120, .f32⟩
  | .hbm, ⟨30, _⟩ => ⟨S16384x128, .f32⟩
  | .hbm, ⟨31, _⟩ => ⟨S_, .f32⟩
  | .hbm, ⟨32, _⟩ => ⟨S16384x112, .f32⟩
  | .hbm, ⟨33, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x8432 : Shape := ⟨2, ![1024, 8432]⟩
abbrev S1024x512 : Shape := ⟨2, ![1024, 512]⟩
abbrev S1024x4 : Shape := ⟨2, ![1024, 4]⟩
abbrev S1024x768 : Shape := ⟨2, ![1024, 768]⟩
abbrev S1024x320 : Shape := ⟨2, ![1024, 320]⟩
abbrev S1024x24 : Shape := ⟨2, ![1024, 24]⟩
abbrev S1024x256 : Shape := ⟨2, ![1024, 256]⟩
abbrev S1024x16 : Shape := ⟨2, ![1024, 16]⟩
abbrev S1024x3072 : Shape := ⟨2, ![1024, 3072]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x8x96 : Shape := ⟨3, ![1024, 8, 96]⟩
abbrev S1024x8x128 : Shape := ⟨3, ![1024, 8, 128]⟩
abbrev S1024x2x160 : Shape := ⟨3, ![1024, 2, 160]⟩
abbrev S1024x2x96 : Shape := ⟨3, ![1024, 2, 96]⟩
abbrev S1024x2x128 : Shape := ⟨3, ![1024, 2, 128]⟩
abbrev S1024x2x64 : Shape := ⟨3, ![1024, 2, 64]⟩
abbrev S1024x1024 : Shape := ⟨2, ![1024, 1024]⟩
abbrev S16384x1024 : Shape := ⟨2, ![16384, 1024]⟩
abbrev S1024x64 : Shape := ⟨2, ![1024, 64]⟩
abbrev S1024x5632 : Shape := ⟨2, ![1024, 5632]⟩
abbrev S1x1024 : Shape := ⟨2, ![1, 1024]⟩
abbrev S16384x320 : Shape := ⟨2, ![16384, 320]⟩
abbrev S16384x256 : Shape := ⟨2, ![16384, 256]⟩
abbrev S16384x128 : Shape := ⟨2, ![16384, 128]⟩
abbrev S16384x3072 : Shape := ⟨2, ![16384, 3072]⟩
abbrev S512x1024 : Shape := ⟨2, ![512, 1024]⟩
abbrev S512x320 : Shape := ⟨2, ![512, 320]⟩
abbrev S512x256 : Shape := ⟨2, ![512, 256]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 73
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8432, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x768, .f32⟩
  | .hbm, ⟨10, _⟩ => ⟨S1024x320, .f32⟩
  | .hbm, ⟨11, _⟩ => ⟨S1024x320, .f32⟩
  | .hbm, ⟨12, _⟩ => ⟨S1024x320, .f32⟩
  | .hbm, ⟨13, _⟩ => ⟨S1024x24, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .f32⟩
  | .hbm, ⟨18, _⟩ => ⟨S1024x16, .f32⟩
  | .hbm, ⟨19, _⟩ => ⟨S1024x3072, .f32⟩
  | .hbm, ⟨20, _⟩ => ⟨S1024x1536, .f32⟩
  | .hbm, ⟨21, _⟩ => ⟨S1024x8, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x512, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x8x96, .f32⟩
  | .hbm, ⟨30, _⟩ => ⟨S_, .i32⟩
  | .hbm, ⟨31, _⟩ => ⟨S_, .f32⟩
  | .hbm, ⟨32, _⟩ => ⟨S1024x8x128, .f32⟩
  | .hbm, ⟨33, _⟩ => ⟨S1024x2x160, .f32⟩
  | .hbm, ⟨34, _⟩ => ⟨S1024x2x96, .f32⟩
  | .hbm, ⟨35, _⟩ => ⟨S_, .i32⟩
  | .hbm, ⟨36, _⟩ => ⟨S_, .f32⟩
  | .hbm, ⟨37, _⟩ => ⟨S1024x2x128, .f32⟩
  | .hbm, ⟨38, _⟩ => ⟨S1024x256, .f32⟩
  | .hbm, ⟨39, _⟩ => ⟨S1024x2x64, .f32⟩
  | .hbm, ⟨40, _⟩ => ⟨S_, .i32⟩
  | .hbm, ⟨41, _⟩ => ⟨S_, .f32⟩
  | .hbm, ⟨42, _⟩ => ⟨S1024x2x128, .f32⟩
  | .hbm, ⟨43, _⟩ => ⟨S1024x256, .f32⟩
  | .hbm, ⟨44, _⟩ => ⟨S1024x2x160, .f32⟩
  | .hbm, ⟨45, _⟩ => ⟨S1024x2x96, .f32⟩
  | .hbm, ⟨46, _⟩ => ⟨S_, .i32⟩
  | .hbm, ⟨47, _⟩ => ⟨S_, .f32⟩
  | .hbm, ⟨48, _⟩ => ⟨S1024x2x128, .f32⟩
  | .hbm, ⟨49, _⟩ => ⟨S1024x256, .f32⟩
  | .hbm, ⟨50, _⟩ => ⟨S1024x2x64, .f32⟩
  | .hbm, ⟨51, _⟩ => ⟨S_, .i32⟩
  | .hbm, ⟨52, _⟩ => ⟨S_, .f32⟩
  | .hbm, ⟨53, _⟩ => ⟨S1024x2x128, .f32⟩
  | .hbm, ⟨54, _⟩ => ⟨S1024x256, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x1024, .f32⟩
  | .hbm, ⟨59, _⟩ => ⟨S16384x1024, .f32⟩
  | .hbm, ⟨60, _⟩ => ⟨S_, .f32⟩
  | .hbm, ⟨61, _⟩ => ⟨S1024x64, .f32⟩
  | .hbm, ⟨62, _⟩ => ⟨S1024x5632, .f32⟩
  | .hbm, ⟨63, _⟩ => ⟨S1024x5632, .bf16⟩
  | .hbm, ⟨64, _⟩ => ⟨S1x1024, .f32⟩
  | .hbm, ⟨65, _⟩ => ⟨S16384x1024, .bf16⟩
  | .hbm, ⟨66, _⟩ => ⟨S16384x320, .bf16⟩
  | .hbm, ⟨67, _⟩ => ⟨S16384x256, .bf16⟩
  | .hbm, ⟨68, _⟩ => ⟨S16384x256, .bf16⟩
  | .hbm, ⟨69, _⟩ => ⟨S16384x256, .bf16⟩
  | .hbm, ⟨70, _⟩ => ⟨S16384x256, .bf16⟩
  | .hbm, ⟨71, _⟩ => ⟨S16384x128, .f32⟩
  | .hbm, ⟨72, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1024, .bf16⟩
  | .local _ .vmem, ⟨5, _⟩ => ⟨S512x1024, .bf16⟩
  | .local _ .vmem, ⟨6, _⟩ => ⟨S512x320, .bf16⟩
  | .local _ .vmem, ⟨7, _⟩ => ⟨S512x320, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x3072, .bf16⟩
  | .local _ .vmem, ⟨19, _⟩ => ⟨S512x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_call0_v0 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_call1_v0 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_call2_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call3_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_call4_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_call5_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_call6_v0 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_call7_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_v45_2 : Ref sig .tc := ⟨.hbm, 67, rfl⟩
abbrev main_v45_3 : Ref sig .tc := ⟨.hbm, 68, rfl⟩
abbrev main_v45_4 : Ref sig .tc := ⟨.hbm, 69, rfl⟩
abbrev main_v45_5 : Ref sig .tc := ⟨.hbm, 70, rfl⟩
abbrev main_v45_6 : Ref sig .tc := ⟨.hbm, 71, rfl⟩
abbrev main_v45_7 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x320 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "inv_sqrt_d" => some (((Real.sqrt 96)⁻¹ : ℝ) : EReal)
  | _ => none
-- ==== Reference5Ideal.lean ====
abbrev S2x8192x1024 : Shape := ⟨3, ![2, 8192, 1024]⟩
abbrev S1024 : Shape := ⟨1, ![1024]⟩
abbrev S1024x8432 : Shape := ⟨2, ![1024, 8432]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x8432 : Shape := ⟨3, ![2, 8192, 8432]⟩
abbrev S16384x8432 : Shape := ⟨2, ![16384, 8432]⟩
abbrev S16384x768 : Shape := ⟨2, ![16384, 768]⟩
abbrev S16384x320 : Shape := ⟨2, ![16384, 320]⟩
abbrev S16384x2x160 : Shape := ⟨3, ![16384, 2, 160]⟩
abbrev S16384x2x96 : Shape := ⟨3, ![16384, 2, 96]⟩
abbrev S16384x192 : Shape := ⟨2, ![16384, 192]⟩
abbrev S16384x2x64 : Shape := ⟨3, ![16384, 2, 64]⟩
abbrev S16384x128 : Shape := ⟨2, ![16384, 128]⟩
abbrev S16384x24 : Shape := ⟨2, ![16384, 24]⟩
abbrev S16384x104 : Shape := ⟨2, ![16384, 104]⟩
abbrev S16384x8x96 : Shape := ⟨3, ![16384, 8, 96]⟩
abbrev S16384x8x32 : Shape := ⟨3, ![16384, 8, 32]⟩
abbrev S16384x8x128 : Shape := ⟨3, ![16384, 8, 128]⟩
abbrev S16384x1024 : Shape := ⟨2, ![16384, 1024]⟩
abbrev S16384x2x32 : Shape := ⟨3, ![16384, 2, 32]⟩
abbrev S16384x2x128 : Shape := ⟨3, ![16384, 2, 128]⟩
abbrev S16384x256 : Shape := ⟨2, ![16384, 256]⟩
abbrev S16384x3072 : Shape := ⟨2, ![16384, 3072]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8432, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x8432, .f32⟩
  | .hbm, ⟨20, _⟩ => ⟨S16384x8432, .f32⟩
  | .hbm, ⟨21, _⟩ => ⟨S16384x768, .f32⟩
  | .hbm, ⟨22, _⟩ => ⟨S_, .f32⟩
  | .hbm, ⟨23, _⟩ => ⟨S_, .f32⟩
  | .hbm, ⟨24, _⟩ => ⟨S16384x768, .f32⟩
  | .hbm, ⟨25, _⟩ => ⟨S16384x768, .f32⟩
  | .hbm, ⟨26, _⟩ => ⟨S16384x320, .f32⟩
  | .hbm, ⟨27, _⟩ => ⟨S16384x320, .f32⟩
  | .hbm, ⟨28, _⟩ => ⟨S16384x2x160, .f32⟩
  | .hbm, ⟨29, _⟩ => ⟨S16384x2x96, .f32⟩
  | .hbm, ⟨30, _⟩ => ⟨S16384x192, .f32⟩
  | .hbm, ⟨31, _⟩ => ⟨S16384x2x64, .f32⟩
  | .hbm, ⟨32, _⟩ => ⟨S16384x128, .f32⟩
  | .hbm, ⟨33, _⟩ => ⟨S16384x320, .f32⟩
  | .hbm, ⟨34, _⟩ => ⟨S16384x2x160, .f32⟩
  | .hbm, ⟨35, _⟩ => ⟨S16384x2x96, .f32⟩
  | .hbm, ⟨36, _⟩ => ⟨S16384x192, .f32⟩
  | .hbm, ⟨37, _⟩ => ⟨S16384x2x64, .f32⟩
  | .hbm, ⟨38, _⟩ => ⟨S16384x128, .f32⟩
  | .hbm, ⟨39, _⟩ => ⟨S16384x24, .f32⟩
  | .hbm, ⟨40, _⟩ => ⟨S_, .f32⟩
  | .hbm, ⟨41, _⟩ => ⟨S16384x104, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S16384x128, .f32⟩
  | .hbm, ⟨47, _⟩ => ⟨S16384x128, .f32⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S16384x8x96, .f32⟩
  | .hbm, ⟨52, _⟩ => ⟨S_, .f32⟩
  | .hbm, ⟨53, _⟩ => ⟨S16384x8x32, .f32⟩
  | .hbm, ⟨54, _⟩ => ⟨S16384x8x128, .f32⟩
  | .hbm, ⟨55, _⟩ => ⟨S16384x1024, .f32⟩
  | .hbm, ⟨56, _⟩ => ⟨S16384x1024, .bf16⟩
  | .hbm, ⟨57, _⟩ => ⟨S16384x320, .bf16⟩
  | .hbm, ⟨58, _⟩ => ⟨S16384x2x96, .f32⟩
  | .hbm, ⟨59, _⟩ => ⟨S_, .f32⟩
  | .hbm, ⟨60, _⟩ => ⟨S16384x2x32, .f32⟩
  | .hbm, ⟨61, _⟩ => ⟨S16384x2x128, .f32⟩
  | .hbm, ⟨62, _⟩ => ⟨S16384x256, .f32⟩
  | .hbm, ⟨63, _⟩ => ⟨S16384x256, .bf16⟩
  | .hbm, ⟨64, _⟩ => ⟨S16384x2x64, .f32⟩
  | .hbm, ⟨65, _⟩ => ⟨S_, .f32⟩
  | .hbm, ⟨66, _⟩ => ⟨S16384x2x64, .f32⟩
  | .hbm, ⟨67, _⟩ => ⟨S16384x2x128, .f32⟩
  | .hbm, ⟨68, _⟩ => ⟨S16384x256, .f32⟩
  | .hbm, ⟨69, _⟩ => ⟨S16384x256, .bf16⟩
  | .hbm, ⟨70, _⟩ => ⟨S16384x2x96, .f32⟩
  | .hbm, ⟨71, _⟩ => ⟨S_, .f32⟩
  | .hbm, ⟨72, _⟩ => ⟨S16384x2x32, .f32⟩
  | .hbm, ⟨73, _⟩ => ⟨S16384x2x128, .f32⟩
  | .hbm, ⟨74, _⟩ => ⟨S16384x256, .f32⟩
  | .hbm, ⟨75, _⟩ => ⟨S16384x256, .bf16⟩
  | .hbm, ⟨76, _⟩ => ⟨S16384x2x64, .f32⟩
  | .hbm, ⟨77, _⟩ => ⟨S_, .f32⟩
  | .hbm, ⟨78, _⟩ => ⟨S16384x2x64, .f32⟩
  | .hbm, ⟨79, _⟩ => ⟨S16384x2x128, .f32⟩
  | .hbm, ⟨80, _⟩ => ⟨S16384x256, .f32⟩
  | .hbm, ⟨81, _⟩ => ⟨S16384x256, .bf16⟩
  | .hbm, ⟨82, _⟩ => ⟨S16384x3072, .f32⟩
  | .hbm, ⟨83, _⟩ => ⟨S16384x3072, .f32⟩
  | .hbm, ⟨84, _⟩ => ⟨S16384x3072, .f32⟩
  | .hbm, ⟨85, _⟩ => ⟨S_, .f32⟩
  | .hbm, ⟨86, _⟩ => ⟨S16384x3072, .f32⟩
  | .hbm, ⟨87, _⟩ => ⟨S16384x3072, .f32⟩
  | .hbm, ⟨88, _⟩ => ⟨S_, .f32⟩
  | .hbm, ⟨89, _⟩ => ⟨S16384x3072, .f32⟩
  | .hbm, ⟨90, _⟩ => ⟨S16384x3072, .f32⟩
  | .hbm, ⟨91, _⟩ => ⟨S16384x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_v71 : Ref sig .tc := ⟨.hbm, 87, rfl⟩
abbrev main_cst_12 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel6.lean ====
abbrev S2x8192x320 : Shape := ⟨3, ![2, 8192, 320]⟩
abbrev S32x96 : Shape := ⟨2, ![32, 96]⟩
abbrev S3072x256 : Shape := ⟨2, ![3072, 256]⟩
abbrev S256x96 : Shape := ⟨2, ![256, 96]⟩
abbrev S32x64 : Shape := ⟨2, ![32, 64]⟩
abbrev S2048x256 : Shape := ⟨2, ![2048, 256]⟩
abbrev S256x64 : Shape := ⟨2, ![256, 64]⟩
abbrev S2x2x4 : Shape := ⟨3, ![2, 2, 4]⟩
abbrev S2x2x1x4x1 : Shape := ⟨5, ![2, 2, 1, 4, 1]⟩
abbrev S2x2 : Shape := ⟨2, ![2, 2]⟩
abbrev S1x2x1x2x1 : Shape := ⟨5, ![1, 2, 1, 2, 1]⟩
abbrev S32x96x256 : Shape := ⟨3, ![32, 96, 256]⟩
abbrev S32x64x256 : Shape := ⟨3, ![32, 64, 256]⟩
abbrev S_ : Shape := ⟨0, ![]⟩
abbrev S256x128 : Shape := ⟨2, ![256, 128]⟩
abbrev S1x256x128 : Shape := ⟨3, ![1, 256, 128]⟩
abbrev S2x256x128 : Shape := ⟨3, ![2, 256, 128]⟩
abbrev S1x2x256x1x128 : Shape := ⟨5, ![1, 2, 256, 1, 128]⟩
abbrev S2x2x256x4x128 : Shape := ⟨5, ![2, 2, 256, 4, 128]⟩
abbrev S1024x512 : Shape := ⟨2, ![1024, 512]⟩
abbrev S16x96x256 : Shape := ⟨3, ![16, 96, 256]⟩
abbrev S16x96x512 : Shape := ⟨3, ![16, 96, 512]⟩
abbrev S16x64x256 : Shape := ⟨3, ![16, 64, 256]⟩
abbrev S16x64x512 : Shape := ⟨3, ![16, 64, 512]⟩
abbrev S16x160x512 : Shape := ⟨3, ![16, 160, 512]⟩
abbrev S16x1x160x1x512 : Shape := ⟨5, ![16, 1, 160, 1, 512]⟩
abbrev S16x2x160x2x512 : Shape := ⟨5, ![16, 2, 160, 2, 512]⟩
abbrev S5120x1024 : Shape := ⟨2, ![5120, 1024]⟩
abbrev S1x3072 : Shape := ⟨2, ![1, 3072]⟩
abbrev S8x3072 : Shape := ⟨2, ![8, 3072]⟩
abbrev S1x2048 : Shape := ⟨2, ![1, 2048]⟩
abbrev S8x2048 : Shape := ⟨2, ![8, 2048]⟩
abbrev S16384x320 : Shape := ⟨2, ![16384, 320]⟩
abbrev S2x512x5120 : Shape := ⟨3, ![2, 512, 5120]⟩
abbrev S2x512x256 : Shape := ⟨3, ![2, 512, 256]⟩
abbrev S1x512x5120 : Shape := ⟨3, ![1, 512, 5120]⟩
abbrev S1x512x256 : Shape := ⟨3, ![1, 512, 256]⟩
abbrev S512x5120 : Shape := ⟨2, ![512, 5120]⟩
abbrev S512x1024 : Shape := ⟨2, ![512, 1024]⟩
abbrev S8x256 : Shape := ⟨2, ![8, 256]⟩
abbrev S1x256 : Shape := ⟨2, ![1, 256]⟩
abbrev S1x1024 : Shape := ⟨2, ![1, 1024]⟩
abbrev S512x512 : Shape := ⟨2, ![512, 512]⟩
abbrev S512x256 : Shape := ⟨2, ![512, 256]⟩

abbrev nBuf : Space → Nat
  | .hbm => 79
  | .vmem => 13
  | .smem => 0
  | _ => 0

abbrev bufTy : (tb : Table) → Fin (tcTables nBuf tb) → BufTy
  | .hbm, ⟨0, _⟩ => ⟨S2x8192x320, .f32⟩
  | .hbm, ⟨1, _⟩ => ⟨S32x96, .f32⟩
  | .hbm, ⟨2, _⟩ => ⟨S3072x256, .f32⟩
  | .hbm, ⟨3, _⟩ => ⟨S256x96, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S2x2x4, .f32⟩
  | .hbm, ⟨8, _⟩ => ⟨S2x2x1x4x1, .f32⟩
  | .hbm, ⟨9, _⟩ => ⟨S2x2, .f32⟩
  | .hbm, ⟨10, _⟩ => ⟨S1x2x1x2x1, .f32⟩
  | .hbm, ⟨11, _⟩ => ⟨S2x2, .f32⟩
  | .hbm, ⟨12, _⟩ => ⟨S1x2x1x2x1, .f32⟩
  | .hbm, ⟨13, _⟩ => ⟨S32x96x256, .f32⟩
  | .hbm, ⟨14, _⟩ => ⟨S32x64x256, .f32⟩
  | .hbm, ⟨15, _⟩ => ⟨S_, .i32⟩
  | .hbm, ⟨16, _⟩ => ⟨S_, .f32⟩
  | .hbm, ⟨17, _⟩ => ⟨S256x128, .f32⟩
  | .hbm, ⟨18, _⟩ => ⟨S_, .i32⟩
  | .hbm, ⟨19, _⟩ => ⟨S_, .f32⟩
  | .hbm, ⟨20, _⟩ => ⟨S256x128, .f32⟩
  | .hbm, ⟨21, _⟩ => ⟨S1x256x128, .f32⟩
  | .hbm, ⟨22, _⟩ => ⟨S1x256x128, .f32⟩
  | .hbm, ⟨23, _⟩ => ⟨S2x256x128, .f32⟩
  | .hbm, ⟨24, _⟩ => ⟨S1x2x256x1x128, .f32⟩
  | .hbm, ⟨25, _⟩ => ⟨S2x2x256x4x128, .f32⟩
  | .hbm, ⟨26, _⟩ => ⟨S2x2x256x4x128, .f32⟩
  | .hbm, ⟨27, _⟩ => ⟨S2x2x256x4x128, .f32⟩
  | .hbm, ⟨28, _⟩ => ⟨S1024x512, .f32⟩
  | .hbm, ⟨29, _⟩ => ⟨S1024x512, .bf16⟩
  | .hbm, ⟨30, _⟩ => ⟨S16x96x256, .f32⟩
  | .hbm, ⟨31, _⟩ => ⟨S_, .f32⟩
  | .hbm, ⟨32, _⟩ => ⟨S16x96x256, .f32⟩
  | .hbm, ⟨33, _⟩ => ⟨S16x96x512, .f32⟩
  | .hbm, ⟨34, _⟩ => ⟨S_, .f32⟩
  | .hbm, ⟨35, _⟩ => ⟨S16x64x256, .f32⟩
  | .hbm, ⟨36, _⟩ => ⟨S16x64x256, .f32⟩
  | .hbm, ⟨37, _⟩ => ⟨S16x64x512, .f32⟩
  | .hbm, ⟨38, _⟩ => ⟨S16x160x512, .f32⟩
  | .hbm, ⟨39, _⟩ => ⟨S16x1x160x1x512, .f32⟩
  | .hbm, ⟨40, _⟩ => ⟨S16x2x160x2x512, .f32⟩
  | .hbm, ⟨41, _⟩ => ⟨S16x2x160x2x512, .f32⟩
  | .hbm, ⟨42, _⟩ => ⟨S16x2x160x2x512, .f32⟩
  | .hbm, ⟨43, _⟩ => ⟨S5120x1024, .f32⟩
  | .hbm, ⟨44, _⟩ => ⟨S5120x1024, .bf16⟩
  | .hbm, ⟨45, _⟩ => ⟨S16x96x256, .f32⟩
  | .hbm, ⟨46, _⟩ => ⟨S_, .f32⟩
  | .hbm, ⟨47, _⟩ => ⟨S16x96x256, .f32⟩
  | .hbm, ⟨48, _⟩ => ⟨S16x96x512, .f32⟩
  | .hbm, ⟨49, _⟩ => ⟨S_, .f32⟩
  | .hbm, ⟨50, _⟩ => ⟨S16x64x256, .f32⟩
  | .hbm, ⟨51, _⟩ => ⟨S16x64x256, .f32⟩
  | .hbm, ⟨52, _⟩ => ⟨S16x64x512, .f32⟩
  | .hbm, ⟨53, _⟩ => ⟨S16x160x512, .f32⟩
  | .hbm, ⟨54, _⟩ => ⟨S16x1x160x1x512, .f32⟩
  | .hbm, ⟨55, _⟩ => ⟨S16x2x160x2x512, .f32⟩
  | .hbm, ⟨56, _⟩ => ⟨S16x2x160x2x512, .f32⟩
  | .hbm, ⟨57, _⟩ => ⟨S16x2x160x2x512, .f32⟩
  | .hbm, ⟨58, _⟩ => ⟨S5120x1024, .f32⟩
  | .hbm, ⟨59, _⟩ => ⟨S5120x1024, .bf16⟩
  | .hbm, ⟨60, _⟩ => ⟨S1x3072, .f32⟩
  | .hbm, ⟨61, _⟩ => ⟨S_, .i32⟩
  | .hbm, ⟨62, _⟩ => ⟨S_, .f32⟩
  | .hbm, ⟨63, _⟩ => ⟨S8x3072, .f32⟩
  | .hbm, ⟨64, _⟩ => ⟨S8x3072, .bf16⟩
  | .hbm, ⟨65, _⟩ => ⟨S3072x256, .f32⟩
  | .hbm, ⟨66, _⟩ => ⟨S3072x256, .bf16⟩
  | .hbm, ⟨67, _⟩ => ⟨S1x2048, .f32⟩
  | .hbm, ⟨68, _⟩ => ⟨S_, .i32⟩
  | .hbm, ⟨69, _⟩ => ⟨S_, .f32⟩
  | .hbm, ⟨70, _⟩ => ⟨S8x2048, .f32⟩
  | .hbm, ⟨71, _⟩ => ⟨S8x2048, .bf16⟩
  | .hbm, ⟨72, _⟩ => ⟨S2048x256, .f32⟩
  | .hbm, ⟨73, _⟩ => ⟨S2048x256, .bf16⟩
  | .hbm, ⟨74, _⟩ => ⟨S16384x320, .f32⟩
  | .hbm, ⟨75, _⟩ => ⟨S16384x320, .bf16⟩
  | .hbm, ⟨76, _⟩ => ⟨S2x512x5120, .bf16⟩
  | .hbm, ⟨77, _⟩ => ⟨S2x512x256, .bf16⟩
  | .hbm, ⟨78, _⟩ => ⟨S2x512x256, .bf16⟩
  | .local _ .vmem, ⟨0, _⟩ => ⟨S1x512x5120, .bf16⟩
  | .local _ .vmem, ⟨1, _⟩ => ⟨S1x512x5120, .bf16⟩
  | .local _ .vmem, ⟨2, _⟩ => ⟨S5120x1024, .bf16⟩
  | .local _ .vmem, ⟨3, _⟩ => ⟨S5120x1024, .bf16⟩
  | .local _ .vmem, ⟨4, _⟩ => ⟨S8x3072, .bf16⟩
  | .local _ .vmem, ⟨5, _⟩ => ⟨S3072x256, .bf16⟩
  | .local _ .vmem, ⟨6, _⟩ => ⟨S8x2048, .bf16⟩
  | .local _ .vmem, ⟨7, _⟩ => ⟨S2048x256, .bf16⟩
  | .local _ .vmem, ⟨8, _⟩ => ⟨S1024x512, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | _, _ => ⟨S2x8192x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_c_2 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_call2_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_call3_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55_0 : Ref sig .tc := ⟨.hbm, 77, rfl⟩
abbrev main_v55_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S2x8192x320 : Shape := ⟨3, ![2, 8192, 320]⟩
abbrev S32x96 : Shape := ⟨2, ![32, 96]⟩
abbrev S3072x256 : Shape := ⟨2, ![3072, 256]⟩
abbrev S256x96 : Shape := ⟨2, ![256, 96]⟩
abbrev S32x64 : Shape := ⟨2, ![32, 64]⟩
abbrev S2048x256 : Shape := ⟨2, ![2048, 256]⟩
abbrev S256x64 : Shape := ⟨2, ![256, 64]⟩
abbrev S2x8192x2x160 : Shape := ⟨4, ![2, 8192, 2, 160]⟩
abbrev S2x8192x2x96 : Shape := ⟨4, ![2, 8192, 2, 96]⟩
abbrev S2x512x16x2x96 : Shape := ⟨5, ![2, 512, 16, 2, 96]⟩
abbrev S2x511x16x2x96 : Shape := ⟨5, ![2, 511, 16, 2, 96]⟩
abbrev S2x1x16x2x96 : Shape := ⟨5, ![2, 1, 16, 2, 96]⟩
abbrev S2x512x32x2x96 : Shape := ⟨5, ![2, 512, 32, 2, 96]⟩
abbrev S1x1x32x1x96 : Shape := ⟨5, ![1, 1, 32, 1, 96]⟩
abbrev S2x512x2x32x96 : Shape := ⟨5, ![2, 512, 2, 32, 96]⟩
abbrev S2x512x2x3072 : Shape := ⟨4, ![2, 512, 2, 3072]⟩
abbrev S2x512x2x256 : Shape := ⟨4, ![2, 512, 2, 256]⟩
abbrev S_ : Shape := ⟨0, ![]⟩
abbrev S2x512x2x96 : Shape := ⟨4, ![2, 512, 2, 96]⟩
abbrev S2x512x2x32 : Shape := ⟨4, ![2, 512, 2, 32]⟩
abbrev S2x512x2x128 : Shape := ⟨4, ![2, 512, 2, 128]⟩
abbrev S2x512x256 : Shape := ⟨3, ![2, 512, 256]⟩
abbrev S2x8192x2x64 : Shape := ⟨4, ![2, 8192, 2, 64]⟩
abbrev S2x512x16x2x64 : Shape := ⟨5, ![2, 512, 16, 2, 64]⟩
abbrev S2x511x16x2x64 : Shape := ⟨5, ![2, 511, 16, 2, 64]⟩
abbrev S2x1x16x2x64 : Shape := ⟨5, ![2, 1, 16, 2, 64]⟩
abbrev S2x512x32x2x64 : Shape := ⟨5, ![2, 512, 32, 2, 64]⟩
abbrev S1x1x32x1x64 : Shape := ⟨5, ![1, 1, 32, 1, 64]⟩
abbrev S2x512x2x32x64 : Shape := ⟨5, ![2, 512, 2, 32, 64]⟩
abbrev S2x512x2x2048 : Shape := ⟨4, ![2, 512, 2, 2048]⟩
abbrev S2x512x2x64 : Shape := ⟨4, ![2, 512, 2, 64]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x320, .f32⟩
  | .hbm, ⟨1, _⟩ => ⟨S32x96, .f32⟩
  | .hbm, ⟨2, _⟩ => ⟨S3072x256, .f32⟩
  | .hbm, ⟨3, _⟩ => ⟨S256x96, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S2x8192x2x160, .f32⟩
  | .hbm, ⟨8, _⟩ => ⟨S2x8192x2x96, .f32⟩
  | .hbm, ⟨9, _⟩ => ⟨S2x512x16x2x96, .f32⟩
  | .hbm, ⟨10, _⟩ => ⟨S2x511x16x2x96, .f32⟩
  | .hbm, ⟨11, _⟩ => ⟨S2x1x16x2x96, .f32⟩
  | .hbm, ⟨12, _⟩ => ⟨S2x512x16x2x96, .f32⟩
  | .hbm, ⟨13, _⟩ => ⟨S2x512x32x2x96, .f32⟩
  | .hbm, ⟨14, _⟩ => ⟨S1x1x32x1x96, .f32⟩
  | .hbm, ⟨15, _⟩ => ⟨S2x512x32x2x96, .f32⟩
  | .hbm, ⟨16, _⟩ => ⟨S2x512x32x2x96, .f32⟩
  | .hbm, ⟨17, _⟩ => ⟨S2x512x2x32x96, .f32⟩
  | .hbm, ⟨18, _⟩ => ⟨S2x512x2x3072, .f32⟩
  | .hbm, ⟨19, _⟩ => ⟨S2x512x2x256, .f32⟩
  | .hbm, ⟨20, _⟩ => ⟨S2x512x2x256, .f32⟩
  | .hbm, ⟨21, _⟩ => ⟨S2x512x2x256, .f32⟩
  | .hbm, ⟨22, _⟩ => ⟨S_, .f32⟩
  | .hbm, ⟨23, _⟩ => ⟨S2x512x2x256, .f32⟩
  | .hbm, ⟨24, _⟩ => ⟨S2x512x2x256, .f32⟩
  | .hbm, ⟨25, _⟩ => ⟨S2x512x2x256, .f32⟩
  | .hbm, ⟨26, _⟩ => ⟨S_, .f32⟩
  | .hbm, ⟨27, _⟩ => ⟨S2x512x2x256, .f32⟩
  | .hbm, ⟨28, _⟩ => ⟨S2x512x2x256, .f32⟩
  | .hbm, ⟨29, _⟩ => ⟨S2x512x2x256, .f32⟩
  | .hbm, ⟨30, _⟩ => ⟨S_, .f32⟩
  | .hbm, ⟨31, _⟩ => ⟨S2x512x2x256, .f32⟩
  | .hbm, ⟨32, _⟩ => ⟨S2x512x2x256, .f32⟩
  | .hbm, ⟨33, _⟩ => ⟨S_, .f32⟩
  | .hbm, ⟨34, _⟩ => ⟨S2x512x2x256, .f32⟩
  | .hbm, ⟨35, _⟩ => ⟨S2x512x2x256, .f32⟩
  | .hbm, ⟨36, _⟩ => ⟨S2x512x2x256, .f32⟩
  | .hbm, ⟨37, _⟩ => ⟨S2x512x2x96, .f32⟩
  | .hbm, ⟨38, _⟩ => ⟨S_, .f32⟩
  | .hbm, ⟨39, _⟩ => ⟨S2x512x2x32, .f32⟩
  | .hbm, ⟨40, _⟩ => ⟨S2x512x2x128, .f32⟩
  | .hbm, ⟨41, _⟩ => ⟨S2x512x256, .f32⟩
  | .hbm, ⟨42, _⟩ => ⟨S2x512x256, .bf16⟩
  | .hbm, ⟨43, _⟩ => ⟨S2x8192x2x64, .f32⟩
  | .hbm, ⟨44, _⟩ => ⟨S2x512x16x2x64, .f32⟩
  | .hbm, ⟨45, _⟩ => ⟨S2x511x16x2x64, .f32⟩
  | .hbm, ⟨46, _⟩ => ⟨S2x1x16x2x64, .f32⟩
  | .hbm, ⟨47, _⟩ => ⟨S2x512x16x2x64, .f32⟩
  | .hbm, ⟨48, _⟩ => ⟨S2x512x32x2x64, .f32⟩
  | .hbm, ⟨49, _⟩ => ⟨S1x1x32x1x64, .f32⟩
  | .hbm, ⟨50, _⟩ => ⟨S2x512x32x2x64, .f32⟩
  | .hbm, ⟨51, _⟩ => ⟨S2x512x32x2x64, .f32⟩
  | .hbm, ⟨52, _⟩ => ⟨S2x512x2x32x64, .f32⟩
  | .hbm, ⟨53, _⟩ => ⟨S2x512x2x2048, .f32⟩
  | .hbm, ⟨54, _⟩ => ⟨S2x512x2x256, .f32⟩
  | .hbm, ⟨55, _⟩ => ⟨S2x512x2x256, .f32⟩
  | .hbm, ⟨56, _⟩ => ⟨S2x512x2x256, .f32⟩
  | .hbm, ⟨57, _⟩ => ⟨S_, .f32⟩
  | .hbm, ⟨58, _⟩ => ⟨S2x512x2x256, .f32⟩
  | .hbm, ⟨59, _⟩ => ⟨S2x512x2x256, .f32⟩
  | .hbm, ⟨60, _⟩ => ⟨S2x512x2x256, .f32⟩
  | .hbm, ⟨61, _⟩ => ⟨S_, .f32⟩
  | .hbm, ⟨62, _⟩ => ⟨S2x512x2x256, .f32⟩
  | .hbm, ⟨63, _⟩ => ⟨S2x512x2x256, .f32⟩
  | .hbm, ⟨64, _⟩ => ⟨S2x512x2x256, .f32⟩
  | .hbm, ⟨65, _⟩ => ⟨S_, .f32⟩
  | .hbm, ⟨66, _⟩ => ⟨S2x512x2x256, .f32⟩
  | .hbm, ⟨67, _⟩ => ⟨S2x512x2x256, .f32⟩
  | .hbm, ⟨68, _⟩ => ⟨S_, .f32⟩
  | .hbm, ⟨69, _⟩ => ⟨S2x512x2x256, .f32⟩
  | .hbm, ⟨70, _⟩ => ⟨S2x512x2x256, .f32⟩
  | .hbm, ⟨71, _⟩ => ⟨S2x512x2x256, .f32⟩
  | .hbm, ⟨72, _⟩ => ⟨S2x512x2x64, .f32⟩
  | .hbm, ⟨73, _⟩ => ⟨S_, .f32⟩
  | .hbm, ⟨74, _⟩ => ⟨S2x512x2x64, .f32⟩
  | .hbm, ⟨75, _⟩ => ⟨S2x512x2x128, .f32⟩
  | .hbm, ⟨76, _⟩ => ⟨S2x512x256, .f32⟩
  | .hbm, ⟨77, _⟩ => ⟨S2x512x256, .bf16⟩
  | _, _ => ⟨S2x8192x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Proof.GlaWords.lean ====
module

public import proofs.«01_k».proof.Defs
public import proofs.«01_k».proof.Proof.Gen.KernelIdeal.Value

@[expose] public section

set_option maxRecDepth 16384

noncomputable section

namespace Cert.Gla

open Idealize.ShloMosaic Idealize.ShloMosaic.TcCoe Idealize.SL.Sem
open Cert.KernelIdeal Cert.KernelIdeal.Gen

variable {F : FTy → Type} [FloatOps F] [Named F]

/-- Rows `16 - n … 271 - n` lie inside the 272 rows of the keys' scratch. -/
theorem inb_k (n : ℕ) : ∀ a, (![16 - n, 0] : Fin 2 → ℕ) a + S256x256.size a ≤ S272x256.size a := by
  refine Fin.forall_fin_two.mpr ⟨?_, ?_⟩
  · show 16 - n + 256 ≤ 272; omega
  · show 0 + 256 ≤ 256; omega

/-- Rows `16 - n … 271 - n` lie inside the 272 rows of the values' scratch. -/
theorem inb_v (n : ℕ) : ∀ a, (![16 - n, 0] : Fin 2 → ℕ) a + S256x512.size a ≤ S272x512.size a := by
  refine Fin.forall_fin_two.mpr ⟨?_, ?_⟩
  · show 16 - n + 256 ≤ 272; omega
  · show 0 + 512 ≤ 512; omega

/-- The rows of a key scratch `n` places earlier, after the pieces `L` were written over `f`. -/
def loadK (M : Memref sig .tc .vmem S272x256 .f32) (f : M.view.ty.Contents (Elt F)) (L : List (View.Piece (Elt F) S272x256 .f32)) :
    ℕ → FVec F S256x256 .f32
  | 0 => M.view.readCov L (Rect.unit (s := S272x256) ![16, 0] S256x256.size (inb_k 0)).toLoadRect
  | n + 1 => View.readAt (Elt F) M.view (Rect.unit (s := S272x256) ![16 - (n + 1), 0] S256x256.size (inb_k (n + 1))).toLoadRect (M.view.writes (Elt F) f L)

/-- The rows of the value scratch `n` places earlier, after the pieces `L` were written over `f`. -/
def loadV (M : Memref sig .tc .vmem S272x512 .f32) (f : M.view.ty.Contents (Elt F)) (L : List (View.Piece (Elt F) S272x512 .f32)) :
    ℕ → FVec F S256x512 .f32
  | 0 => M.view.readCov L (Rect.unit (s := S272x512) ![16, 0] S256x512.size (inb_v 0)).toLoadRect
  | n + 1 => View.readAt (Elt F) M.view (Rect.unit (s := S272x512) ![16 - (n + 1), 0] S256x512.size (inb_v (n + 1))).toLoadRect (M.view.writes (Elt F) f L)

/-- What one offset adds to the outputs of a chunk: the keys, decays and values of the rows `off` places earlier. -/
def offTerm (q cum : FVec F S256x256 .f32) (pos : IVec S256x1 32) (sp : FVec F S256x512 .bf16) (off : BitVec 32)
    (ko bo : FVec F S256x256 .f32) (vo : FVec F S256x512 .f32) : FVec F S256x512 .f32 :=
  mulf (matmul dot_S256x256_S256x512_S256x512_1_0_0_1_n_n none
    (truncf .bf16 (mulf (mulf q ko) (exp (select
      (broadcastTo S256x256 (shapeCast S256x1 (cmpi .sge pos (broadcast S256x1 off)) shapeCasts_S256x1_S256x1) broadcasts_S256x1_S256x256)
      (subf cum bo) (broadcast S256x256 (Named.named κ "mask" 0xF149F2CA#32))))) bitsLt_bf16_f32)
    sp (constant S256x512 .f32 0x00000000#32)) vo

/-- The sum of the first `n` offsets' contributions. -/
def intra (q cum : FVec F S256x256 .f32) (pos : IVec S256x1 32) (sp : FVec F S256x512 .bf16) (ko bo : ℕ → FVec F S256x256 .f32)
    (vo : ℕ → FVec F S256x512 .f32) : ℕ → FVec F S256x512 .f32
  | 0 => broadcast S256x512 (Scalar.ofBits .f32 0x00000000#32)
  | n + 1 => addf (intra q cum pos sp ko bo vo n) (offTerm q cum pos sp (BitVec.ofNat 32 n) (ko n) (bo n) (vo n))

/-- A chunk's rows and a head's key columns lie inside the block. -/
theorem sl_k (n h : ℕ) : S256x256.Slices ![16 * (n % 16), 64 * (h % 4)] S16x64 := by
  refine ⟨rfl, Fin.forall_fin_two.mpr ⟨?_, ?_⟩⟩
  · show 16 * (n % 16) + 16 ≤ 256; omega
  · show 64 * (h % 4) + 64 ≤ 256; omega

/-- A chunk's row of one head's key columns lies inside the block. -/
theorem sl_d (n h : ℕ) : S256x256.Slices ![16 * (n % 16), 64 * (h % 4)] S1x64 := by
  refine ⟨rfl, Fin.forall_fin_two.mpr ⟨?_, ?_⟩⟩
  · show 16 * (n % 16) + 1 ≤ 256; omega
  · show 64 * (h % 4) + 64 ≤ 256; omega

/-- A chunk's rows and a head's value columns lie inside the block. -/
theorem sl_v (n h : ℕ) : S256x512.Slices ![16 * (n % 16), 128 * (h % 4)] S16x128 := by
  refine ⟨rfl, Fin.forall_fin_two.mpr ⟨?_, ?_⟩⟩
  · show 16 * (n % 16) + 16 ≤ 256; omega
  · show 128 * (h % 4) + 128 ≤ 512; omega

/-- Head `h`'s state after `n` chunks of the block, from the state `s` before the block. -/
def st (v : FVec F S256x512 .bf16) (kd : FVec F S256x256 .bf16) (cd : FVec F S256x256 .f32) (h : ℕ) (s : FVec F S128x64 .f32) :
    ℕ → FVec F S128x64 .f32
  | 0 => s
  | n + 1 => addf (mulf (st v kd cd h s n) (broadcastTo S128x64 (extractStridedSlice S1x64 ![16 * (n % 16), 64 * (h % 4)] cd (sl_d n h)) broadcasts_S1x64_S128x64))
      (matmul dot_S16x128_S16x64_S128x64_0_0_1_1_n_n none (extractStridedSlice S16x128 ![16 * (n % 16), 128 * (h % 4)] v (sl_v n h))
        (extractStridedSlice S16x64 ![16 * (n % 16), 64 * (h % 4)] kd (sl_k n h)) (constant S128x64 .f32 0x00000000#32))

/-- Chunk `n`'s and head `h`'s outputs read out of the state `s`. -/
def part (qd : FVec F S256x256 .bf16) (h n : ℕ) (s : FVec F S128x64 .f32) : FVec F S16x128 .f32 :=
  matmul dot_S16x64_S128x64_S16x128_1_1_0_0_n_n none (extractStridedSlice S16x64 ![16 * (n % 16), 64 * (h % 4)] qd (sl_k n h))
    (truncf .bf16 s bitsLt_bf16_f32) (constant S16x128 .f32 0x00000000#32)

/-- Chunk `n`'s outputs read out of the four states, side by side. -/
def row4 (qd : FVec F S256x256 .bf16) (S : ℕ → ℕ → FVec F S128x64 .f32) (n : ℕ) : FVec F S16x512 .f32 :=
  concatenate S16x512 1 [⟨S16x128, part qd 0 n (S 0 n)⟩, ⟨S16x128, part qd 1 n (S 1 n)⟩, ⟨S16x128, part qd 2 n (S 2 n)⟩, ⟨S16x128, part qd 3 n (S 3 n)⟩]
    concatenates_S16x128_S16x128_S16x128_S16x128_S16x512_d1

/-- The sixteen chunks' outputs read out of the states, one above the other. -/
def inter (qd : FVec F S256x256 .bf16) (S : ℕ → ℕ → FVec F S128x64 .f32) : FVec F S256x512 .f32 :=
  concatenate S256x512 0 [⟨S16x512, row4 qd S 0⟩, ⟨S16x512, row4 qd S 1⟩, ⟨S16x512, row4 qd S 2⟩, ⟨S16x512, row4 qd S 3⟩,
    ⟨S16x512, row4 qd S 4⟩, ⟨S16x512, row4 qd S 5⟩, ⟨S16x512, row4 qd S 6⟩, ⟨S16x512, row4 qd S 7⟩,
    ⟨S16x512, row4 qd S 8⟩, ⟨S16x512, row4 qd S 9⟩, ⟨S16x512, row4 qd S 10⟩, ⟨S16x512, row4 qd S 11⟩,
    ⟨S16x512, row4 qd S 12⟩, ⟨S16x512, row4 qd S 13⟩, ⟨S16x512, row4 qd S 14⟩, ⟨S16x512, row4 qd S 15⟩]
    concatenates_S16x512_S16x512_S16x512_S16x512_S16x512_S16x512_S16x512_S16x512_S16x512_S16x512_S16x512_S16x512_S16x512_S16x512_S16x512_S16x512_S256x512_d0

/-- A head's value columns lie inside the block. -/
theorem sl_o (h : ℕ) : S256x512.Slices ![0, 128 * (h % 4)] S256x128 := by
  refine ⟨rfl, Fin.forall_fin_two.mpr ⟨?_, ?_⟩⟩
  · show 0 + 256 ≤ 256; omega
  · show 128 * (h % 4) + 128 ≤ 512; omega

/-- A head's columns of the output's block lie inside it. -/
theorem inb_o (h : ℕ) : ∀ a, (![0, 0, 128 * (h % 4)] : Fin 3 → ℕ) a + S1x256x128.size a ≤ S1x256x512.size a := by
  refine Fin.forall_fin_succ.mpr ⟨?_, Fin.forall_fin_two.mpr ⟨?_, ?_⟩⟩
  · show 0 + 1 ≤ 1; omega
  · show 0 + 256 ≤ 256; omega
  · show 128 * (h % 4) + 128 ≤ 512; omega

/-- A head's state lies inside the heads' states. -/
theorem inb_s (h : ℕ) : ∀ a, (![h % 4, 0, 0] : Fin 3 → ℕ) a + S1x128x64.size a ≤ S4x128x64.size a := by
  refine Fin.forall_fin_succ.mpr ⟨?_, Fin.forall_fin_two.mpr ⟨?_, ?_⟩⟩
  · show h % 4 + 1 ≤ 4; omega
  · show 0 + 128 ≤ 128; omega
  · show 0 + 64 ≤ 64; omega

/-- Head `h`'s outputs: its 128 columns of `o` under their own root mean square, scaled by `nw`, times the gate `r · σ(r)`. -/
def headOut (o r : FVec F S256x512 .f32) (nw : FVec F S1x128 .f32) (h : ℕ) : FVec F S1x256x128 .f32 :=
  have a : FVec F S256x128 .f32 := extractStridedSlice S256x128 ![0, 128 * (h % 4)] o (sl_o h)
  have g : FVec F S256x128 .f32 := extractStridedSlice S256x128 ![0, 128 * (h % 4)] r (sl_o h)
  shapeCast S1x256x128 (mulf (mulf (mulf a (broadcastTo S256x128
    (rsqrt (addf (divf (shapeCast S256x1 (multiReduction .add [1] S256 (mulf a a) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 nw broadcasts_S1x128_S256x128)) (mulf g (logistic g))) shapeCasts_S256x128_S1x256x128

/-- The four heads' outputs as the pieces of the block. -/
def outPieces (o r : FVec F S256x512 .f32) (nw : FVec F S1x128 .f32) : List (View.Piece (Elt F) S1x256x512 .f32) :=
  [⟨Rect.unit (s := S1x256x512) ![0, 0, 128 * (3 % 4)] S1x256x128.size (inb_o 3), headOut o r nw 3⟩,
   ⟨Rect.unit (s := S1x256x512) ![0, 0, 128 * (2 % 4)] S1x256x128.size (inb_o 2), headOut o r nw 2⟩,
   ⟨Rect.unit (s := S1x256x512) ![0, 0, 128 * (1 % 4)] S1x256x128.size (inb_o 1), headOut o r nw 1⟩,
   ⟨Rect.unit (s := S1x256x512) ![0, 0, 128 * (0 % 4)] S1x256x128.size (inb_o 0), headOut o r nw 0⟩]

/-- The four heads' states as the pieces of the state scratch. -/
def stPieces (S : ℕ → FVec F S128x64 .f32) : List (View.Piece (Elt F) S4x128x64 .f32) :=
  [⟨Rect.unit (s := S4x128x64) ![3 % 4, 0, 0] S1x128x64.size (inb_s 3), shapeCast S1x128x64 (S 3) shapeCasts_S128x64_S1x128x64⟩,
   ⟨Rect.unit (s := S4x128x64) ![2 % 4, 0, 0] S1x128x64.size (inb_s 2), shapeCast S1x128x64 (S 2) shapeCasts_S128x64_S1x128x64⟩,
   ⟨Rect.unit (s := S4x128x64) ![1 % 4, 0, 0] S1x128x64.size (inb_s 1), shapeCast S1x128x64 (S 1) shapeCasts_S128x64_S1x128x64⟩,
   ⟨Rect.unit (s := S4x128x64) ![0 % 4, 0, 0] S1x128x64.size (inb_s 0), shapeCast S1x128x64 (S 0) shapeCasts_S128x64_S1x128x64⟩]

/-- Head `h`'s state after `n` chunks, from the keys, values and decays of the block and the states before it. -/
def stOf (k : FVec F S256x256 .f32) (v : FVec F S256x512 .f32) (cum tot : FVec F S256x256 .f32) (s : ℕ → FVec F S128x64 .f32) (h n : ℕ) : FVec F S128x64 .f32 :=
  st (truncf .bf16 v bitsLt_bf16_f32) (truncf .bf16 (mulf k (exp (subf tot cum))) bitsLt_bf16_f32) (exp tot) h (s h) n

/-- The block's outputs before the norm: what the chunk itself gives plus what the states give. -/
def oSum (q k : FVec F S256x256 .f32) (v : FVec F S256x512 .f32) (cum tot : FVec F S256x256 .f32) (pos : IVec S256x1 32) (sp : FVec F S256x512 .bf16)
    (ko bo : ℕ → FVec F S256x256 .f32) (vo : ℕ → FVec F S256x512 .f32) (s : ℕ → FVec F S128x64 .f32) : FVec F S256x512 .f32 :=
  addf (intra q cum pos sp ko bo vo 16) (inter (truncf .bf16 (mulf q (exp cum)) bitsLt_bf16_f32) (stOf k v cum tot s))

/-- A head's state as a block before left it in the scratch. -/
def loadS (M : Memref sig .tc .vmem S4x128x64 .f32) (f : M.view.ty.Contents (Elt F)) (h : ℕ) : FVec F S128x64 .f32 :=
  shapeCast S128x64 (View.readAt (Elt F) M.view (Rect.unit (s := S4x128x64) ![h % 4, 0, 0] S1x128x64.size (inb_s h)).toLoadRect f) shapeCasts_S1x128x64_S128x64

section Words

variable (c : Dev nD) (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole)
  (arg5 : Memref sig .tc .vmem S1x256x128 .f32) (harg5 : arg5.IsWhole) (arg6 : Memref sig .tc .vmem S128x256 .bf16) (harg6 : arg6.IsWhole)
  (arg7 : Memref sig .tc .vmem S1x256 .f32) (harg7 : arg7.IsWhole) (arg8 : Memref sig .tc .vmem S1x128 .f32) (harg8 : arg8.IsWhole)
  (arg10 arg11 : Memref sig .tc .vmem S272x256 .f32) (harg10 : arg10.IsWhole) (harg11 : arg11.IsWhole)
  (arg12 : Memref sig .tc .vmem S272x512 .f32) (harg12 : arg12.IsWhole) (arg9 : Memref sig .tc .vmem S1x256x512 .f32) (harg9 : arg9.IsWhole) (arg13 : Memref sig .tc .vmem S4x128x64 .f32) (harg13 : arg13.IsWhole)
  (x0 x1 x2 : Vec F S1x256x512 .f32) (x3 : Vec F S1x256x128 .f32) (x4 : Vec F S128x256 .bf16) (x5 : Vec F S1x256 .f32) (x6 : Vec F S1x128 .f32)
  (xs0 xs1 : Vec F S272x256 .f32) (xs2 : Vec F S272x512 .f32) (xs3 : Vec F S4x128x64 .f32)

/-- The gates' rows of a block. -/
def rBlk : FVec F S256x512 .f32 := shapeCast S256x512 (View.readAt (Elt F) arg4.view (Rect.unit (s := S1x256x512) ![0, 0, 0] S1x256x512.size inb_S1x256x512_S1x256x512_0_0_0).toLoadRect (harg4.unread x2)) shapeCasts_S1x256x512_S256x512

/-- The norm's weight row. -/
def nwBlk : FVec F S1x128 .f32 := shapeCast S1x128 (View.readAt (Elt F) arg8.view (Rect.unit (s := S1x128) ![0, 0] S1x128.size inb_S1x128_S1x128_0_0).toLoadRect (harg8.unread x6)) shapeCasts_S1x128_S1x128

/-- What a later block of a sequence leaves of the outputs. -/
theorem out_B (i : grid0.Coords) (hc : ¬cond0_0 i) :
    out0_B_7 c i arg2 harg2 arg3 harg3 arg4 harg4 arg5 harg5 arg6 harg6 arg7 harg7 arg8 harg8 arg9 harg9 arg10 harg10 arg11 harg11 arg12 harg12 arg13 harg13 hc x0 x1 x2 x3 x4 x5 x6 xs0 xs1 xs2 xs3
    = View.read (Elt F) VO0_7 (VO0_7.writes (Elt F) VO0_7.junk (outPieces
        (oSum (kernelRun0_B.sl.v7 c arg2 harg2 x0) (kernelRun0_B.sl.v8 c arg2 harg2 x0) (kernelRun0_B.sl.v10 c arg3 harg3 x1)
          (kernelRun0_B.sl.v86 c arg5 harg5 arg6 harg6 arg7 harg7 x3 x4 x5) (kernelRun0_B.sl.v89 c arg5 harg5 arg6 harg6 arg7 harg7 x3 x4 x5)
          kernelRun0_B.sl.v115 kernelRun0_B.sl.v169 (loadK arg10 (harg10.unread xs0) (kernelRun0_B.sl.HS0_1 c arg2 harg2 x0))
          (loadK arg11 (harg11.unread xs1) (kernelRun0_B.sl.HS1_1 c arg5 harg5 arg6 harg6 arg7 harg7 x3 x4 x5))
          (loadV arg12 (harg12.unread xs2) (kernelRun0_B.sl.HS2_1 c arg3 harg3 x1)) (loadS arg13 (harg13.unread xs3)))
        (rBlk arg4 harg4 x2) (nwBlk arg8 harg8 x6))) := by
  sl_kernel_rfl

/-- What the first block of a sequence leaves of the outputs. -/
theorem out_A (i : grid0.Coords) (hc : cond0_0 i) :
    out0_A_7 c i arg2 harg2 arg3 harg3 arg4 harg4 arg5 harg5 arg6 harg6 arg7 harg7 arg8 harg8 arg9 harg9 arg10 harg10 arg11 harg11 arg12 harg12 arg13 harg13 hc x0 x1 x2 x3 x4 x5 x6
    = View.read (Elt F) VO0_7 (VO0_7.writes (Elt F) VO0_7.junk (outPieces
        (oSum (kernelRun0_B.sl.v7 c arg2 harg2 x0) (kernelRun0_B.sl.v8 c arg2 harg2 x0) (kernelRun0_B.sl.v10 c arg3 harg3 x1)
          (kernelRun0_B.sl.v86 c arg5 harg5 arg6 harg6 arg7 harg7 x3 x4 x5) (kernelRun0_B.sl.v89 c arg5 harg5 arg6 harg6 arg7 harg7 x3 x4 x5)
          kernelRun0_B.sl.v115 kernelRun0_B.sl.v169 (loadK arg10 arg10.view.junk (kernelRun0_A.sl.HS0_2 c arg2 harg2 x0))
          (loadK arg11 arg11.view.junk (kernelRun0_A.sl.HS1_2 c arg5 harg5 arg6 harg6 arg7 harg7 x3 x4 x5))
          (loadV arg12 arg12.view.junk (kernelRun0_A.sl.HS2_2 c arg3 harg3 x1)) (loadS arg13 (arg13.view.writes (Elt F) arg13.view.junk kernelRun0_A.sl.HS3_1)))
        (rBlk arg4 harg4 x2) (nwBlk arg8 harg8 x6))) := by
  sl_kernel_rfl

/-- What a later block of a sequence leaves of the states. -/
theorem sout_B (i : grid0.Coords) (hc : ¬cond0_0 i) :
    sout0_B_3 c i arg2 harg2 arg3 harg3 arg4 harg4 arg5 harg5 arg6 harg6 arg7 harg7 arg8 harg8 arg9 harg9 arg10 harg10 arg11 harg11 arg12 harg12 arg13 harg13 hc x0 x1 x2 x3 x4 x5 x6 xs0 xs1 xs2 xs3
    = View.read (Elt F) VS0_3 (VS0_3.writes (Elt F) VS0_3.junk (stPieces fun h => stOf (kernelRun0_B.sl.v8 c arg2 harg2 x0) (kernelRun0_B.sl.v10 c arg3 harg3 x1)
          (kernelRun0_B.sl.v86 c arg5 harg5 arg6 harg6 arg7 harg7 x3 x4 x5) (kernelRun0_B.sl.v89 c arg5 harg5 arg6 harg6 arg7 harg7 x3 x4 x5) (loadS arg13 (harg13.unread xs3)) h 16)) := by
  sl_kernel_rfl

/-- What the first block of a sequence leaves of the states. -/
theorem sout_A (i : grid0.Coords) (hc : cond0_0 i) :
    sout0_A_3 c i arg2 harg2 arg3 harg3 arg4 harg4 arg5 harg5 arg6 harg6 arg7 harg7 arg8 harg8 arg9 harg9 arg10 harg10 arg11 harg11 arg12 harg12 arg13 harg13 hc x0 x1 x2 x3 x4 x5 x6
    = View.read (Elt F) VS0_3 (VS0_3.writes (Elt F) VS0_3.junk ((stPieces fun h => stOf (kernelRun0_B.sl.v8 c arg2 harg2 x0) (kernelRun0_B.sl.v10 c arg3 harg3 x1)
          (kernelRun0_B.sl.v86 c arg5 harg5 arg6 harg6 arg7 harg7 x3 x4 x5) (kernelRun0_B.sl.v89 c arg5 harg5 arg6 harg6 arg7 harg7 x3 x4 x5) (loadS arg13 (arg13.view.writes (Elt F) arg13.view.junk kernelRun0_A.sl.HS3_1)) h 16) ++ kernelRun0_A.sl.HS3_1)) := by
  sl_kernel_rfl

end Words

end Cert.Gla
-- ==== Proof.GlaSpec.lean ====
module

public import proofs.«01_k».proof.Defs
public import proofs.«01_k».proof.KernelIdeal
public import Idealize.ShloMosaic.Lib.Pipeline.ValueKit
public import Idealize.ShloMosaic.Lib.Pointwise

@[expose] public section

noncomputable section

namespace Cert.Gla

open Idealize.ShloMosaic
open Cert.KernelIdeal (S2x8192x256 S2x8192x512 S2x8192x16 S16x256 S256 S128)

/-! Gated linear attention over one sequence, as functions of the token and the column: `Q`, `K` scaled queries and keys, `LA` the
log decays, `V` the values. A chunk has sixteen tokens, a head sixty-four key columns and 128 value columns. -/

/-- The running sum of the log decays inside chunk `n`, up to place `p`. -/
def bc (LA : ℕ → ℕ → EReal) (n p c : ℕ) : EReal := ∑ j : Fin 16, if j.val ≤ p then LA (16 * n + j.val) c else 0

/-- Head `h`'s state before chunk `n`. -/
def sSt (K LA V : ℕ → ℕ → EReal) (h : ℕ) : ℕ → ℕ → ℕ → EReal
  | 0, _, _ => 0
  | n + 1, e, d => sSt K LA V h n e d * Ideal.exp (bc LA n 15 (64 * h + d))
      + ∑ p : Fin 16, V (16 * n + p.val) (128 * h + e) * (K (16 * n + p.val) (64 * h + d) * Ideal.exp (bc LA n 15 (64 * h + d) - bc LA n p.val (64 * h + d)))

/-- What the chunk's own tokens give at place `p`. -/
def sIntra (Q K LA V : ℕ → ℕ → EReal) (n p h e : ℕ) : EReal :=
  ∑ j : Fin 16, if j.val ≤ p then (∑ d : Fin 64, Q (16 * n + p) (64 * h + d.val) * K (16 * n + j.val) (64 * h + d.val)
    * Ideal.exp (bc LA n p (64 * h + d.val) - bc LA n j.val (64 * h + d.val))) * V (16 * n + j.val) (128 * h + e) else 0

/-- The attention's output at place `p` of chunk `n`, head `h`, value column `e`. -/
def sO (Q K LA V : ℕ → ℕ → EReal) (n p h e : ℕ) : EReal :=
  sIntra Q K LA V n p h e + ∑ d : Fin 64, Q (16 * n + p) (64 * h + d.val) * Ideal.exp (bc LA n p (64 * h + d.val)) * sSt K LA V h n e d.val

/-- The output of token `s` and column `c` after the head's norm, its weight and the gate. -/
def sOut (Q K LA V R : ℕ → ℕ → EReal) (W : ℕ → EReal) (s c : ℕ) : EReal :=
  sO Q K LA V (s / 16) (s % 16) (c / 128) (c % 128)
    * Ideal.rsqrt (Ideal.div (∑ x : Fin 128, sO Q K LA V (s / 16) (s % 16) (c / 128) x.val * sO Q K LA V (s / 16) (s % 16) (c / 128) x.val)
        (Ideal.ofBits .f32 0x43000000#32) + Ideal.ofBits .f32 0x358637BD#32)
    * W (c % 128) * (R s c * Ideal.logistic (R s c))

/-- Summing over the offsets back from place `p` is summing over the places up to `p`. -/
theorem sum_back (g : ℕ → EReal) (p : ℕ) (hp : p < 16) :
    (∑ n ∈ Finset.range 16, if n ≤ p then g (p - n) else 0) = ∑ j : Fin 16, if j.val ≤ p then g j.val else 0 := by
  rw [Fin.sum_univ_eq_sum_range (fun j => if j ≤ p then g j else 0) 16, ← Finset.sum_filter, ← Finset.sum_filter,
    show (Finset.range 16).filter (· ≤ p) = Finset.range (p + 1) by
      ext x; simp only [Finset.mem_filter, Finset.mem_range]; omega]
  exact Finset.sum_range_reflect g (p + 1)

/-- The log decay of a gate's preactivation: a sixteenth of its log sigmoid. -/
def lsig (z : EReal) : EReal := (min z 0 - Ideal.log1p (Ideal.exp (0 - FloatOps.absf (F := Ideal) (φ := .f32) z))) * Ideal.ofBits .f32 0x3D800000#32

/-- A sequence of 256 columns by token and column. -/
def tok256 (x : S2x8192x256.Idx → EReal) (b : Fin 2) (s c : ℕ) : EReal := x (ix3 b ⟨s % 8192, by omega⟩ ⟨c % 256, by omega⟩)

/-- A sequence of 512 columns by token and column. -/
def tok512 (x : S2x8192x512.Idx → EReal) (b : Fin 2) (s c : ℕ) : EReal := x (ix3 b ⟨s % 8192, by omega⟩ ⟨c % 512, by omega⟩)

/-- The scaled queries of a sequence. -/
def gQ (x : S2x8192x256.Idx → EReal) (b : Fin 2) (s c : ℕ) : EReal := tok256 x b s c * Ideal.ofBits .f32 0x3E000000#32

/-- The log decays of a sequence, from the gate's low-rank input, its weight and its bias. -/
def gLA (a : S2x8192x16.Idx → EReal) (w : S16x256.Idx → EReal) (g : S256.Idx → EReal) (b : Fin 2) (s c : ℕ) : EReal :=
  lsig (∑ x : Fin 16, a (ix3 b ⟨s % 8192, by omega⟩ x) * w (ix2 x ⟨c % 256, by omega⟩) + g (ix1 ⟨c % 256, by omega⟩))

/-- The norm's weight by column. -/
def gW (w : S128.Idx → EReal) (c : ℕ) : EReal := w (ix1 ⟨c % 128, by omega⟩)

/-- The gated linear attention branch at one token and column, from the whole arrays. -/
def glaAt (q k : S2x8192x256.Idx → EReal) (v r : S2x8192x512.Idx → EReal) (a : S2x8192x16.Idx → EReal) (w : S16x256.Idx → EReal) (g : S256.Idx → EReal)
    (nw : S128.Idx → EReal) (b : Fin 2) (s c : ℕ) : EReal :=
  sOut (gQ q b) (tok256 k b) (gLA a w g b) (tok512 v b) (tok512 r b) (gW nw) s c

/-- The same as one array. -/
def glaVec (q k : S2x8192x256.Idx → EReal) (v r : S2x8192x512.Idx → EReal) (a : S2x8192x16.Idx → EReal) (w : S16x256.Idx → EReal) (g : S256.Idx → EReal)
    (nw : S128.Idx → EReal) : S2x8192x512.Idx → EReal := fun y => glaAt q k v r a w g nw (y 0) (y 1).val (y 2).val

end Cert.Gla
-- ==== Proof.GlaBlock.lean ====
module

public import proofs.«01_k».proof.Proof.GlaWords
public import proofs.«01_k».proof.Proof.GlaSpec

@[expose] public section

set_option maxRecDepth 16384

noncomputable section

namespace Cert.Gla

open Idealize.ShloMosaic Idealize.ShloMosaic.TcCoe Idealize.SL.Sem
open Cert.KernelIdeal Cert.KernelIdeal.Gen

/-! The parts of one block of the gated linear attention kernel, entry by entry. -/

/-- One if the statement holds, else zero. -/
def ind (p : Prop) [Decidable p] : EReal := if p then 1 else 0

/-- A sum over `A·B` places whose terms vanish outside the `n`-th run of `B` places is the sum over that run. -/
theorem sum_run {A B : ℕ} (f : Fin (A * B) → EReal) (n : Fin A) (h0 : ∀ j, j.val / B ≠ n.val → f j = 0) :
    ∑ j, f j = ∑ p : Fin B, f ⟨B * n.val + p.val, by
      have := Nat.mul_le_mul_left B (Nat.succ_le_of_lt n.isLt); have := p.isLt; rw [Nat.mul_comm A B]; rw [Nat.mul_succ] at *; omega⟩ := by
  rw [← Equiv.sum_comp finProdFinEquiv, Fintype.sum_prod_type, Finset.sum_eq_single n]
  · refine Finset.sum_congr rfl fun p _ => congrArg f (Fin.ext ?_)
    show p.val + B * n.val = B * n.val + p.val
    exact Nat.add_comm _ _
  · intro m _ hm
    refine Finset.sum_eq_zero fun p _ => h0 _ ?_
    show (p.val + B * m.val) / B ≠ n.val
    rw [Nat.add_mul_div_left _ _ (Nat.lt_of_le_of_lt (Nat.zero_le _) p.isLt), Nat.div_eq_of_lt p.isLt, Nat.zero_add]
    exact fun h => hm (Fin.ext h)
  · intro h; exact absurd (Finset.mem_univ n) h

/-- The row's chunk within the block, as the kernel's words give it. -/
theorem chunk_word : ∀ j : Fin 256, Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32))) 1#32)
          (IntOp.cmpi CmpIPredicate.ne (IntOp.remsi ArithUnit.vector (BitVec.ofNat 32 ↑j) 16#32) 0#32))
        (IntOp.subi (IntOp.divsi ArithUnit.vector (BitVec.ofNat 32 ↑j) 16#32) 1#32)
        (IntOp.divsi ArithUnit.vector (BitVec.ofNat 32 ↑j) 16#32) = BitVec.ofNat 32 (j.val / 16) := by decide +kernel

/-- The head a key column belongs to, as the kernel's words give it. -/
theorem head_word_k : ∀ j : Fin 256, Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32))) 1#32)
          (IntOp.cmpi CmpIPredicate.ne (IntOp.remsi ArithUnit.vector (BitVec.ofNat 32 ↑j) 64#32) 0#32))
        (IntOp.subi (IntOp.divsi ArithUnit.vector (BitVec.ofNat 32 ↑j) 64#32) 1#32)
        (IntOp.divsi ArithUnit.vector (BitVec.ofNat 32 ↑j) 64#32) = BitVec.ofNat 32 (j.val / 64) := by decide +kernel

/-- The head a value column belongs to, as the kernel's words give it. -/
theorem head_word_v : ∀ j : Fin 512, Scalar.select
        (IntOp.andi
          (IntOp.cmpi CmpIPredicate.ne
            (IntOp.subi (BitVec.setWidth 32 (IntOp.cmpi CmpIPredicate.sgt (BitVec.ofNat 32 ↑j) 0#32))
              (BitVec.setWidth 32 (IntOp.cmpi CmpIPredicate.slt (BitVec.ofNat 32 ↑j) 0#32))) 1#32)
          (IntOp.cmpi CmpIPredicate.ne (IntOp.remsi ArithUnit.vector (BitVec.ofNat 32 ↑j) 128#32) 0#32))
        (IntOp.subi (IntOp.divsi ArithUnit.vector (BitVec.ofNat 32 ↑j) 128#32) 1#32)
        (IntOp.divsi ArithUnit.vector (BitVec.ofNat 32 ↑j) 128#32) = BitVec.ofNat 32 (j.val / 128) := by decide +kernel

/-- The row's place within its chunk, as the kernel's words give it. -/
theorem place_word : ∀ i : Fin 256, Scalar.select
      (IntOp.andi
        (IntOp.xori (IntOp.cmpi CmpIPredicate.slt (IntOp.remsi ArithUnit.vector (BitVec.ofNat 32 ↑i) 16#32) 0#32) 0#1)
        (IntOp.cmpi CmpIPredicate.ne (IntOp.remsi ArithUnit.vector (BitVec.ofNat 32 ↑i) 16#32) 0#32))
      (IntOp.addi (IntOp.remsi ArithUnit.vector (BitVec.ofNat 32 ↑i) 16#32) 16#32)
      (IntOp.remsi ArithUnit.vector (BitVec.ofNat 32 ↑i) 16#32) = BitVec.ofNat 32 (i.val % 16) := by decide +kernel

/-- Two small words are equal when their numbers are. -/
theorem eq_word : ∀ a b : Fin 16, IntOp.cmpi CmpIPredicate.eq (BitVec.ofNat 32 a.val) (BitVec.ofNat 32 b.val) = if a = b then 1#1 else 0#1 := by decide +kernel

/-- Small words compare as their numbers do. -/
theorem ge_word : ∀ a b : Fin 16, IntOp.cmpi CmpIPredicate.sge (BitVec.ofNat 32 a.val) (BitVec.ofNat 32 b.val) = if b ≤ a then 1#1 else 0#1 := by decide +kernel

/-- Row numbers compare as numbers do. -/
theorem le_word (a b : Fin 256) : IntOp.cmpi CmpIPredicate.sle (BitVec.ofNat 32 a.val) (BitVec.ofNat 32 b.val) = if a ≤ b then 1#1 else 0#1 := by
  have h : ∀ a : Fin 256, (BitVec.ofNat 32 a.val).toInt = a.val := by decide +kernel
  show BitVec.ofBool (decide ((BitVec.ofNat 32 a.val).toInt ≤ (BitVec.ofNat 32 b.val).toInt)) = _
  rw [h, h]
  by_cases hab : a ≤ b
  · rw [if_pos hab, decide_eq_true (Int.ofNat_le.mpr hab)]; rfl
  · rw [if_neg hab, decide_eq_false fun g => hab (Int.ofNat_le.mp g)]; rfl

/-- A set bit as a float is one. -/
theorem float_one : FloatOps.sitofp (F := Ideal) .f32 (BitVec.setWidth 32 1#1) = (1 : EReal) := by
  show (((((BitVec.setWidth 32 1#1 : BitVec 32).toInt : ℤ) : ℝ)) : EReal) = 1
  rw [show (BitVec.setWidth 32 1#1 : BitVec 32).toInt = 1 by decide]
  simp

/-- A clear bit as a float is zero. -/
theorem float_zero : FloatOps.sitofp (F := Ideal) .f32 (BitVec.setWidth 32 0#1) = (0 : EReal) := by
  show (((((BitVec.setWidth 32 0#1 : BitVec 32).toInt : ℤ) : ℝ)) : EReal) = 0
  rw [show (BitVec.setWidth 32 0#1 : BitVec 32).toInt = 0 by decide]
  simp

/-- The matrix of the running sums: same chunk and not later. -/
theorem below_apply (i j : Fin 256) : kernelRun0_B.sl.v85 (F := Ideal) (ix2 i j) = ind (j.val / 16 = i.val / 16 ∧ j ≤ i) := by
  sl_unfold_words
  pointwise [k0_pay12]
  rw [chunk_word, chunk_word, eq_word ⟨i.val / 16, by omega⟩ ⟨j.val / 16, by omega⟩, le_word]
  unfold ind
  by_cases h1 : j.val / 16 = i.val / 16
  · by_cases h2 : j ≤ i
    · rw [if_pos (Fin.ext h1.symm), if_pos h2, if_pos (⟨h1, h2⟩ : j.val / 16 = i.val / 16 ∧ j ≤ i)]; exact float_one
    · rw [if_pos (Fin.ext h1.symm), if_neg h2, if_neg (fun g => h2 g.2 : ¬(j.val / 16 = i.val / 16 ∧ j ≤ i))]; exact float_zero
  · rw [if_neg (fun g => h1 g.1 : ¬(j.val / 16 = i.val / 16 ∧ j ≤ i)), if_neg fun g => h1 (Fin.mk.inj g).symm]
    by_cases h2 : j ≤ i
    · rw [if_pos h2]; exact float_zero
    · rw [if_neg h2]; exact float_zero

/-- The matrix of the chunks' whole sums: same chunk. -/
theorem same_apply (i j : Fin 256) : kernelRun0_B.sl.v88 (F := Ideal) (ix2 i j) = ind (j.val / 16 = i.val / 16) := by
  sl_unfold_words
  pointwise [k0_pay12]
  rw [chunk_word, chunk_word, eq_word ⟨i.val / 16, by omega⟩ ⟨j.val / 16, by omega⟩]
  unfold ind
  by_cases h1 : j.val / 16 = i.val / 16
  · rw [if_pos (Fin.ext h1.symm), if_pos h1]; exact float_one
  · rw [if_neg fun g => h1 (Fin.mk.inj g).symm, if_neg h1]; exact float_zero

/-- The matrix that spreads a head's sum over its value columns. -/
theorem spread_apply (d : Fin 256) (e : Fin 512) : kernelRun0_B.sl.v169 (F := Ideal) (ix2 d e) = ind (d.val / 64 = e.val / 128) := by
  sl_unfold_words
  pointwise [k0_pay20, k0_pay21, k0_pay22, k0_pay23]
  rw [head_word_k, head_word_v, eq_word ⟨d.val / 64, by omega⟩ ⟨e.val / 128, by omega⟩]
  unfold ind
  by_cases h1 : d.val / 64 = e.val / 128
  · rw [if_pos (Fin.ext h1), if_pos h1]; exact float_one
  · rw [if_neg fun g => h1 (Fin.mk.inj g), if_neg h1]; exact float_zero

/-- The row's place in its chunk. -/
theorem place_apply (i : Fin 256) : kernelRun0_B.sl.v115 (ix2 i 0) = BitVec.ofNat 32 (i.val % 16) := by
  sl_unfold_words
  pointwise [k0_pay19]
  exact place_word i

/-- What one offset adds, entry by entry: the head's sixty-four columns of the query and the key `n` rows earlier under their decay, times the value. -/
theorem offTerm_apply (q cum : FVec Ideal S256x256 .f32) (n : Fin 16)
    (ko bo : FVec Ideal S256x256 .f32) (vo : FVec Ideal S256x512 .f32) (i : Fin 256) (e : Fin 512) :
    offTerm q cum kernelRun0_B.sl.v115 kernelRun0_B.sl.v169 (BitVec.ofNat 32 n.val) ko bo vo (ix2 i e)
      = if n.val ≤ i.val % 16 then (∑ d : Fin 64, q (ix2 i ⟨64 * (e.val / 128) + d.val, by omega⟩) * ko (ix2 i ⟨64 * (e.val / 128) + d.val, by omega⟩)
          * Ideal.exp (cum (ix2 i ⟨64 * (e.val / 128) + d.val, by omega⟩) - bo (ix2 i ⟨64 * (e.val / 128) + d.val, by omega⟩))) * vo (ix2 i e) else 0 := by
  pointwise [offTerm]
  have hm : (Named.named κ "mask" (0xF149F2CA#32 : BitVec (FTy.bits .f32)) : Ideal .f32) = (⊥ : EReal) := IdealRules.named_const.ideal_named_scalar _ _ _ _ rfl
  simp only [place_apply, spread_apply, ge_word ⟨i.val % 16, by omega⟩ n]
  by_cases h : n.val ≤ i.val % 16
  · rw [if_pos h, if_pos (show n ≤ ⟨i.val % 16, by omega⟩ from h)]
    rw [sum_run (A := 4) (B := 64) _ ⟨e.val / 128, by omega⟩ fun j hj => ?_]
    · refine congrArg (· * _) (Finset.sum_congr rfl fun d _ => ?_)
      rw [ind, if_pos (by show (64 * (e.val / 128) + d.val) / 64 = e.val / 128; omega), mul_one]
      rfl
    · rw [ind, if_neg hj, mul_zero]
  · rw [if_neg h, if_neg (show ¬ n ≤ ⟨i.val % 16, by omega⟩ from h)]
    rw [Finset.sum_eq_zero fun j _ => ?_, zero_mul]
    show q (ix2 i j) * ko (ix2 i j) * Ideal.exp (Named.named κ "mask" (0xF149F2CA#32 : BitVec (FTy.bits .f32)) : Ideal .f32) * _ = 0
    rw [hm, Ideal.exp_bot, mul_zero, zero_mul]

/-- The offsets' contributions add up. -/
theorem intra_sum (q cum : FVec Ideal S256x256 .f32) (pos : IVec S256x1 32) (sp : FVec Ideal S256x512 .bf16) (ko bo : ℕ → FVec Ideal S256x256 .f32)
    (vo : ℕ → FVec Ideal S256x512 .f32) (N : ℕ) (y : S256x512.Idx) :
    intra q cum pos sp ko bo vo N y = ∑ n ∈ Finset.range N, offTerm q cum pos sp (BitVec.ofNat 32 n) (ko n) (bo n) (vo n) y := by
  induction N with
  | zero => rw [Finset.sum_range_zero]; exact Ideal.ofBits_zero .f32
  | succ N ih => rw [Finset.sum_range_succ, ← ih]; rfl

/-- A chunk's and head's read-out, entry by entry. -/
theorem part_apply (qd : FVec Ideal S256x256 .bf16) (h n : ℕ) (s : FVec Ideal S128x64 .f32) (i : Fin 16) (e : Fin 128) :
    part qd h n s (ix2 i e) = ∑ x : Fin 64, qd (ix2 ⟨16 * (n % 16) + i.val, by omega⟩ ⟨64 * (h % 4) + x.val, by omega⟩) * s (ix2 e x) := by
  pointwise [part]

/-- An entry of a concatenation of pieces of one shape, the list written out: the piece its place over `K` names. -/
theorem pieces_apply {t s₁ : Shape} (a : Fin t.rank) {N : ℕ} {xs : List ((s : Shape) × (s.Idx → EReal))} (h : Shape.Concatenates (xs.map (·.1)) t a)
    (f : Fin N → (s₁.Idx → EReal)) (hx : xs = List.ofFn fun n : Fin N => (⟨s₁, f n⟩ : (s : Shape) × (s.Idx → EReal)))
    (hr : s₁.rank = t.rank) (K : ℕ) (hK : s₁.size (a.cast hr.symm) = K) (j : t.Idx) (n : Fin N) (hn : (j a).val / K = n.val)
    (i : s₁.Idx) (hia : (i (a.cast hr.symm)).val = (j a).val % K) (hi : ∀ b : Fin s₁.rank, b.cast hr ≠ a → (i b).val = (j (b.cast hr)).val) :
    concatenate t a xs h j = f n i := by
  subst hx
  exact concatenate_ofFn_apply a f h hr K hK j n hn i hia hi

/-- The heads side by side. -/
theorem row4_apply (qd : FVec Ideal S256x256 .bf16) (S : ℕ → ℕ → FVec Ideal S128x64 .f32) (n : ℕ) (i : Fin 16) (e : Fin 512) :
    row4 qd S n (ix2 i e) = part qd (e.val / 128) n (S (e.val / 128) n) (ix2 i ⟨e.val % 128, by omega⟩) :=
  pieces_apply (t := S16x512) (s₁ := S16x128) 1 _ (fun h : Fin 4 => part qd h.val n (S h.val n)) rfl rfl 128 rfl
    (ix2 i e) ⟨e.val / 128, by omega⟩ rfl (ix2 i ⟨e.val % 128, by omega⟩) rfl
    (Fin.forall_fin_two.mpr ⟨fun _ => rfl, fun h => absurd rfl h⟩)

/-- The chunks one above the other. -/
theorem inter_rows (qd : FVec Ideal S256x256 .bf16) (S : ℕ → ℕ → FVec Ideal S128x64 .f32) (i : Fin 256) (e : Fin 512) :
    inter qd S (ix2 i e) = row4 qd S (i.val / 16) (ix2 ⟨i.val % 16, by omega⟩ e) :=
  pieces_apply (t := S256x512) (s₁ := S16x512) 0 _
    (fun n : Fin 16 => row4 qd S n.val) rfl rfl 16 rfl (ix2 i e) ⟨i.val / 16, by omega⟩ rfl (ix2 ⟨i.val % 16, by omega⟩ e) rfl
    (Fin.forall_fin_two.mpr ⟨fun h => absurd rfl h, fun _ => rfl⟩)

/-- What the states give, entry by entry. -/
theorem inter_apply (qd : FVec Ideal S256x256 .bf16) (S : ℕ → ℕ → FVec Ideal S128x64 .f32) (i : Fin 256) (e : Fin 512) :
    inter qd S (ix2 i e) = ∑ x : Fin 64, qd (ix2 i ⟨64 * (e.val / 128) + x.val, by omega⟩) * S (e.val / 128) (i.val / 16) (ix2 ⟨e.val % 128, by omega⟩ x) := by
  rw [inter_rows, row4_apply, part_apply]
  refine Finset.sum_congr rfl fun x _ => congrArg (· * _) (congrArg qd ?_)
  congr 1
  · exact Fin.ext (by show 16 * (i.val / 16 % 16) + i.val % 16 = i.val; omega)
  · exact Fin.ext (by show 64 * (e.val / 128 % 4) + x.val = 64 * (e.val / 128) + x.val; omega)

/-- One more chunk of a head's state, entry by entry. -/
theorem st_succ (v : FVec Ideal S256x512 .bf16) (kd : FVec Ideal S256x256 .bf16) (cd : FVec Ideal S256x256 .f32) (h : ℕ) (s : FVec Ideal S128x64 .f32) (n : ℕ) (e : Fin 128) (d : Fin 64) :
    st v kd cd h s (n + 1) (ix2 e d) = st v kd cd h s n (ix2 e d) * cd (ix2 ⟨16 * (n % 16), by omega⟩ ⟨64 * (h % 4) + d.val, by omega⟩)
      + ∑ x : Fin 16, v (ix2 ⟨16 * (n % 16) + x.val, by omega⟩ ⟨128 * (h % 4) + e.val, by omega⟩) * kd (ix2 ⟨16 * (n % 16) + x.val, by omega⟩ ⟨64 * (h % 4) + d.val, by omega⟩) := by
  rw [st]
  pointwise

/-- A head's outputs, entry by entry. -/
theorem headOut_apply (o r : FVec Ideal S256x512 .f32) (nw : FVec Ideal S1x128 .f32) (h : ℕ) (i : Fin 256) (e : Fin 128) :
    headOut o r nw h (ix3 0 i e) = o (ix2 i ⟨128 * (h % 4) + e.val, by omega⟩)
      * Ideal.rsqrt (Ideal.div (∑ x : Fin 128, o (ix2 i ⟨128 * (h % 4) + x.val, by omega⟩) * o (ix2 i ⟨128 * (h % 4) + x.val, by omega⟩))
          (Ideal.ofBits .f32 0x43000000#32) + Ideal.ofBits .f32 0x358637BD#32)
      * nw (ix2 0 e) * (r (ix2 i ⟨128 * (h % 4) + e.val, by omega⟩) * Ideal.logistic (r (ix2 i ⟨128 * (h % 4) + e.val, by omega⟩))) := by
  pointwise [headOut]

section Block

variable {Q K LA V : ℕ → ℕ → EReal} {T : ℕ} {q k cum tot : FVec Ideal S256x256 .f32} {v : FVec Ideal S256x512 .f32}
  {ko bo : ℕ → FVec Ideal S256x256 .f32} {vo : ℕ → FVec Ideal S256x512 .f32} {s : ℕ → FVec Ideal S128x64 .f32}
  (hq : ∀ (i : Fin 256) (j : Fin 256), q (ix2 i j) = Q (256 * T + i.val) j.val)
  (hk : ∀ (i : Fin 256) (j : Fin 256), k (ix2 i j) = K (256 * T + i.val) j.val)
  (hv : ∀ (i : Fin 256) (j : Fin 512), v (ix2 i j) = V (256 * T + i.val) j.val)
  (hcum : ∀ (i : Fin 256) (j : Fin 256), cum (ix2 i j) = bc LA (16 * T + i.val / 16) (i.val % 16) j.val)
  (htot : ∀ (i : Fin 256) (j : Fin 256), tot (ix2 i j) = bc LA (16 * T + i.val / 16) 15 j.val)
  (hs : ∀ h < 4, ∀ (e : Fin 128) (d : Fin 64), s h (ix2 e d) = sSt K LA V h (16 * T) e.val d.val)
  (hko : ∀ n < 16, ∀ (i : Fin 256) (j : Fin 256), n ≤ i.val → ko n (ix2 i j) = K (256 * T + i.val - n) j.val)
  (hbo : ∀ n < 16, ∀ (i : Fin 256) (j : Fin 256), n ≤ i.val % 16 → bo n (ix2 i j) = bc LA (16 * T + i.val / 16) (i.val % 16 - n) j.val)
  (hvo : ∀ n < 16, ∀ (i : Fin 256) (j : Fin 512), n ≤ i.val → vo n (ix2 i j) = V (256 * T + i.val - n) j.val)

include hk hv hcum htot hs in
/-- A head's state inside the block is the sequence's state before that chunk. -/
theorem stOf_apply (h : ℕ) (hh : h < 4) (n : ℕ) (hn : n ≤ 16) (e : Fin 128) (d : Fin 64) :
    stOf k v cum tot s h n (ix2 e d) = sSt K LA V h (16 * T + n) e.val d.val := by
  induction n with
  | zero => exact hs h hh e d
  | succ n ih =>
    rw [stOf, st_succ, ← stOf, ih (by omega), show 16 * T + (n + 1) = (16 * T + n) + 1 by omega, sSt]
    have h4 : h % 4 = h := by omega
    have h16 : n % 16 = n := by omega
    refine congrArg₂ (· + ·) (congrArg (_ * ·) (congrArg Ideal.exp ?_)) (Finset.sum_congr rfl fun x _ => ?_)
    · refine (htot _ _).trans ?_
      show bc LA (16 * T + 16 * (n % 16) / 16) 15 (64 * (h % 4) + d.val) = _
      rw [h4, h16, show 16 * n / 16 = n by omega]
    · refine congrArg₂ (· * ·) ((hv _ _).trans ?_) (congrArg₂ (· * ·) ((hk _ _).trans ?_) (congrArg Ideal.exp (congrArg₂ (· - ·) ((htot _ _).trans ?_) ((hcum _ _).trans ?_))))
      · show V (256 * T + (16 * (n % 16) + x.val)) (128 * (h % 4) + e.val) = _
        rw [h4, h16, show 256 * T + (16 * n + x.val) = 16 * (16 * T + n) + x.val by omega]
      · show K (256 * T + (16 * (n % 16) + x.val)) (64 * (h % 4) + d.val) = _
        rw [h4, h16, show 256 * T + (16 * n + x.val) = 16 * (16 * T + n) + x.val by omega]
      · show bc LA (16 * T + (16 * (n % 16) + x.val) / 16) 15 (64 * (h % 4) + d.val) = _
        rw [h4, h16, show (16 * n + x.val) / 16 = n by omega]
      · show bc LA (16 * T + (16 * (n % 16) + x.val) / 16) ((16 * (n % 16) + x.val) % 16) (64 * (h % 4) + d.val) = _
        rw [h4, h16, show (16 * n + x.val) / 16 = n by omega, show (16 * n + x.val) % 16 = x.val by omega]

include hq hcum hko hbo hvo in
/-- The offsets' contributions are the chunk's own part of the attention. -/
theorem intra_apply (i : Fin 256) (e : Fin 512) :
    intra q cum kernelRun0_B.sl.v115 kernelRun0_B.sl.v169 ko bo vo 16 (ix2 i e) = sIntra Q K LA V (16 * T + i.val / 16) (i.val % 16) (e.val / 128) (e.val % 128) := by
  rw [intra_sum, sIntra, ← sum_back (fun j => (∑ d : Fin 64, Q (16 * (16 * T + i.val / 16) + i.val % 16) (64 * (e.val / 128) + d.val) * K (16 * (16 * T + i.val / 16) + j) (64 * (e.val / 128) + d.val)
    * Ideal.exp (bc LA (16 * T + i.val / 16) (i.val % 16) (64 * (e.val / 128) + d.val) - bc LA (16 * T + i.val / 16) j (64 * (e.val / 128) + d.val))) * V (16 * (16 * T + i.val / 16) + j) (128 * (e.val / 128) + e.val % 128)) (i.val % 16) (by omega)]
  refine Finset.sum_congr rfl fun n hn => ?_
  have hn' : n < 16 := Finset.mem_range.mp hn
  rw [offTerm_apply q cum ⟨n, hn'⟩ (ko n) (bo n) (vo n) i e]
  by_cases h : n ≤ i.val % 16
  · rw [if_pos h, if_pos h]
    have hp : 256 * T + i.val - n = 16 * (16 * T + i.val / 16) + (i.val % 16 - n) := by omega
    refine congrArg₂ (· * ·) (Finset.sum_congr rfl fun d _ => ?_) ?_
    · rw [hq, hcum, hko n hn' i _ (by omega), hbo n hn' i _ h, hp, show 256 * T + i.val = 16 * (16 * T + i.val / 16) + i.val % 16 by omega]
    · rw [hvo n hn' i _ (by omega), hp, show e.val = 128 * (e.val / 128) + e.val % 128 by omega]
      congr 1; omega
  · rw [if_neg h, if_neg h]

include hq hk hv hcum htot hs hko hbo hvo in
/-- The block's outputs before the norm are the attention's. -/
theorem oSum_apply (i : Fin 256) (e : Fin 512) :
    oSum q k v cum tot kernelRun0_B.sl.v115 kernelRun0_B.sl.v169 ko bo vo s (ix2 i e)
      = sO Q K LA V (16 * T + i.val / 16) (i.val % 16) (e.val / 128) (e.val % 128) := by
  refine congrArg₂ (· + ·) (intra_apply hq hcum hko hbo hvo i e) ((inter_apply _ _ i e).trans (Finset.sum_congr rfl fun d _ => ?_))
  refine congrArg₂ (· * ·) (congrArg₂ (· * ·) ((hq _ _).trans ?_) (congrArg Ideal.exp (hcum _ _))) (stOf_apply hk hv hcum htot hs _ (by omega) _ (by omega) _ _)
  show Q (256 * T + i.val) _ = _
  rw [show 256 * T + i.val = 16 * (16 * T + i.val / 16) + i.val % 16 by omega]

end Block

end Cert.Gla
-- ==== Proof.GlaLoads.lean ====
module

public import proofs.«01_k».proof.Proof.GlaBlock
public import Idealize.ShloMosaic.Lib.WholeRead
public import Idealize.ShloMosaic.Lib.WritesUnit

@[expose] public section

set_option maxRecDepth 16384

noncomputable section

namespace Cert.Gla

open Idealize.ShloMosaic Idealize.ShloMosaic.TcCoe Idealize.SL.Sem
open Cert.KernelIdeal Cert.KernelIdeal.Gen

/-! What the kernel's loads hold, entry by entry, and with them a whole block of the kernel. -/

/-- A load of a whole buffer is its contents. -/
theorem whole_load {s : Shape} {e : EltTy} {m : Memref sig .tc .vmem s e} (h : m.IsWhole) (X : s.Idx → Elt Ideal e) {off : Fin s.rank → ℕ}
    (inb : ∀ a, off a + s.size a ≤ s.size a) :
    View.readAt (Elt Ideal) m.view (Rect.unit (s := s) off s.size inb).toLoadRect (h.unread X) = X := by
  funext x
  refine (h.readAt_unread X _ x).trans (congrArg X (funext fun a => Fin.ext ?_))
  show off a + 1 * (x a).val = (x a).val
  have := inb a
  omega

/-- A row of the keys' scratch `n` places back, when that row was just stored: the stored row. -/
theorem loadK_apply (M : Memref sig .tc .vmem S272x256 .f32) (f : M.view.ty.Contents (Elt Ideal)) (inb : ∀ a, (![16, 0] : Fin 2 → ℕ) a + S256x256.size a ≤ S272x256.size a)
    (w : FVec Ideal S256x256 .f32) (L : List (View.Piece (Elt Ideal) S272x256 .f32)) (n : ℕ) (hn : n < 16) (i j : Fin 256) (h : n ≤ i.val) :
    loadK M f (⟨Rect.unit (s := S272x256) ![16, 0] S256x256.size inb, w⟩ :: L) n (ix2 i j) = w (ix2 ⟨i.val - n, by omega⟩ j) := by
  cases n with
  | zero =>
    refine View.read_writes_cons_rows_of_mem M.view M.view.junk inb w L _ (ix2 ⟨i.val - 0, by omega⟩ j) rfl ?_ ?_
    · show 16 + 1 * i.val = 16 + (i.val - 0); omega
    · show 0 + 1 * j.val = j.val; omega
  | succ n =>
    refine View.read_writes_cons_rows_of_mem M.view f inb w L _ (ix2 ⟨i.val - (n + 1), by omega⟩ j) rfl ?_ ?_
    · show 16 - (n + 1) + 1 * i.val = 16 + (i.val - (n + 1)); omega
    · show 0 + 1 * j.val = j.val; omega

/-- A row of the values' scratch `n` places back, when that row was just stored: the stored row. -/
theorem loadV_apply (M : Memref sig .tc .vmem S272x512 .f32) (f : M.view.ty.Contents (Elt Ideal)) (inb : ∀ a, (![16, 0] : Fin 2 → ℕ) a + S256x512.size a ≤ S272x512.size a)
    (w : FVec Ideal S256x512 .f32) (L : List (View.Piece (Elt Ideal) S272x512 .f32)) (n : ℕ) (hn : n < 16) (i : Fin 256) (j : Fin 512) (h : n ≤ i.val) :
    loadV M f (⟨Rect.unit (s := S272x512) ![16, 0] S256x512.size inb, w⟩ :: L) n (ix2 i j) = w (ix2 ⟨i.val - n, by omega⟩ j) := by
  cases n with
  | zero =>
    refine View.read_writes_cons_rows_of_mem M.view M.view.junk inb w L _ (ix2 ⟨i.val - 0, by omega⟩ j) rfl ?_ ?_
    · show 16 + 1 * i.val = 16 + (i.val - 0); omega
    · show 0 + 1 * j.val = j.val; omega
  | succ n =>
    refine View.read_writes_cons_rows_of_mem M.view f inb w L _ (ix2 ⟨i.val - (n + 1), by omega⟩ j) rfl ?_ ?_
    · show 16 - (n + 1) + 1 * i.val = 16 + (i.val - (n + 1)); omega
    · show 0 + 1 * j.val = j.val; omega

/-- The four heads' outputs cover the block: an entry is its head's. -/
theorem outPieces_read (o r : FVec Ideal S256x512 .f32) (nw : FVec Ideal S1x128 .f32) (i : Fin 256) (e : Fin 512) :
    View.read (Elt Ideal) VO0_7 (VO0_7.writes (Elt Ideal) VO0_7.junk (outPieces o r nw)) (ix3 0 i e)
      = headOut o r nw (e.val / 128) (ix3 0 i ⟨e.val % 128, by omega⟩) := by
  have hit : ∀ h : ℕ, e.val / 128 = h → ∀ (inb) (L : List (View.Piece (Elt Ideal) S1x256x512 .f32)),
      View.read (Elt Ideal) VO0_7 (VO0_7.writes (Elt Ideal) VO0_7.junk (⟨Rect.unit (s := S1x256x512) ![0, 0, 128 * (h % 4)] S1x256x128.size inb, headOut o r nw h⟩ :: L)) (ix3 0 i e)
        = headOut o r nw (e.val / 128) (ix3 0 i ⟨e.val % 128, by omega⟩) := by
    intro h hh inb L
    subst hh
    refine View.read_writes_cons_unit_of_mem _ _ inb _ L _ (ix3 0 i ⟨e.val % 128, by omega⟩) rfl (Fin.forall_fin_succ.mpr ⟨rfl, Fin.forall_fin_two.mpr ⟨?_, ?_⟩⟩)
    · show i.val = 0 + i.val; omega
    · show e.val = 128 * (e.val / 128 % 4) + e.val % 128; omega
  have miss : ∀ h : ℕ, h < 4 → e.val / 128 ≠ h → ∀ (inb w) (L : List (View.Piece (Elt Ideal) S1x256x512 .f32)),
      View.read (Elt Ideal) VO0_7 (VO0_7.writes (Elt Ideal) VO0_7.junk (⟨Rect.unit (s := S1x256x512) ![0, 0, 128 * (h % 4)] S1x256x128.size inb, w⟩ :: L)) (ix3 0 i e)
        = View.read (Elt Ideal) VO0_7 (VO0_7.writes (Elt Ideal) VO0_7.junk L) (ix3 0 i e) := by
    intro h h4 hh inb w L
    refine View.read_writes_cons_unit_of_not_mem _ _ inb w L _ rfl (2 : Fin 3) ?_
    show e.val < 128 * (h % 4) ∨ 128 * (h % 4) + 128 ≤ e.val
    omega
  rw [outPieces]
  by_cases h3 : e.val / 128 = 3
  · exact hit 3 h3 _ _
  rw [miss 3 (by omega) h3]
  by_cases h2 : e.val / 128 = 2
  · exact hit 2 h2 _ _
  rw [miss 2 (by omega) h2]
  by_cases h1 : e.val / 128 = 1
  · exact hit 1 h1 _ _
  rw [miss 1 (by omega) h1]
  exact hit 0 (by omega) _ _

/-- The four heads' states cover the scratch: an entry is its head's. -/
theorem stPieces_read (S : ℕ → FVec Ideal S128x64 .f32) (L : List (View.Piece (Elt Ideal) S4x128x64 .f32)) (h : Fin 4) (e : Fin 128) (d : Fin 64) :
    View.read (Elt Ideal) VS0_3 (VS0_3.writes (Elt Ideal) VS0_3.junk (stPieces S ++ L)) (ix3 h e d) = S h.val (ix2 e d) := by
  have hit : ∀ g : ℕ, h.val = g → ∀ (inb) (L : List (View.Piece (Elt Ideal) S4x128x64 .f32)),
      View.read (Elt Ideal) VS0_3 (VS0_3.writes (Elt Ideal) VS0_3.junk (⟨Rect.unit (s := S4x128x64) ![g % 4, 0, 0] S1x128x64.size inb, shapeCast S1x128x64 (S g) shapeCasts_S128x64_S1x128x64⟩ :: L)) (ix3 h e d)
        = S h.val (ix2 e d) := by
    intro g hh inb L
    subst hh
    refine (View.read_writes_cons_unit_of_mem _ _ inb _ L _ (ix3 0 e d) rfl (Fin.forall_fin_succ.mpr ⟨?_, Fin.forall_fin_two.mpr ⟨?_, ?_⟩⟩)).trans ?_
    · show h.val = h.val % 4 + 0; omega
    · show e.val = 0 + e.val; omega
    · show d.val = 0 + d.val; omega
    · pointwise
  have miss : ∀ g : ℕ, g < 4 → h.val ≠ g → ∀ (inb w) (L : List (View.Piece (Elt Ideal) S4x128x64 .f32)),
      View.read (Elt Ideal) VS0_3 (VS0_3.writes (Elt Ideal) VS0_3.junk (⟨Rect.unit (s := S4x128x64) ![g % 4, 0, 0] S1x128x64.size inb, w⟩ :: L)) (ix3 h e d)
        = View.read (Elt Ideal) VS0_3 (VS0_3.writes (Elt Ideal) VS0_3.junk L) (ix3 h e d) := by
    intro g h4 hh inb w L
    refine View.read_writes_cons_unit_of_not_mem _ _ inb w L _ rfl (0 : Fin 3) ?_
    show h.val < g % 4 ∨ g % 4 + 1 ≤ h.val
    omega
  rw [stPieces, List.cons_append, List.cons_append, List.cons_append, List.cons_append]
  by_cases h3 : h.val = 3
  · exact hit 3 h3 _ _
  rw [miss 3 (by omega) h3]
  by_cases h2 : h.val = 2
  · exact hit 2 h2 _ _
  rw [miss 2 (by omega) h2]
  by_cases h1 : h.val = 1
  · exact hit 1 h1 _ _
  rw [miss 1 (by omega) h1]
  exact hit 0 (by omega) _ _

section Loads

variable (c : Dev nD) (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole)
  (arg5 : Memref sig .tc .vmem S1x256x128 .f32) (harg5 : arg5.IsWhole) (arg6 : Memref sig .tc .vmem S128x256 .bf16) (harg6 : arg6.IsWhole)
  (arg7 : Memref sig .tc .vmem S1x256 .f32) (harg7 : arg7.IsWhole) (arg8 : Memref sig .tc .vmem S1x128 .f32) (harg8 : arg8.IsWhole)
  (arg10 : Memref sig .tc .vmem S272x256 .f32) (arg12 : Memref sig .tc .vmem S272x512 .f32) (arg13 : Memref sig .tc .vmem S4x128x64 .f32) (harg13 : arg13.IsWhole)
  (x0 x1 x2 : Vec Ideal S1x256x512 .f32) (x3 : Vec Ideal S1x256x128 .f32) (x4 : Vec Ideal S128x256 .bf16) (x5 : Vec Ideal S1x256 .f32) (x6 : Vec Ideal S1x128 .f32)
  (xs3 : Vec Ideal S4x128x64 .f32)

/-- The scaled queries of a block. -/
theorem q_apply (i j : Fin 256) : kernelRun0_B.sl.v7 c arg2 harg2 x0 (ix2 i j) = x0 (ix3 0 i ⟨j.val, by omega⟩) * Ideal.ofBits .f32 0x3E000000#32 := by
  sl_unfold_words
  rw [whole_load]
  pointwise

/-- The keys of a block. -/
theorem k_apply (i j : Fin 256) : kernelRun0_B.sl.v8 c arg2 harg2 x0 (ix2 i j) = x0 (ix3 0 i ⟨256 + j.val, by omega⟩) := by
  sl_unfold_words
  rw [whole_load]
  pointwise

/-- The values of a block. -/
theorem v_apply (i : Fin 256) (j : Fin 512) : kernelRun0_B.sl.v10 c arg3 harg3 x1 (ix2 i j) = x1 (ix3 0 i j) := by
  sl_unfold_words
  rw [whole_load]
  pointwise

/-- The output gates of a block. -/
theorem r_apply (i : Fin 256) (j : Fin 512) : rBlk arg4 harg4 x2 (ix2 i j) = x2 (ix3 0 i j) := by
  rw [rBlk, whole_load]
  pointwise

/-- The norm's weights. -/
theorem nw_apply (j : Fin 128) : nwBlk arg8 harg8 x6 (ix2 0 j) = x6 (ix2 0 j) := by
  rw [nwBlk, whole_load]
  pointwise

/-- The log decays of a block. -/
theorem la_apply (i j : Fin 256) : kernelRun0_B.sl.v30 c arg5 harg5 arg6 harg6 arg7 harg7 x3 x4 x5 (ix2 i j)
    = lsig (∑ x : Fin 128, x3 (ix3 0 i x) * x4 (ix2 x j) + x5 (ix2 0 j)) := by
  sl_unfold_words
  rw [whole_load, whole_load, whole_load]
  pointwise [lsig]

/-- The running sums of the log decays within the row's chunk. -/
theorem cum_apply (i j : Fin 256) : kernelRun0_B.sl.v86 c arg5 harg5 arg6 harg6 arg7 harg7 x3 x4 x5 (ix2 i j)
    = ∑ p : Fin 16, if p.val ≤ i.val % 16 then kernelRun0_B.sl.v30 c arg5 harg5 arg6 harg6 arg7 harg7 x3 x4 x5 (ix2 ⟨16 * (i.val / 16) + p.val, by omega⟩ j) else 0 := by
  have h : kernelRun0_B.sl.v86 c arg5 harg5 arg6 harg6 arg7 harg7 x3 x4 x5 (ix2 i j)
      = kernelRun0_B.sl.cst_11 (F := Ideal) (ix2 i j) + ∑ x : Fin 256, kernelRun0_B.sl.v85 (F := Ideal) (ix2 i x) * kernelRun0_B.sl.v30 c arg5 harg5 arg6 harg6 arg7 harg7 x3 x4 x5 (ix2 x j) := by
    rw [kernelRun0_B.sl.v86]
    pointwise
  rw [h, show kernelRun0_B.sl.cst_11 (F := Ideal) (ix2 i j) = (0 : EReal) from Ideal.ofBits_zero .f32, zero_add,
    sum_run (A := 16) (B := 16) _ ⟨i.val / 16, by omega⟩ fun x hx => ?_]
  · refine Finset.sum_congr rfl fun p _ => ?_
    rw [below_apply, ind]
    by_cases hp : p.val ≤ i.val % 16
    · rw [if_pos hp, if_pos ⟨show (16 * (i.val / 16) + p.val) / 16 = i.val / 16 by omega, show 16 * (i.val / 16) + p.val ≤ i.val by omega⟩, one_mul]
    · rw [if_neg hp, if_neg fun g => hp (by have : 16 * (i.val / 16) + p.val ≤ i.val := g.2; omega), zero_mul]
  · rw [below_apply, ind, if_neg fun g => hx g.1, zero_mul]

/-- The sums of the log decays over the row's whole chunk. -/
theorem tot_apply (i j : Fin 256) : kernelRun0_B.sl.v89 c arg5 harg5 arg6 harg6 arg7 harg7 x3 x4 x5 (ix2 i j)
    = ∑ p : Fin 16, kernelRun0_B.sl.v30 c arg5 harg5 arg6 harg6 arg7 harg7 x3 x4 x5 (ix2 ⟨16 * (i.val / 16) + p.val, by omega⟩ j) := by
  have h : kernelRun0_B.sl.v89 c arg5 harg5 arg6 harg6 arg7 harg7 x3 x4 x5 (ix2 i j)
      = kernelRun0_B.sl.cst_11 (F := Ideal) (ix2 i j) + ∑ x : Fin 256, kernelRun0_B.sl.v88 (F := Ideal) (ix2 i x) * kernelRun0_B.sl.v30 c arg5 harg5 arg6 harg6 arg7 harg7 x3 x4 x5 (ix2 x j) := by
    rw [kernelRun0_B.sl.v89]
    pointwise
  rw [h, show kernelRun0_B.sl.cst_11 (F := Ideal) (ix2 i j) = (0 : EReal) from Ideal.ofBits_zero .f32, zero_add,
    sum_run (A := 16) (B := 16) _ ⟨i.val / 16, by omega⟩ fun x hx => ?_]
  · refine Finset.sum_congr rfl fun p _ => ?_
    rw [same_apply, ind, if_pos (show (16 * (i.val / 16) + p.val) / 16 = i.val / 16 by omega), one_mul]
  · rw [same_apply, ind, if_neg hx, zero_mul]

/-- The stored keys are the keys. -/
theorem loadK_k (f) (n : ℕ) (hn : n < 16) (i j : Fin 256) (h : n ≤ i.val) :
    loadK arg10 f (kernelRun0_B.sl.HS0_1 c arg2 harg2 x0) n (ix2 i j) = kernelRun0_B.sl.v8 c arg2 harg2 x0 (ix2 ⟨i.val - n, by omega⟩ j) := by
  refine (loadK_apply arg10 f _ _ _ n hn i j h).trans ?_
  rw [kernelRun0_B.sl.v92]
  pointwise

/-- The stored keys of a first block are the keys. -/
theorem loadK_k' (f) (n : ℕ) (hn : n < 16) (i j : Fin 256) (h : n ≤ i.val) :
    loadK arg10 f (kernelRun0_A.sl.HS0_2 c arg2 harg2 x0) n (ix2 i j) = kernelRun0_B.sl.v8 c arg2 harg2 x0 (ix2 ⟨i.val - n, by omega⟩ j) := by
  refine (loadK_apply arg10 f _ _ _ n hn i j h).trans ?_
  rw [kernelRun0_A.sl.v92]
  pointwise
  sl_kernel_rfl

/-- The stored running sums are the running sums. -/
theorem loadK_c (f) (n : ℕ) (hn : n < 16) (i j : Fin 256) (h : n ≤ i.val) :
    loadK arg10 f (kernelRun0_B.sl.HS1_1 c arg5 harg5 arg6 harg6 arg7 harg7 x3 x4 x5) n (ix2 i j)
      = kernelRun0_B.sl.v86 c arg5 harg5 arg6 harg6 arg7 harg7 x3 x4 x5 (ix2 ⟨i.val - n, by omega⟩ j) := by
  refine (loadK_apply arg10 f _ _ _ n hn i j h).trans ?_
  rw [kernelRun0_B.sl.v95]
  pointwise

/-- The stored running sums of a first block are the running sums. -/
theorem loadK_c' (f) (n : ℕ) (hn : n < 16) (i j : Fin 256) (h : n ≤ i.val) :
    loadK arg10 f (kernelRun0_A.sl.HS1_2 c arg5 harg5 arg6 harg6 arg7 harg7 x3 x4 x5) n (ix2 i j)
      = kernelRun0_B.sl.v86 c arg5 harg5 arg6 harg6 arg7 harg7 x3 x4 x5 (ix2 ⟨i.val - n, by omega⟩ j) := by
  refine (loadK_apply arg10 f _ _ _ n hn i j h).trans ?_
  rw [kernelRun0_A.sl.v95]
  pointwise
  sl_kernel_rfl

/-- The stored values are the values. -/
theorem loadV_v (f) (n : ℕ) (hn : n < 16) (i : Fin 256) (j : Fin 512) (h : n ≤ i.val) :
    loadV arg12 f (kernelRun0_B.sl.HS2_1 c arg3 harg3 x1) n (ix2 i j) = kernelRun0_B.sl.v10 c arg3 harg3 x1 (ix2 ⟨i.val - n, by omega⟩ j) := by
  refine (loadV_apply arg12 f _ _ _ n hn i j h).trans ?_
  rw [kernelRun0_B.sl.v98]
  pointwise

/-- The stored values of a first block are the values. -/
theorem loadV_v' (f) (n : ℕ) (hn : n < 16) (i : Fin 256) (j : Fin 512) (h : n ≤ i.val) :
    loadV arg12 f (kernelRun0_A.sl.HS2_2 c arg3 harg3 x1) n (ix2 i j) = kernelRun0_B.sl.v10 c arg3 harg3 x1 (ix2 ⟨i.val - n, by omega⟩ j) := by
  refine (loadV_apply arg12 f _ _ _ n hn i j h).trans ?_
  rw [kernelRun0_A.sl.v98]
  pointwise
  sl_kernel_rfl

/-- One head's plane as a matrix. -/
theorem plane_apply (w : FVec Ideal S1x128x64 .f32) (e : Fin 128) (d : Fin 64) : shapeCast S128x64 w shapeCasts_S1x128x64_S128x64 (ix2 e d) = w (ix3 0 e d) := by
  pointwise

/-- A head's state out of the scratch. -/
theorem loadS_apply (h : Fin 4) (e : Fin 128) (d : Fin 64) : loadS arg13 (harg13.unread xs3) h.val (ix2 e d) = xs3 (ix3 h e d) := by
  refine (plane_apply _ e d).trans ((harg13.readAt_unread xs3 _ _).trans ?_)
  refine congrArg xs3 (funext (Fin.forall_fin_succ.mpr ⟨Fin.ext ?_, Fin.forall_fin_two.mpr ⟨Fin.ext ?_, Fin.ext ?_⟩⟩))
  · show h.val % 4 + 1 * 0 = h.val; omega
  · show 0 + 1 * e.val = e.val; omega
  · show 0 + 1 * d.val = d.val; omega

/-- A head's state at the start of a sequence: zero. -/
theorem loadS_zero (h : Fin 4) (e : Fin 128) (d : Fin 64) :
    loadS arg13 (arg13.view.writes (Elt Ideal) arg13.view.junk (kernelRun0_A.sl.HS3_1 (F := Ideal))) h.val (ix2 e d) = (0 : EReal) := by
  have hr : ∀ y : S4x128x64.Idx, View.read (Elt Ideal) arg13.view (arg13.view.writes (Elt Ideal) arg13.view.junk (kernelRun0_A.sl.HS3_1 (F := Ideal))) y = (0 : EReal) := fun y => by
    refine (View.read_writes_cons_unit_of_mem arg13.view arg13.view.junk _ _ [] y y rfl (Fin.forall_fin_succ.mpr ⟨?_, Fin.forall_fin_two.mpr ⟨?_, ?_⟩⟩)).trans ?_
    · show (y 0).val = 0 + (y 0).val; omega
    · show (y 1).val = 0 + (y 1).val; omega
    · show (y 2).val = 0 + (y 2).val; omega
    · sl_unfold_words
      idx_vars y
      pointwise
  exact (plane_apply _ e d).trans (hr _)

end Loads

end Cert.Gla
-- ==== Proof.GlaKernel.lean ====
module

public import proofs.«01_k».proof.Proof.GlaLoads

@[expose] public section

set_option maxRecDepth 16384

noncomputable section

namespace Cert.Gla

open Idealize.ShloMosaic Idealize.ShloMosaic.TcCoe Idealize.SL.Sem
open Cert.KernelIdeal Cert.KernelIdeal.Gen

/-! The kernel's result: the gated linear attention branch, block by block. -/

section OneBlock

variable {Q K LA V R : ℕ → ℕ → EReal} {W : ℕ → EReal} {T : ℕ}
  (c : Dev nD) (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole)
  (arg5 : Memref sig .tc .vmem S1x256x128 .f32) (harg5 : arg5.IsWhole) (arg6 : Memref sig .tc .vmem S128x256 .bf16) (harg6 : arg6.IsWhole)
  (arg7 : Memref sig .tc .vmem S1x256 .f32) (harg7 : arg7.IsWhole) (arg8 : Memref sig .tc .vmem S1x128 .f32) (harg8 : arg8.IsWhole)
  (arg10 arg11 : Memref sig .tc .vmem S272x256 .f32) (harg10 : arg10.IsWhole) (harg11 : arg11.IsWhole)
  (arg12 : Memref sig .tc .vmem S272x512 .f32) (harg12 : arg12.IsWhole) (arg9 : Memref sig .tc .vmem S1x256x512 .f32) (harg9 : arg9.IsWhole) (arg13 : Memref sig .tc .vmem S4x128x64 .f32) (harg13 : arg13.IsWhole)
  (x0 x1 x2 : Vec Ideal S1x256x512 .f32) (x3 : Vec Ideal S1x256x128 .f32) (x4 : Vec Ideal S128x256 .bf16) (x5 : Vec Ideal S1x256 .f32) (x6 : Vec Ideal S1x128 .f32)
  (xs0 xs1 : Vec Ideal S272x256 .f32) (xs2 : Vec Ideal S272x512 .f32) (xs3 : Vec Ideal S4x128x64 .f32)
  (hq : ∀ i j : Fin 256, x0 (ix3 0 i ⟨j.val, by omega⟩) * Ideal.ofBits .f32 0x3E000000#32 = Q (256 * T + i.val) j.val)
  (hk : ∀ i j : Fin 256, x0 (ix3 0 i ⟨256 + j.val, by omega⟩) = K (256 * T + i.val) j.val)
  (hv : ∀ (i : Fin 256) (j : Fin 512), x1 (ix3 0 i j) = V (256 * T + i.val) j.val)
  (hr : ∀ (i : Fin 256) (j : Fin 512), x2 (ix3 0 i j) = R (256 * T + i.val) j.val)
  (hla : ∀ i j : Fin 256, lsig (∑ x : Fin 128, x3 (ix3 0 i x) * x4 (ix2 x j) + x5 (ix2 0 j)) = LA (256 * T + i.val) j.val)
  (hw : ∀ j : Fin 128, x6 (ix2 0 j) = W j.val)

include hla in
/-- The block's running sums are the sequence's. -/
theorem cum_eq (i j : Fin 256) : kernelRun0_B.sl.v86 c arg5 harg5 arg6 harg6 arg7 harg7 x3 x4 x5 (ix2 i j) = bc LA (16 * T + i.val / 16) (i.val % 16) j.val := by
  rw [cum_apply, bc]
  refine Finset.sum_congr rfl fun p _ => ?_
  rw [la_apply, hla]
  show (if p.val ≤ i.val % 16 then LA (256 * T + (16 * (i.val / 16) + p.val)) j.val else 0) = _
  rw [show 256 * T + (16 * (i.val / 16) + p.val) = 16 * (16 * T + i.val / 16) + p.val by omega]

include hla in
/-- The block's whole sums are the sequence's. -/
theorem tot_eq (i j : Fin 256) : kernelRun0_B.sl.v89 c arg5 harg5 arg6 harg6 arg7 harg7 x3 x4 x5 (ix2 i j) = bc LA (16 * T + i.val / 16) 15 j.val := by
  rw [tot_apply, bc]
  refine Finset.sum_congr rfl fun p _ => ?_
  rw [la_apply, hla, if_pos (by omega)]
  show LA (256 * T + (16 * (i.val / 16) + p.val)) j.val = _
  rw [show 256 * T + (16 * (i.val / 16) + p.val) = 16 * (16 * T + i.val / 16) + p.val by omega]

include hq in
/-- The block's scaled queries are the sequence's. -/
theorem q_eq (i j : Fin 256) : kernelRun0_B.sl.v7 c arg2 harg2 x0 (ix2 i j) = Q (256 * T + i.val) j.val := by rw [q_apply, hq]

include hk in
/-- The block's keys are the sequence's. -/
theorem k_eq (i j : Fin 256) : kernelRun0_B.sl.v8 c arg2 harg2 x0 (ix2 i j) = K (256 * T + i.val) j.val := by rw [k_apply, hk]

include hv in
/-- The block's values are the sequence's. -/
theorem v_eq (i : Fin 256) (j : Fin 512) : kernelRun0_B.sl.v10 c arg3 harg3 x1 (ix2 i j) = V (256 * T + i.val) j.val := by rw [v_apply, hv]

/-- Running sums read `n` rows back are those of the place `n` earlier. -/
theorem back_eq {LA : ℕ → ℕ → EReal} {T n i j : ℕ} (h : n ≤ i % 16) : bc LA (16 * T + (i - n) / 16) ((i - n) % 16) j = bc LA (16 * T + i / 16) (i % 16 - n) j := by
  rw [show (i - n) / 16 = i / 16 by omega, show (i - n) % 16 = i % 16 - n by omega]

include hr hw in
/-- A block whose outputs before the norm are the attention's ends as the branch's. -/
theorem block_out (o : FVec Ideal S256x512 .f32)
    (ho : ∀ (i : Fin 256) (e : Fin 512), o (ix2 i e) = sO Q K LA V (16 * T + i.val / 16) (i.val % 16) (e.val / 128) (e.val % 128)) (i : Fin 256) (e : Fin 512) :
    View.read (Elt Ideal) VO0_7 (VO0_7.writes (Elt Ideal) VO0_7.junk (outPieces o (rBlk arg4 harg4 x2) (nwBlk arg8 harg8 x6))) (ix3 0 i e)
      = sOut Q K LA V R W (256 * T + i.val) e.val := by
  rw [outPieces_read, headOut_apply, sOut, nw_apply, hw]
  have h4 : e.val / 128 % 4 = e.val / 128 := by omega
  have hx : ∀ x : Fin 128, o (ix2 i ⟨128 * (e.val / 128 % 4) + x.val, by omega⟩) = sO Q K LA V ((256 * T + i.val) / 16) ((256 * T + i.val) % 16) (e.val / 128) x.val := by
    intro x
    rw [ho]
    show sO Q K LA V _ _ ((128 * (e.val / 128 % 4) + x.val) / 128) ((128 * (e.val / 128 % 4) + x.val) % 128) = _
    rw [h4, show (128 * (e.val / 128) + x.val) / 128 = e.val / 128 by omega, show (128 * (e.val / 128) + x.val) % 128 = x.val by omega,
      show 16 * T + i.val / 16 = (256 * T + i.val) / 16 by omega, show i.val % 16 = (256 * T + i.val) % 16 by omega]
  have hg : rBlk arg4 harg4 x2 (ix2 i ⟨128 * (e.val / 128 % 4) + e.val % 128, by omega⟩) = R (256 * T + i.val) e.val := by
    rw [r_apply, hr]
    show R _ (128 * (e.val / 128 % 4) + e.val % 128) = _
    rw [h4, show 128 * (e.val / 128) + e.val % 128 = e.val by omega]
  refine congrArg₂ (· * ·) (congrArg (· * _) (congrArg₂ (· * ·) (hx ⟨e.val % 128, by omega⟩) ?_)) (by rw [hg])
  simp only [hx]

section Later

variable (hs : ∀ (h : Fin 4) (e : Fin 128) (d : Fin 64), xs3 (ix3 h e d) = sSt K LA V h.val (16 * T) e.val d.val)

include hs in
/-- The states a later block starts from. -/
theorem hs_B (h : ℕ) (hh : h < 4) (e : Fin 128) (d : Fin 64) : loadS arg13 (harg13.unread xs3) h (ix2 e d) = sSt K LA V h (16 * T) e.val d.val :=
  (loadS_apply arg13 harg13 xs3 ⟨h, hh⟩ e d).trans (hs ⟨h, hh⟩ e d)

include hq hk hv hr hla hw hs in
/-- A later block's outputs are the branch's. -/
theorem out_B_apply (y : grid0.Coords) (hc : ¬cond0_0 y) (i : Fin 256) (e : Fin 512) :
    out0_B_7 c y arg2 harg2 arg3 harg3 arg4 harg4 arg5 harg5 arg6 harg6 arg7 harg7 arg8 harg8 arg9 harg9 arg10 harg10 arg11 harg11 arg12 harg12 arg13 harg13 hc x0 x1 x2 x3 x4 x5 x6 xs0 xs1 xs2 xs3 (ix3 0 i e)
      = sOut Q K LA V R W (256 * T + i.val) e.val := by
  rw [out_B]
  refine block_out arg4 harg4 arg8 harg8 x2 x6 hr hw _ (fun i e => ?_) i e
  refine oSum_apply (q_eq c arg2 harg2 x0 hq) (k_eq c arg2 harg2 x0 hk) (v_eq c arg3 harg3 x1 hv) (cum_eq c arg5 harg5 arg6 harg6 arg7 harg7 x3 x4 x5 hla)
    (tot_eq c arg5 harg5 arg6 harg6 arg7 harg7 x3 x4 x5 hla) (hs_B arg13 harg13 xs3 hs) (fun n hn i j h => ?_) (fun n hn i j h => ?_) (fun n hn i j h => ?_) i e
  · rw [loadK_k c arg2 harg2 arg10 x0 _ n hn i j h, k_eq c arg2 harg2 x0 hk]
    show K (256 * T + (i.val - n)) j.val = _
    rw [Nat.add_sub_assoc h]
  · rw [loadK_c c arg5 harg5 arg6 harg6 arg7 harg7 arg11 x3 x4 x5 _ n hn i j (by omega), cum_eq c arg5 harg5 arg6 harg6 arg7 harg7 x3 x4 x5 hla]
    exact back_eq h
  · rw [loadV_v c arg3 harg3 arg12 x1 _ n hn i j h, v_eq c arg3 harg3 x1 hv]
    show V (256 * T + (i.val - n)) j.val = _
    rw [Nat.add_sub_assoc h]

include hk hv hla hs in
/-- A later block's states are the sequence's, sixteen chunks on. -/
theorem sout_B_apply (y : grid0.Coords) (hc : ¬cond0_0 y) (h : Fin 4) (e : Fin 128) (d : Fin 64) :
    sout0_B_3 c y arg2 harg2 arg3 harg3 arg4 harg4 arg5 harg5 arg6 harg6 arg7 harg7 arg8 harg8 arg9 harg9 arg10 harg10 arg11 harg11 arg12 harg12 arg13 harg13 hc x0 x1 x2 x3 x4 x5 x6 xs0 xs1 xs2 xs3 (ix3 h e d)
      = sSt K LA V h.val (16 * T + 16) e.val d.val := by
  rw [sout_B, ← List.append_nil (stPieces _), stPieces_read]
  exact stOf_apply (k_eq c arg2 harg2 x0 hk) (v_eq c arg3 harg3 x1 hv) (cum_eq c arg5 harg5 arg6 harg6 arg7 harg7 x3 x4 x5 hla)
    (tot_eq c arg5 harg5 arg6 harg6 arg7 harg7 x3 x4 x5 hla) (hs_B arg13 harg13 xs3 hs) h.val h.isLt 16 le_rfl e d

end Later

section First

variable (hT : T = 0)

include hT in
/-- The states a first block starts from. -/
theorem hs_A (h : ℕ) (hh : h < 4) (e : Fin 128) (d : Fin 64) :
    loadS arg13 (arg13.view.writes (Elt Ideal) arg13.view.junk (kernelRun0_A.sl.HS3_1 (F := Ideal))) h (ix2 e d) = sSt K LA V h (16 * T) e.val d.val := by
  subst hT
  exact loadS_zero arg13 ⟨h, hh⟩ e d

include hq hk hv hr hla hw hT in
/-- A first block's outputs are the branch's. -/
theorem out_A_apply (y : grid0.Coords) (hc : cond0_0 y) (i : Fin 256) (e : Fin 512) :
    out0_A_7 c y arg2 harg2 arg3 harg3 arg4 harg4 arg5 harg5 arg6 harg6 arg7 harg7 arg8 harg8 arg9 harg9 arg10 harg10 arg11 harg11 arg12 harg12 arg13 harg13 hc x0 x1 x2 x3 x4 x5 x6 (ix3 0 i e)
      = sOut Q K LA V R W (256 * T + i.val) e.val := by
  rw [out_A]
  refine block_out arg4 harg4 arg8 harg8 x2 x6 hr hw _ (fun i e => ?_) i e
  refine oSum_apply (q_eq c arg2 harg2 x0 hq) (k_eq c arg2 harg2 x0 hk) (v_eq c arg3 harg3 x1 hv) (cum_eq c arg5 harg5 arg6 harg6 arg7 harg7 x3 x4 x5 hla)
    (tot_eq c arg5 harg5 arg6 harg6 arg7 harg7 x3 x4 x5 hla) (hs_A arg13 hT) (fun n hn i j h => ?_) (fun n hn i j h => ?_) (fun n hn i j h => ?_) i e
  · rw [loadK_k' c arg2 harg2 arg10 x0 _ n hn i j h, k_eq c arg2 harg2 x0 hk]
    show K (256 * T + (i.val - n)) j.val = _
    rw [Nat.add_sub_assoc h]
  · rw [loadK_c' c arg5 harg5 arg6 harg6 arg7 harg7 arg11 x3 x4 x5 _ n hn i j (by omega), cum_eq c arg5 harg5 arg6 harg6 arg7 harg7 x3 x4 x5 hla]
    exact back_eq h
  · rw [loadV_v' c arg3 harg3 arg12 x1 _ n hn i j h, v_eq c arg3 harg3 x1 hv]
    show V (256 * T + (i.val - n)) j.val = _
    rw [Nat.add_sub_assoc h]

include hk hv hla hT in
/-- A first block's states are the sequence's after sixteen chunks. -/
theorem sout_A_apply (y : grid0.Coords) (hc : cond0_0 y) (h : Fin 4) (e : Fin 128) (d : Fin 64) :
    sout0_A_3 c y arg2 harg2 arg3 harg3 arg4 harg4 arg5 harg5 arg6 harg6 arg7 harg7 arg8 harg8 arg9 harg9 arg10 harg10 arg11 harg11 arg12 harg12 arg13 harg13 hc x0 x1 x2 x3 x4 x5 x6 (ix3 h e d)
      = sSt K LA V h.val (16 * T + 16) e.val d.val := by
  rw [sout_A, stPieces_read]
  exact stOf_apply (k_eq c arg2 harg2 x0 hk) (v_eq c arg3 harg3 x1 hv) (cum_eq c arg5 harg5 arg6 harg6 arg7 harg7 x3 x4 x5 hla)
    (tot_eq c arg5 harg5 arg6 harg6 arg7 harg7 x3 x4 x5 hla) (hs_A arg13 hT) h.val h.isLt 16 le_rfl e d

end First

end OneBlock

section Run

variable (m : (ℓ : Loc nD τ sig) → Buf (Elt Ideal) ℓ)

/-- The blocks the grid points read and write. -/
theorem idx_facts : ∀ t : Fin grid0.N, win0_0.index t = ![t.val / 32, t.val % 32, 0] ∧ win0_1.index t = ![t.val / 32, t.val % 32, 0] ∧
    win0_2.index t = ![t.val / 32, t.val % 32, 0] ∧ win0_3.index t = ![t.val / 32, t.val % 32, 0] ∧ win0_4.index t = ![0, 0] ∧ win0_5.index t = ![0, 0] ∧
    win0_6.index t = ![0, 0] ∧ win0_7.index t = ![t.val / 32, t.val % 32, 0] := by decide +kernel

/-- The host's queries and keys side by side. -/
def qkV (q k : FVec Ideal S2x8192x256 .f32) : FVec Ideal S2x8192x512 .f32 :=
  concatenate S2x8192x512 2 [⟨S2x8192x256, q⟩, ⟨S2x8192x256, k⟩] concatenates_S2x8192x256_S2x8192x256_S2x8192x512_d2

/-- The host's gate input, padded with zeros to 128 columns. -/
def padA (x : FVec Ideal S2x8192x16 .f32) : FVec Ideal S2x8192x128 .f32 :=
  pad S2x8192x128 ![0, 0, 0] ![0, 0, 112] ![0, 0, 0] x (sitofp (F := Ideal) .f32 (constantI S_ 32 0#32)) pads_S2x8192x16_S2x8192x128_000_000_01120 h_S_

/-- The host's gate weight, padded with zeros to 128 rows. -/
def padG (w : FVec Ideal S16x256 .f32) : FVec Ideal S128x256 .f32 :=
  pad S128x256 ![0, 0] ![112, 0] ![0, 0] w (sitofp (F := Ideal) .f32 (constantI S_ 32 0#32)) pads_S16x256_S128x256_01120_000 h_S_

/-- The padding word is zero. -/
theorem pad_zero : FloatOps.sitofp (F := Ideal) .f32 0#32 = (0 : EReal) := by
  show ((((0#32 : BitVec 32).toInt : ℝ)) : EReal) = 0
  simp

/-- An entry of the padded gate input. -/
theorem padA_apply (x) (b : Fin 2) (s : Fin 8192) (k : Fin 128) : padA x (ix3 b s k) = if h : k.val < 16 then x (ix3 b s ⟨k.val, h⟩) else 0 := by
  pointwise [padA]
  rw [pad_zero]

/-- An entry of the padded gate weight. -/
theorem padG_apply (w) (k : Fin 128) (j : Fin 256) : padG w (ix2 k j) = if h : k.val < 16 then w (ix2 ⟨k.val, h⟩ j) else 0 := by
  pointwise [padG]
  rw [pad_zero]

/-- The left half of the queries and keys. -/
theorem qkV_q (q k) (b : Fin 2) (s : Fin 8192) (j : Fin 256) : qkV q k (ix3 b s ⟨j.val, by omega⟩) = q (ix3 b s j) := by
  pointwise [qkV]

/-- The right half of the queries and keys. -/
theorem qkV_k (q k) (b : Fin 2) (s : Fin 8192) (j : Fin 256) : qkV q k (ix3 b s ⟨256 + j.val, by omega⟩) = k (ix3 b s j) := by
  pointwise [qkV]

/-- The queries and keys as the region finds them. -/
theorem V_v0 (c : Dev nD) : V m c main_v0 = qkV (m ((c : Thread nD τ).loc main_arg0)) (m ((c : Thread nD τ).loc main_arg1)) := by sl_kernel_rfl
/-- The gate input as the region finds it. -/
theorem V_v1 (c : Dev nD) : V m c main_v1 = padA (m ((c : Thread nD τ).loc main_arg4)) := by sl_kernel_rfl
/-- The gate weight as the region finds it. -/
theorem V_v3 (c : Dev nD) : V m c main_v3 = padG (m ((c : Thread nD τ).loc main_arg5)) := by sl_kernel_rfl
/-- The gate bias as the region finds it. -/
theorem V_v4 (c : Dev nD) : V m c main_v4 = shapeCast S1x256 (m ((c : Thread nD τ).loc main_arg6)) shapeCasts_S256_S1x256 := by sl_kernel_rfl
/-- The norm's weight as the region finds it. -/
theorem V_v5 (c : Dev nD) : V m c main_v5 = shapeCast S1x128 (m ((c : Thread nD τ).loc main_arg7)) shapeCasts_S128_S1x128 := by sl_kernel_rfl

/-- A block's rows of the queries and keys. -/
theorem blk0 (c : Dev nD) (t : Fin cfg0.N) (i : Fin 256) (j : Fin 512) (b : Fin 2) (s : Fin 8192) (hb : b.val = t.val / 32) (hs : s.val = t.val % 32 * 256 + i.val) :
    iblk m c 0 t (ix3 0 i j) = qkV (m ((c : Thread nD τ).loc main_arg0)) (m ((c : Thread nD τ).loc main_arg1)) (ix3 b s j) := by
  rw [iblk]
  show V m c main_v0 ((win0_0.blk t).view.emb (ix3 0 i j)) = _
  rw [show (win0_0.blk t).view.emb (ix3 0 i j) = ix3 b s j by blk_ext [idx_facts t], V_v0]

/-- A block's rows of the values. -/
theorem blk1 (c : Dev nD) (t : Fin cfg0.N) (i : Fin 256) (j : Fin 512) (b : Fin 2) (s : Fin 8192) (hb : b.val = t.val / 32) (hs : s.val = t.val % 32 * 256 + i.val) :
    iblk m c 1 t (ix3 0 i j) = m ((c : Thread nD τ).loc main_arg2) (ix3 b s j) := by
  rw [iblk]
  show V m c main_arg2 ((win0_1.blk t).view.emb (ix3 0 i j)) = _
  rw [show (win0_1.blk t).view.emb (ix3 0 i j) = ix3 b s j by blk_ext [idx_facts t]]
  rfl

/-- A block's rows of the output gates. -/
theorem blk2 (c : Dev nD) (t : Fin cfg0.N) (i : Fin 256) (j : Fin 512) (b : Fin 2) (s : Fin 8192) (hb : b.val = t.val / 32) (hs : s.val = t.val % 32 * 256 + i.val) :
    iblk m c 2 t (ix3 0 i j) = m ((c : Thread nD τ).loc main_arg3) (ix3 b s j) := by
  rw [iblk]
  show V m c main_arg3 ((win0_2.blk t).view.emb (ix3 0 i j)) = _
  rw [show (win0_2.blk t).view.emb (ix3 0 i j) = ix3 b s j by blk_ext [idx_facts t]]
  rfl

/-- A block's rows of the gate input. -/
theorem blk3 (c : Dev nD) (t : Fin cfg0.N) (i : Fin 256) (j : Fin 128) (b : Fin 2) (s : Fin 8192) (hb : b.val = t.val / 32) (hs : s.val = t.val % 32 * 256 + i.val) :
    iblk m c 3 t (ix3 0 i j) = padA (m ((c : Thread nD τ).loc main_arg4)) (ix3 b s j) := by
  rw [iblk]
  show V m c main_v1 ((win0_3.blk t).view.emb (ix3 0 i j)) = _
  rw [show (win0_3.blk t).view.emb (ix3 0 i j) = ix3 b s j by blk_ext [idx_facts t], V_v1]

/-- The gate weight at every point. -/
theorem blk4 (c : Dev nD) (t : Fin cfg0.N) (i : Fin 128) (j : Fin 256) :
    iblk m c 4 t (ix2 i j) = padG (m ((c : Thread nD τ).loc main_arg5)) (ix2 i j) := by
  rw [iblk]
  show V m c main_v3 ((win0_4.blk t).view.emb (ix2 i j)) = _
  rw [show (win0_4.blk t).view.emb (ix2 i j) = ix2 i j by blk_ext [idx_facts t], V_v3]

/-- The gate bias at every point. -/
theorem blk5 (c : Dev nD) (t : Fin cfg0.N) (j : Fin 256) : iblk m c 5 t (ix2 0 j) = m ((c : Thread nD τ).loc main_arg6) (ix1 j) := by
  rw [iblk]
  show V m c main_v4 ((win0_5.blk t).view.emb (ix2 0 j)) = _
  rw [show (win0_5.blk t).view.emb (ix2 0 j) = ix2 0 j by blk_ext [idx_facts t], V_v4]
  pointwise

/-- The norm's weight at every point. -/
theorem blk6 (c : Dev nD) (t : Fin cfg0.N) (j : Fin 128) : iblk m c 6 t (ix2 0 j) = m ((c : Thread nD τ).loc main_arg7) (ix1 j) := by
  rw [iblk]
  show V m c main_v5 ((win0_6.blk t).view.emb (ix2 0 j)) = _
  rw [show (win0_6.blk t).view.emb (ix2 0 j) = ix2 0 j by blk_ext [idx_facts t], V_v5]
  pointwise

/-- The block's preactivation is the sequence's: the padding adds nothing. -/
theorem gate_sum (a : FVec Ideal S2x8192x16 .f32) (w : FVec Ideal S16x256 .f32) (b : Fin 2) (s : Fin 8192) (j : Fin 256) :
    ∑ x : Fin 128, padA a (ix3 b s x) * padG w (ix2 x j) = ∑ x : Fin 16, a (ix3 b s x) * w (ix2 x j) := by
  rw [sum_run (A := 8) (B := 16) _ ⟨0, by omega⟩ fun x hx => ?_]
  · refine Finset.sum_congr rfl fun x _ => ?_
    rw [padA_apply, padG_apply, dif_pos (show 16 * 0 + x.val < 16 by omega), dif_pos (show 16 * 0 + x.val < 16 by omega)]
    refine congrArg₂ (· * ·) (congrArg a ?_) (congrArg w ?_) <;> congr 1 <;> exact Fin.ext (by show 16 * 0 + x.val = x.val; omega)
  · have hx' : x.val / 16 ≠ 0 := hx
    rw [padA_apply, dif_neg (by omega), zero_mul]

/-- The block of queries and keys a point reads. -/
def xb0 (c : Dev nD) (t : Fin cfg0.N) : Vec Ideal S1x256x512 .f32 := iblk m c 0 t
/-- The block of values a point reads. -/
def xb1 (c : Dev nD) (t : Fin cfg0.N) : Vec Ideal S1x256x512 .f32 := iblk m c 1 t
/-- The block of output gates a point reads. -/
def xb2 (c : Dev nD) (t : Fin cfg0.N) : Vec Ideal S1x256x512 .f32 := iblk m c 2 t
/-- The block of gate inputs a point reads. -/
def xb3 (c : Dev nD) (t : Fin cfg0.N) : Vec Ideal S1x256x128 .f32 := iblk m c 3 t
/-- The gate weight a point reads. -/
def xb4 (c : Dev nD) (t : Fin cfg0.N) : Vec Ideal S128x256 .bf16 := iblk m c 4 t
/-- The gate bias a point reads. -/
def xb5 (c : Dev nD) (t : Fin cfg0.N) : Vec Ideal S1x256 .f32 := iblk m c 5 t
/-- The norm's weight a point reads. -/
def xb6 (c : Dev nD) (t : Fin cfg0.N) : Vec Ideal S1x128 .f32 := iblk m c 6 t

section Point

variable (c : Dev nD) (t : Fin cfg0.N) (b : Fin 2) (hb : b.val = t.val / 32)

include hb

/-- The block's scaled queries. -/
theorem pt_q (i j : Fin 256) : xb0 m c t (ix3 0 i ⟨j.val, by omega⟩) * Ideal.ofBits .f32 0x3E000000#32 = gQ (m ((c : Thread nD τ).loc main_arg0)) b (256 * (t.val % 32) + i.val) j.val := by
  rw [xb0, blk0 m c t i _ b ⟨(256 * (t.val % 32) + i.val) % 8192, by omega⟩ hb (by show (256 * (t.val % 32) + i.val) % 8192 = _; omega), qkV_q, gQ, tok256]
  simp only [Nat.mod_eq_of_lt j.isLt]

/-- The block's keys. -/
theorem pt_k (i j : Fin 256) : xb0 m c t (ix3 0 i ⟨256 + j.val, by omega⟩) = tok256 (m ((c : Thread nD τ).loc main_arg1)) b (256 * (t.val % 32) + i.val) j.val := by
  rw [xb0, blk0 m c t i _ b ⟨(256 * (t.val % 32) + i.val) % 8192, by omega⟩ hb (by show (256 * (t.val % 32) + i.val) % 8192 = _; omega), qkV_k, tok256]
  simp only [Nat.mod_eq_of_lt j.isLt]

/-- The block's values. -/
theorem pt_v (i : Fin 256) (j : Fin 512) : xb1 m c t (ix3 0 i j) = tok512 (m ((c : Thread nD τ).loc main_arg2)) b (256 * (t.val % 32) + i.val) j.val := by
  rw [xb1, blk1 m c t i _ b ⟨(256 * (t.val % 32) + i.val) % 8192, by omega⟩ hb (by show (256 * (t.val % 32) + i.val) % 8192 = _; omega), tok512]
  simp only [Nat.mod_eq_of_lt j.isLt]

/-- The block's output gates. -/
theorem pt_r (i : Fin 256) (j : Fin 512) : xb2 m c t (ix3 0 i j) = tok512 (m ((c : Thread nD τ).loc main_arg3)) b (256 * (t.val % 32) + i.val) j.val := by
  rw [xb2, blk2 m c t i _ b ⟨(256 * (t.val % 32) + i.val) % 8192, by omega⟩ hb (by show (256 * (t.val % 32) + i.val) % 8192 = _; omega), tok512]
  simp only [Nat.mod_eq_of_lt j.isLt]

/-- The block's log decays. -/
theorem pt_la (i j : Fin 256) : lsig (∑ x : Fin 128, xb3 m c t (ix3 0 i x) * xb4 m c t (ix2 x j) + xb5 m c t (ix2 0 j))
    = gLA (m ((c : Thread nD τ).loc main_arg4)) (m ((c : Thread nD τ).loc main_arg5)) (m ((c : Thread nD τ).loc main_arg6)) b (256 * (t.val % 32) + i.val) j.val := by
  rw [gLA, xb5, blk5]
  simp only [xb3, xb4, fun x => blk3 m c t i x b ⟨(256 * (t.val % 32) + i.val) % 8192, by omega⟩ hb (by show (256 * (t.val % 32) + i.val) % 8192 = _; omega), blk4]
  refine congrArg lsig (congrArg₂ (· + ·) ((gate_sum _ _ _ _ _).trans ?_) ?_)
  · simp only [Nat.mod_eq_of_lt j.isLt]
  · simp only [Nat.mod_eq_of_lt j.isLt]

omit hb in
/-- The norm's weight. -/
theorem pt_w (j : Fin 128) : xb6 m c t (ix2 0 j) = gW (m ((c : Thread nD τ).loc main_arg7)) j.val := by
  rw [xb6, blk6, gW]
  simp only [Nat.mod_eq_of_lt j.isLt]

end Point

/-- What the first point of a sequence leaves in the scratch. -/
theorem scr_at_A (c : Dev nD) (t : Fin cfg0.N) (h0 : t.val % 32 = 0) : (outsAt0 m c t.val t.isLt).2.2.2.2 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (xb0 m c t) (xb1 m c t) (xb2 m c t) (xb3 m c t) (xb4 m c t) (xb5 m c t) (xb6 m c t) := by
  rw [outsAt0_A m c t h0]
  rfl

/-- What the first point of a sequence leaves in the output block. -/
theorem blk_at_A (c : Dev nD) (t : Fin cfg0.N) (h0 : t.val % 32 = 0) : (outsAt0 m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (xb0 m c t) (xb1 m c t) (xb2 m c t) (xb3 m c t) (xb4 m c t) (xb5 m c t) (xb6 m c t) := by
  unfold xb0 xb1 xb2 xb3 xb4 xb5 xb6
  rw [outsAt0_A m c t h0]

/-- What a later point of a sequence leaves in the scratch. -/
theorem scr_at_B (c : Dev nD) (t : Fin cfg0.N) (h0 : ¬t.val % 32 = 0) : (outsAt0 m c t.val t.isLt).2.2.2.2 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (xb0 m c t) (xb1 m c t) (xb2 m c t) (xb3 m c t) (xb4 m c t) (xb5 m c t) (xb6 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  rw [outsAt0_B m c t h0]
  rfl

/-- What a later point of a sequence leaves in the output block. -/
theorem blk_at_B (c : Dev nD) (t : Fin cfg0.N) (h0 : ¬t.val % 32 = 0) : (outsAt0 m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (xb0 m c t) (xb1 m c t) (xb2 m c t) (xb3 m c t) (xb4 m c t) (xb5 m c t) (xb6 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  unfold xb0 xb1 xb2 xb3 xb4 xb5 xb6
  rw [outsAt0_B m c t h0]

/-- After the first point of a sequence the scratch holds the states after sixteen chunks. -/
theorem state_first (c : Dev nD) (t : Fin cfg0.N) (b : Fin 2) (hb : b.val = t.val / 32) (h0 : t.val % 32 = 0) (h : Fin 4) (e : Fin 128) (d : Fin 64) :
    (outsAt0 m c t.val t.isLt).2.2.2.2 (ix3 h e d) = sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * (t.val % 32) + 16) e.val d.val :=
  by
  rw [scr_at_A m c t h0]
  exact
    (sout_A_apply (T := t.val % 32) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 scM0_1 (Memref.isWhole_whole _) (Memref.isWhole_whole _) scM0_2 (Memref.isWhole_whole _) (ms0_7 t) (hs0_7 t) scM0_3 (Memref.isWhole_whole _) (xb0 m c t) (xb1 m c t) (xb2 m c t) (xb3 m c t) (xb4 m c t) (xb5 m c t) (xb6 m c t)
      (pt_k m c t b hb) (pt_v m c t b hb) (pt_la m c t b hb) h0 (grid0.coords t) ((hcond0_0 t).mpr h0) h e d)

/-- After a later point the scratch holds the states sixteen chunks on. -/
theorem state_later (c : Dev nD) (t : Fin cfg0.N) (b : Fin 2) (hb : b.val = t.val / 32) (h0 : ¬t.val % 32 = 0)
    (hs : ∀ (h : Fin 4) (e : Fin 128) (d : Fin 64), (outsAt0 m c (t.val - 1) (Nat.lt_of_le_of_lt (Nat.sub_le _ _) t.isLt)).2.2.2.2 (ix3 h e d)
      = sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * (t.val % 32)) e.val d.val) (h : Fin 4) (e : Fin 128) (d : Fin 64) :
    (outsAt0 m c t.val t.isLt).2.2.2.2 (ix3 h e d) = sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * (t.val % 32) + 16) e.val d.val :=
  by
  rw [scr_at_B m c t h0]
  exact
    (sout_B_apply (T := t.val % 32) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 scM0_1 (Memref.isWhole_whole _) (Memref.isWhole_whole _) scM0_2 (Memref.isWhole_whole _) (ms0_7 t) (hs0_7 t) scM0_3 (Memref.isWhole_whole _) (xb0 m c t) (xb1 m c t) (xb2 m c t) (xb3 m c t) (xb4 m c t) (xb5 m c t) (xb6 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
      (pt_k m c t b hb) (pt_v m c t b hb) (pt_la m c t b hb) hs (grid0.coords t) (fun h => h0 ((hcond0_0 t).mp h)) h e d)

/-- After each point the scratch holds the sequence's states at the next block's start. -/
theorem state_at (c : Dev nD) (n : ℕ) (hn : n < cfg0.N) (b : Fin 2) (hb : b.val = n / 32) (h : Fin 4) (e : Fin 128) (d : Fin 64) :
    (outsAt0 m c n hn).2.2.2.2 (ix3 h e d) = sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * (n % 32) + 16) e.val d.val := by
  induction n generalizing h e d with
  | zero => exact state_first m c ⟨0, hn⟩ b hb rfl h e d
  | succ n ih =>
    by_cases h0 : (n + 1) % 32 = 0
    · exact state_first m c ⟨n + 1, hn⟩ b hb h0 h e d
    · refine state_later m c ⟨n + 1, hn⟩ b hb h0 (fun h e d => ?_) h e d
      refine (ih (Nat.lt_of_succ_lt hn) (by omega) h e d).trans ?_
      show sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * (n % 32) + 16) e.val d.val = sSt (tok256 (m ((c : Thread nD τ).loc main_arg1)) b) (gLA (m ((c : Thread nD τ).loc main_arg4)) (m ((c : Thread nD τ).loc main_arg5)) (m ((c : Thread nD τ).loc main_arg6)) b) (tok512 (m ((c : Thread nD τ).loc main_arg2)) b) h.val (16 * ((n + 1) % 32)) e.val d.val
      rw [show 16 * (n % 32) + 16 = 16 * ((n + 1) % 32) by omega]

/-- After each point the output block holds the branch's rows. -/
theorem out_at (c : Dev nD) (t : Fin cfg0.N) (b : Fin 2) (hb : b.val = t.val / 32) (i : Fin 256) (e : Fin 512) :
    (outsAt0 m c t.val t.isLt).1 (ix3 0 i e) = glaAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b (256 * (t.val % 32) + i.val) e.val := by
  by_cases h0 : t.val % 32 = 0
  · rw [blk_at_A m c t h0]
    exact
      (out_A_apply (T := t.val % 32) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 scM0_1 (Memref.isWhole_whole _) (Memref.isWhole_whole _) scM0_2 (Memref.isWhole_whole _) (ms0_7 t) (hs0_7 t) scM0_3 (Memref.isWhole_whole _) (xb0 m c t) (xb1 m c t) (xb2 m c t) (xb3 m c t) (xb4 m c t) (xb5 m c t) (xb6 m c t)
        (pt_q m c t b hb) (pt_k m c t b hb) (pt_v m c t b hb) (pt_r m c t b hb) (pt_la m c t b hb) (pt_w m c t) h0 (grid0.coords t) ((hcond0_0 t).mpr h0) i e)
  · rw [blk_at_B m c t h0]
    refine
      (out_B_apply (T := t.val % 32) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 scM0_1 (Memref.isWhole_whole _) (Memref.isWhole_whole _) scM0_2 (Memref.isWhole_whole _) (ms0_7 t) (hs0_7 t) scM0_3 (Memref.isWhole_whole _) (xb0 m c t) (xb1 m c t) (xb2 m c t) (xb3 m c t) (xb4 m c t) (xb5 m c t) (xb6 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
        (pt_q m c t b hb) (pt_k m c t b hb) (pt_v m c t b hb) (pt_r m c t b hb) (pt_la m c t b hb) (pt_w m c t) (fun h e d => ?_) (grid0.coords t) (fun h => h0 ((hcond0_0 t).mp h)) i e)
    refine (state_at m c (t.val - 1) _ b (by omega) h e d).trans ?_
    rw [show 16 * ((t.val - 1) % 32) + 16 = 16 * (t.val % 32) by omega]

/-- The kernel's result is the branch over the whole arrays. -/
theorem final (c : Dev nD) : (dats m 0 c).arrAt 7 cfg0.N = glaVec (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 7 _ (by decide +kernel) fun t hf y => ?_
  blk_simp
  rw [after0_7]
  idx_vars y
  have ht : t.val < 64 := t.isLt
  have he : ((View.whole main_v6).slice (win0_7.rect t)).emb (ix3 y0 y1 y2) = ix3 ⟨t.val / 32, by omega⟩ ⟨t.val % 32 * 256 + y1.val, by omega⟩ y2 := by
    blk_ext [idx_facts t]
  rw [he]
  have hy : y0 = 0 := Fin.ext (by omega)
  subst hy
  refine (out_at m c t ⟨t.val / 32, by omega⟩ rfl y1 y2).trans ?_
  show _ = glaAt _ _ _ _ _ _ _ _ _ (t.val % 32 * 256 + y1.val) y2.val
  rw [Nat.mul_comm 256]
  rfl

end Run

end Cert.Gla
-- ==== Proof.GlaRef.lean ====
module

public import proofs.«01_k».proof.Proof.GlaSpec
public import proofs.«01_k».proof.Proof.Gen.ReferenceIdeal.Run

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

/-! The reference program's arrays before its loop over the chunks, as functions of the arguments. -/

/-- The gate's preactivation. -/
def rZ (a : FVec Ideal S2x8192x16 .f32) (w : FVec Ideal S16x256 .f32) (g : FVec Ideal S256 .f32) : FVec Ideal S2x8192x256 .f32 :=
  addf (Host.dotGeneral dot_S2x8192x16_S16x256_S2x8192x256_2_0_01_1_n_n none a w)
    (broadcastInDim S2x8192x256 ![0, 1, 2] bcast_S1x1x256_S2x8192x256_0_1_2 (broadcastInDim S1x1x256 ![2] bcast_S256_S1x1x256_2 g))

/-- A constant over the whole gate array. -/
def rConst (b : BitVec 32) : FVec Ideal S2x8192x256 .f32 := broadcastInDim S2x8192x256 ![] bcast_S_S2x8192x256 (constant S_ .f32 b)

/-- The softplus of an array. -/
def rSoft (z : FVec Ideal S2x8192x256 .f32) : FVec Ideal S2x8192x256 .f32 :=
  select (cmpf .une (subf z (rConst 0#32)) (subf z (rConst 0#32))) (addf z (rConst 0#32))
    (addf (maximumf z (rConst 0#32)) (Host.log1p (Host.exp (Host.negf (Host.absf (subf z (rConst 0#32)))))))

/-- The log decays of every token. -/
def rLA (a : FVec Ideal S2x8192x16 .f32) (w : FVec Ideal S16x256 .f32) (g : FVec Ideal S256 .f32) : FVec Ideal S2x8192x256 .f32 :=
  Host.divf (Host.negf (rSoft (Host.negf (rZ a w g)))) (rConst 0x41800000#32)

/-- 256 columns by head, chunk and place. -/
def rSplit (x : FVec Ideal S2x8192x256 .f32) : FVec Ideal S2x4x512x16x64 .f32 :=
  transpose S2x4x512x16x64 [0, 3, 1, 2, 4] (shapeCast S2x512x16x4x64 x shapeCasts_S2x8192x256_S2x512x16x4x64) transposes_S2x512x16x4x64_S2x4x512x16x64_0_3_1_2_4

/-- 512 columns by head, chunk and place. -/
def rSplitV (x : FVec Ideal S2x8192x512 .f32) : FVec Ideal S2x4x512x16x128 .f32 :=
  transpose S2x4x512x16x128 [0, 3, 1, 2, 4] (shapeCast S2x512x16x4x128 x shapeCasts_S2x8192x512_S2x512x16x4x128) transposes_S2x512x16x4x128_S2x4x512x16x128_0_3_1_2_4

/-- The scaled queries. -/
def rQ (q : FVec Ideal S2x8192x256 .f32) : FVec Ideal S2x4x512x16x64 .f32 :=
  mulf (rSplit q) (broadcastInDim S2x4x512x16x64 ![] bcast_S_S2x4x512x16x64 (constant S_ .f32 0x3E000000#32))

/-- The running sums of the log decays inside each chunk. -/
def rC (x : FVec Ideal S2x4x512x16x64 .f32) : FVec Ideal S2x4x512x16x64 .f32 :=
  Host.reduceWindowAdd ![1, 1, 1, 16, 1] ![1, 1, 1, 1, 1] ![0, 0, 0, 15, 0] ![0, 0, 0, 0, 0] x (broadcastInDim S_ ![] bcast_S_S_ (constant S_ .f32 0x00000000#32))
    reduceWindows_S2x4x512x16x64_S2x4x512x16x64_w1s1p0_0_w1s1p0_0_w1s1p0_0_w16s1p15_0_w1s1p0_0 h_S_

/-- The causal mask of a chunk. -/
def rMask : Vec Ideal S16x16 .i1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))

/-- One place's array against every other place of the chunk. -/
def rRow (x : FVec Ideal S2x4x512x16x64 .f32) : FVec Ideal S2x4x512x16x16x64 .f32 :=
  broadcastInDim S2x4x512x16x16x64 ![0, 1, 2, 3, 4, 5] bcast_S2x4x512x16x1x64_S2x4x512x16x16x64_0_1_2_3_4_5
    (broadcastInDim S2x4x512x16x1x64 ![0, 1, 2, 3, 5] bcast_S2x4x512x16x64_S2x4x512x16x1x64_0_1_2_3_5 x)

/-- Every other place of the chunk against one place. -/
def rCol (x : FVec Ideal S2x4x512x16x64 .f32) : FVec Ideal S2x4x512x16x16x64 .f32 :=
  broadcastInDim S2x4x512x16x16x64 ![0, 1, 2, 3, 4, 5] bcast_S2x4x512x1x16x64_S2x4x512x16x16x64_0_1_2_3_4_5
    (broadcastInDim S2x4x512x1x16x64 ![0, 1, 2, 4, 5] bcast_S2x4x512x16x64_S2x4x512x1x16x64_0_1_2_4_5 x)

/-- The masked differences of the running sums. -/
def rDiff (C : FVec Ideal S2x4x512x16x64 .f32) : FVec Ideal S2x4x512x16x16x64 .f32 :=
  select (broadcastInDim S2x4x512x16x16x64 ![3, 4, 5] bcast_S16x16x1_S2x4x512x16x16x64_3_4_5 (broadcastInDim S16x16x1 ![0, 1] bcast_S16x16_S16x16x1_0_1 rMask))
    (subf (rRow C) (rCol C)) (broadcastInDim S2x4x512x16x16x64 ![] bcast_S_S2x4x512x16x16x64 (constant S_ .f32 0xFF800000#32))

/-- The scores of each place against every place of its chunk. -/
def rScore (Q K C : FVec Ideal S2x4x512x16x64 .f32) : FVec Ideal S2x4x512x16x16 .f32 :=
  Host.reduceAdd (mulf (mulf (rRow Q) (rCol K)) (Host.exp (rDiff C))) (constant S_ .f32 0x00000000#32) reducesTo_S2x4x512x16x16x64_S2x4x512x16x16_d5 h_S_

/-- What the chunks' own tokens give. -/
def rIntra (Q K C : FVec Ideal S2x4x512x16x64 .f32) (V : FVec Ideal S2x4x512x16x128 .f32) : FVec Ideal S2x4x512x16x128 .f32 :=
  Host.dotGeneral dot_S2x4x512x16x16_S2x4x512x16x128_S2x4x512x16x128_4_3_3_4_012_012 none (rScore Q K C) V

/-- The keys decayed to their chunk's end. -/
def rKd (K C : FVec Ideal S2x4x512x16x64 .f32) : FVec Ideal S2x4x512x16x64 .f32 :=
  mulf K (Host.exp (subf (broadcastInDim S2x4x512x16x64 ![0, 1, 2, 3, 4] bcast_S2x4x512x1x64_S2x4x512x16x64_0_1_2_3_4
    (extractStridedSlice S2x4x512x1x64 ![0, 0, 0, 15, 0] C slices_S2x4x512x16x64_S2x4x512x1x64_0_0_0_15_0)) C))

/-- The decays over whole chunks. -/
def rTot (C : FVec Ideal S2x4x512x16x64 .f32) : FVec Ideal S2x4x512x64 .f32 :=
  Host.exp (shapeCast S2x4x512x64 (extractStridedSlice S2x4x512x1x64 ![0, 0, 0, 15, 0] C slices_S2x4x512x16x64_S2x4x512x1x64_0_0_0_15_0) shapeCasts_S2x4x512x1x64_S2x4x512x64)

section Entry

variable (m : (ℓ : Loc nD τ sig) → Buf (Elt Ideal) ℓ) (c : Dev nD)

/-- The running sums from the launch's arguments. -/
def rCm : FVec Ideal S2x4x512x16x64 .f32 := rC (rSplit (rLA (m ((c : Thread nD τ).loc main_arg4)) (m ((c : Thread nD τ).loc main_arg5)) (m ((c : Thread nD τ).loc main_arg6))))

/-- The loop starts with the decayed queries, chunk by chunk. -/
theorem entry_q : entryContents preI m c (Proc.devRef .tc main_v53_0)
    = transpose S512x2x4x16x64 [2, 0, 1, 3, 4] (mulf (rQ (m ((c : Thread nD τ).loc main_arg0))) (Host.exp (rCm m c))) transposes_S2x4x512x16x64_S512x2x4x16x64_2_0_1_3_4 := by
  simp only [entryContents, afterL_cons, afterL_nil]
  after_reads_simp
  rfl

/-- The loop starts with the keys decayed to their chunk's end, chunk by chunk. -/
theorem entry_k : entryContents preI m c (Proc.devRef .tc main_v53_1)
    = transpose S512x2x4x16x64 [2, 0, 1, 3, 4] (rKd (rSplit (m ((c : Thread nD τ).loc main_arg1))) (rCm m c)) transposes_S2x4x512x16x64_S512x2x4x16x64_2_0_1_3_4 := by
  simp only [entryContents, afterL_cons, afterL_nil]
  after_reads_simp
  rfl

/-- The loop starts with the values, chunk by chunk. -/
theorem entry_v : entryContents preI m c (Proc.devRef .tc main_v53_2)
    = transpose S512x2x4x16x128 [2, 0, 1, 3, 4] (rSplitV (m ((c : Thread nD τ).loc main_arg2))) transposes_S2x4x512x16x128_S512x2x4x16x128_2_0_1_3_4 := by
  simp only [entryContents, afterL_cons, afterL_nil]
  after_reads_simp
  rfl

/-- The loop starts with the decays over whole chunks. -/
theorem entry_t : entryContents preI m c (Proc.devRef .tc main_v53_3)
    = transpose S512x2x4x64 [2, 0, 1, 3] (rTot (rCm m c)) transposes_S2x4x512x64_S512x2x4x64_2_0_1_3 := by
  simp only [entryContents, afterL_cons, afterL_nil]
  after_reads_simp
  rfl

/-- The loop starts with what the chunks' own tokens give. -/
theorem entry_i : entryContents preI m c (Proc.devRef .tc main_v53_4)
    = transpose S512x2x4x16x128 [2, 0, 1, 3, 4] (rIntra (rQ (m ((c : Thread nD τ).loc main_arg0))) (rSplit (m ((c : Thread nD τ).loc main_arg1))) (rCm m c)
        (rSplitV (m ((c : Thread nD τ).loc main_arg2)))) transposes_S2x4x512x16x128_S512x2x4x16x128_2_0_1_3_4 := by
  simp only [entryContents, afterL_cons, afterL_nil]
  after_reads_simp
  rfl

/-- The loop starts with zero states. -/
theorem entry_s : entryContents preI m c (Proc.devRef .tc main_v53_6) = broadcastInDim S2x4x64x128 ![] bcast_S_S2x4x64x128 (constant (F := Ideal) S_ .f32 0x00000000#32) := by
  simp only [entryContents, afterL_cons, afterL_nil]
  after_reads_simp
  rfl

end Entry

end Cert.Gla
-- ==== Proof.GlaRefAt.lean ====
module

public import proofs.«01_k».proof.Proof.GlaRef

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

/-! The same arrays read at an index. -/

/-- The gate's preactivation at a token and column. -/
theorem rZ_apply (a : FVec Ideal S2x8192x16 .f32) (w : FVec Ideal S16x256 .f32) (g : FVec Ideal S256 .f32) (b : Fin 2) (s : Fin 8192) (c : Fin 256) :
    rZ a w g (ix3 b s c) = ∑ x : Fin 16, a (ix3 b s x) * w (ix2 x c) + g (ix1 c) := by
  pointwise [rZ]

/-- The log of one plus an exponential is never minus infinity. -/
theorem log1p_exp_ne_bot (y : EReal) : Ideal.log1p (Ideal.exp y) ≠ ⊥ := by
  have hl : ∀ r : ℝ, 0 < r → Ideal.log (r : EReal) ≠ ⊥ := fun r hr => by
    rw [show Ideal.log (r : EReal) = if r ≤ 0 then ⊥ else (Real.log r : EReal) from rfl, if_neg (not_le.mpr hr)]
    exact EReal.coe_ne_bot _
  rw [Ideal.log1p]
  induction y with
  | bot =>
    rw [Ideal.exp_bot, add_zero]
    exact hl 1 one_pos
  | top =>
    rw [Ideal.exp_top, ← EReal.coe_one, EReal.coe_add_top]
    exact top_ne_bot
  | coe r =>
    rw [Ideal.exp_coe, ← EReal.coe_one, ← EReal.coe_add]
    exact hl _ (add_pos one_pos (Real.exp_pos r))

/-- Minus a softplus is a log sigmoid. -/
theorem neg_soft (z : EReal) : -(max (-z) 0 + Ideal.log1p (Ideal.exp (-FloatOps.absf (F := Ideal) (φ := .f32) (-z))))
    = min z 0 - Ideal.log1p (Ideal.exp (0 - FloatOps.absf (F := Ideal) (φ := .f32) z)) := by
  have ha : FloatOps.absf (F := Ideal) (φ := .f32) (-z) = FloatOps.absf (F := Ideal) (φ := .f32) z := by
    show max (-z) (- -z) = max z (-z)
    rw [neg_neg, max_comm]
  rw [ha, EReal.neg_add (Or.inl (ne_of_gt (lt_of_lt_of_le EReal.bot_lt_zero (le_max_right _ _)))) (Or.inr (log1p_exp_ne_bot _)), zero_sub]
  refine congrArg (· - _) ?_
  rw [show max (-z) (0 : EReal) = max (-z) (-0) by rw [neg_zero], EReal.max_neg_neg, neg_neg]

/-- Dividing by sixteen is multiplying by a sixteenth. -/
theorem div_sixteen (x : EReal) : Ideal.div x (Ideal.ofBits .f32 0x41800000#32) = x * Ideal.ofBits .f32 0x3D800000#32 := by
  rw [show Ideal.ofBits .f32 0x41800000#32 = ((16 : ℝ) : EReal) by simp [Ideal.ofBits, Ideal.ieee, -EReal.coe_mul]; norm_num,
    show Ideal.ofBits .f32 0x3D800000#32 = ((1 / 16 : ℝ) : EReal) by simp [Ideal.ofBits, Ideal.ieee, -EReal.coe_mul]; norm_num]
  exact Ideal.div_coe (by norm_num) x

/-- The log decays at a token and column. -/
theorem rLA_apply (a : FVec Ideal S2x8192x16 .f32) (w : FVec Ideal S16x256 .f32) (g : FVec Ideal S256 .f32) (b : Fin 2) (s : Fin 8192) (c : Fin 256) :
    rLA a w g (ix3 b s c) = lsig (∑ x : Fin 16, a (ix3 b s x) * w (ix2 x c) + g (ix1 c)) := by
  pointwise [rLA, rSoft, rConst, rZ_apply, lsig]
  rw [if_neg (fun hne => hne rfl), neg_soft]
  exact div_sixteen _

/-- A column of a head at a place of a chunk. -/
theorem rSplit_apply (x : FVec Ideal S2x8192x256 .f32) (b : Fin 2) (h : Fin 4) (n : Fin 512) (p : Fin 16) (d : Fin 64) :
    rSplit x (ix5 b h n p d) = x (ix3 b ⟨16 * n.val + p.val, by omega⟩ ⟨64 * h.val + d.val, by omega⟩) := by
  pointwise [rSplit]
  simp only [Nat.mul_comm n.val, Nat.mul_comm h.val]

/-- The same for the values. -/
theorem rSplitV_apply (x : FVec Ideal S2x8192x512 .f32) (b : Fin 2) (h : Fin 4) (n : Fin 512) (p : Fin 16) (d : Fin 128) :
    rSplitV x (ix5 b h n p d) = x (ix3 b ⟨16 * n.val + p.val, by omega⟩ ⟨128 * h.val + d.val, by omega⟩) := by
  pointwise [rSplitV]
  simp only [Nat.mul_comm n.val, Nat.mul_comm h.val]

/-- The scaled queries at an index. -/
theorem rQ_apply (x : FVec Ideal S2x8192x256 .f32) (b : Fin 2) (h : Fin 4) (n : Fin 512) (p : Fin 16) (d : Fin 64) :
    rQ x (ix5 b h n p d) = x (ix3 b ⟨16 * n.val + p.val, by omega⟩ ⟨64 * h.val + d.val, by omega⟩) * Ideal.ofBits .f32 0x3E000000#32 := by
  pointwise [rQ, rSplit_apply]

/-- Adding up a list from a start. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- What one position of the running sum's window gives. -/
def winTerm (x : FVec Ideal S2x4x512x16x64 .f32) (b : Fin 2) (h : Fin 4) (n : Fin 512) (p : Fin 16) (d : Fin 64) (w : (⟨5, ![1, 1, 1, 16, 1]⟩ : Shape).Idx) : EReal :=
  if 15 ≤ p.val + (w 3).val then x (ix5 b h n ⟨(p.val + (w 3).val - 15) % 16, Nat.mod_lt _ (by norm_num)⟩ d) else 0

/-- The window's positions inside the array are those not before the chunk. -/
theorem winTerm_eq (x : FVec Ideal S2x4x512x16x64 .f32) (b : Fin 2) (h : Fin 4) (n : Fin 512) (p : Fin 16) (d : Fin 64) (w : (⟨5, ![1, 1, 1, 16, 1]⟩ : Shape).Idx)
    (D : Decidable (∀ a : Fin 5, ![0, 0, 0, 15, 0] a ≤ (ix5 b h n p d a).val * ![1, 1, 1, 1, 1] a + (w a).val
        ∧ (ix5 b h n p d a).val * ![1, 1, 1, 1, 1] a + (w a).val - ![0, 0, 0, 15, 0] a < (![2, 4, 512, 16, 64] : Fin 5 → ℕ) a)) :
    @dite EReal _ D (fun hin => x fun a => ⟨(ix5 b h n p d a).val * ![1, 1, 1, 1, 1] a + (w a).val - ![0, 0, 0, 15, 0] a, (hin a).2⟩) (fun _ => 0)
      = winTerm x b h n p d w := by
  obtain ⟨w0, w1, w2, k, w4, rfl⟩ : ∃ (w0 w1 w2 : Fin 1) (k : Fin 16) (w4 : Fin 1), w = ix5 w0 w1 w2 k w4 := ⟨_, _, _, _, _, eq_ix5 w⟩
  have h0 : w0.val = 0 := by omega
  have h1 : w1.val = 0 := by omega
  have h2 : w2.val = 0 := by omega
  have h4 : w4.val = 0 := by omega
  have hk := k.isLt
  have hp := p.isLt
  by_cases hle : 15 ≤ p.val + k.val
  · refine (dif_pos fun a => ?_).trans ((congrArg x ?_).trans (if_pos (show 15 ≤ p.val + (ix5 w0 w1 w2 k w4 3).val from hle)).symm)
    · match a with
      | ⟨0, _⟩ => exact ⟨Nat.zero_le _, show b.val * 1 + w0.val - 0 < 2 by omega⟩
      | ⟨1, _⟩ => exact ⟨Nat.zero_le _, show h.val * 1 + w1.val - 0 < 4 by omega⟩
      | ⟨2, _⟩ => exact ⟨Nat.zero_le _, show n.val * 1 + w2.val - 0 < 512 by omega⟩
      | ⟨3, _⟩ => exact ⟨show 15 ≤ p.val * 1 + k.val by omega, show p.val * 1 + k.val - 15 < 16 by omega⟩
      | ⟨4, _⟩ => exact ⟨Nat.zero_le _, show d.val * 1 + w4.val - 0 < 64 by omega⟩
    · funext a
      apply Fin.ext
      match a with
      | ⟨0, _⟩ => exact (show b.val * 1 + w0.val - 0 = b.val by omega)
      | ⟨1, _⟩ => exact (show h.val * 1 + w1.val - 0 = h.val by omega)
      | ⟨2, _⟩ => exact (show n.val * 1 + w2.val - 0 = n.val by omega)
      | ⟨3, _⟩ => exact (show p.val * 1 + k.val - 15 = (p.val + k.val - 15) % 16 by omega)
      | ⟨4, _⟩ => exact (show d.val * 1 + w4.val - 0 = d.val by omega)
  · refine (dif_neg fun hin => hle ?_).trans (if_neg (show ¬15 ≤ p.val + (ix5 w0 w1 w2 k w4 3).val from hle)).symm
    have h3 : 15 ≤ p.val * 1 + k.val := (hin 3).1
    omega

/-- The running sums at an index. -/
theorem rC_apply (x : FVec Ideal S2x4x512x16x64 .f32) (b : Fin 2) (h : Fin 4) (n : Fin 512) (p : Fin 16) (d : Fin 64) :
    rC x (ix5 b h n p d) = ∑ j : Fin 16, if j.val ≤ p.val then x (ix5 b h n j d) else 0 := by
  have hz : (broadcastInDim S_ ![] bcast_S_S_ (constant (F := Ideal) S_ .f32 0x00000000#32)) (Shape.Idx.first h_S_) = (0 : EReal) := Ideal.ofBits_zero .f32
  unfold rC Host.reduceWindowAdd
  rw [Ideal.hostReduceWindowAdd_def, Ideal.hostReduceWindowAdd, Host.reduceWindow]
  rw [hz]
  dsimp only
  rw [foldl_sum, zero_add, ← Fin.sum_univ_def]
  refine (Finset.sum_congr rfl fun i _ => ?_).trans
    ((Equiv.sum_comp (Shape.rowMajor ⟨5, ![1, 1, 1, 16, 1]⟩).symm (winTerm x b h n p d)).trans ?_)
  · exact winTerm_eq x b h n p d _ _
  rw [sum_idx5]
  simp only [Finset.univ_unique, Finset.sum_singleton]
  refine Eq.trans ?_ (sum_back (fun j => x (ix5 b h n ⟨j % 16, Nat.mod_lt _ (by norm_num)⟩ d)) p.val p.isLt) |>.trans ?_
  · rw [← Fin.sum_univ_eq_sum_range (fun k => if k ≤ p.val then x (ix5 b h n ⟨(p.val - k) % 16, Nat.mod_lt _ (by norm_num)⟩ d) else 0) 16,
      ← Equiv.sum_comp Fin.revPerm]
    refine Finset.sum_congr rfl fun k _ => ?_
    have hk := k.isLt
    show (if 15 ≤ p.val + (Fin.rev k).val then _ else _) = _
    have hr : (Fin.rev k).val = 15 - k.val := by rw [Fin.val_rev]; omega
    by_cases hp : k.val ≤ p.val
    · rw [if_pos hp, if_pos (by omega)]
      refine congrArg x (congrArg (fun q => ix5 b h n q d) (Fin.ext ?_))
      show (p.val + (Fin.rev k).val - 15) % 16 = (p.val - k.val) % 16
      rw [hr]
      omega
    · rw [if_neg hp, if_neg (by omega)]
  · refine Finset.sum_congr rfl fun j _ => ?_
    simp only [Nat.mod_eq_of_lt j.isLt]

/-- The causal mask at an index. -/
theorem rMask_apply (i j : Fin 16) : rMask (ix2 i j) = if j.val ≤ i.val then 1#1 else 0#1 := by
  pointwise [rMask]
  revert i j
  decide +kernel

/-- The masked differences at an index. -/
theorem rDiff_apply (C : FVec Ideal S2x4x512x16x64 .f32) (b : Fin 2) (h : Fin 4) (n : Fin 512) (i j : Fin 16) (d : Fin 64) :
    rDiff C (ix6 b h n i j d) = if j.val ≤ i.val then C (ix5 b h n i d) - C (ix5 b h n j d) else ⊥ := by
  pointwise [rDiff, rMask_apply, rRow, rCol]
  by_cases hij : j.val ≤ i.val
  · rw [if_pos hij, if_pos hij]
    rfl
  · rw [if_neg hij, if_neg hij]
    show Ideal.ofBits .f32 0xFF800000#32 = ⊥
    simp [Ideal.ofBits, Ideal.ieee, -EReal.coe_mul]

/-- The decayed keys at an index. -/
theorem rKd_apply (K C : FVec Ideal S2x4x512x16x64 .f32) (b : Fin 2) (h : Fin 4) (n : Fin 512) (p : Fin 16) (d : Fin 64) :
    rKd K C (ix5 b h n p d) = K (ix5 b h n p d) * Ideal.exp (C (ix5 b h n 15 d) - C (ix5 b h n p d)) := by
  pointwise [rKd]

/-- The decays over a chunk at an index. -/
theorem rTot_apply (C : FVec Ideal S2x4x512x16x64 .f32) (b : Fin 2) (h : Fin 4) (n : Fin 512) (d : Fin 64) :
    rTot C (ix4 b h n d) = Ideal.exp (C (ix5 b h n 15 d)) := by
  pointwise [rTot]

/-- The sum over the last of six axes. -/
theorem sum_last (x : FVec Ideal S2x4x512x16x16x64 .f32) (b : Fin 2) (h : Fin 4) (n : Fin 512) (i j : Fin 16) :
    Ideal.hostReduceAdd reducesTo_S2x4x512x16x16x64_S2x4x512x16x16_d5 x 0 (ix5 b h n i j) = ∑ d : Fin 64, x (ix6 b h n i j d) := by
  rw [Ideal.hostReduceAdd, zero_add]
  refine Finset.sum_filter_eq_sum_of_fiber _ (fun d : Fin 64 => ix6 b h n i j d) (fun _ _ e => congrFun e 5) (fun y => ⟨fun e => ⟨y 5, ?_⟩, ?_⟩) x
  · funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨d, rfl⟩
    funext a
    apply Fin.ext
    match a with
    | ⟨0, _⟩ => rfl
    | ⟨1, _⟩ => rfl
    | ⟨2, _⟩ => rfl
    | ⟨3, _⟩ => rfl
    | ⟨4, _⟩ => rfl

/-- The scores at an index. -/
theorem rScore_apply (Q K C : FVec Ideal S2x4x512x16x64 .f32) (b : Fin 2) (h : Fin 4) (n : Fin 512) (i j : Fin 16) :
    rScore Q K C (ix5 b h n i j) = ∑ d : Fin 64, Q (ix5 b h n i d) * K (ix5 b h n j d) * Ideal.exp (if j.val ≤ i.val then C (ix5 b h n i d) - C (ix5 b h n j d) else ⊥) := by
  have hs : rScore Q K C (ix5 b h n i j) = Ideal.hostReduceAdd reducesTo_S2x4x512x16x16x64_S2x4x512x16x16_d5 (mulf (mulf (rRow Q) (rCol K)) (Host.exp (rDiff C))) 0 (ix5 b h n i j) := by
    rw [← Ideal.ofBits_zero .f32]
    rfl
  rw [hs, sum_last]
  pointwise [rDiff_apply, rRow, rCol]

/-- What a chunk's own tokens give at an index. -/
theorem rIntra_apply (Q K C : FVec Ideal S2x4x512x16x64 .f32) (V : FVec Ideal S2x4x512x16x128 .f32) (b : Fin 2) (h : Fin 4) (n : Fin 512) (i : Fin 16) (e : Fin 128) :
    rIntra Q K C V (ix5 b h n i e) = ∑ j : Fin 16, rScore Q K C (ix5 b h n i j) * V (ix5 b h n j e) := by
  pointwise [rIntra]

end Cert.Gla
-- ==== Proof.GlaLoop.lean ====
module

public import proofs.«01_k».proof.Proof.GlaRefAt
public import Idealize.ShloMosaic.Lib.DynamicIndex

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

/-! One trip of the reference's loop, read at an index. -/

/-- The start of chunk `n`'s block among five axes. -/
def st5 (n : ℕ) : Fin 5 → Int := fun k => BitVec.toInt
  ((![fun _ => BitVec.ofNat 32 n, constantI S_ 32 0#32, constantI S_ 32 0#32, constantI S_ 32 0#32, constantI S_ 32 0#32] : Fin 5 → IVec S_ 32) k (Shape.Idx.first h_S_))

/-- The start of chunk `n`'s block among four axes. -/
def st4 (n : ℕ) : Fin 4 → Int := fun k => BitVec.toInt
  ((![fun _ => BitVec.ofNat 32 n, constantI S_ 32 0#32, constantI S_ 32 0#32, constantI S_ 32 0#32] : Fin 4 → IVec S_ 32) k (Shape.Idx.first h_S_))

/-- The start is at the chunk on the first axis and zero on the others. -/
theorem st5_eq (n : Fin 512) (a : Fin 5) : st5 n.val a = ((![n.val, 0, 0, 0, 0] : Fin 5 → ℕ) a : Int) := by
  match a with
  | ⟨0, _⟩ => exact toInt_ofNat_of_lt (k := n.val) (by omega)
  | ⟨1, _⟩ => rfl
  | ⟨2, _⟩ => rfl
  | ⟨3, _⟩ => rfl
  | ⟨4, _⟩ => rfl

/-- The same among four axes. -/
theorem st4_eq (n : Fin 512) (a : Fin 4) : st4 n.val a = ((![n.val, 0, 0, 0] : Fin 4 → ℕ) a : Int) := by
  match a with
  | ⟨0, _⟩ => exact toInt_ofNat_of_lt (k := n.val) (by omega)
  | ⟨1, _⟩ => rfl
  | ⟨2, _⟩ => rfl
  | ⟨3, _⟩ => rfl

/-- A chunk's block lies inside the five axes. -/
theorem fits5 (n : Fin 512) (E : ℕ) : (⟨5, ![512, 2, 4, 16, E]⟩ : Shape).Slices ![n.val, 0, 0, 0, 0] ⟨5, ![1, 2, 4, 16, E]⟩ :=
  ⟨rfl, fun a => by
    match a with
    | ⟨0, _⟩ => exact (show n.val + 1 ≤ 512 by omega)
    | ⟨1, _⟩ => exact (show 0 + 2 ≤ 2 by omega)
    | ⟨2, _⟩ => exact (show 0 + 4 ≤ 4 by omega)
    | ⟨3, _⟩ => exact (show 0 + 16 ≤ 16 by omega)
    | ⟨4, _⟩ => exact (show 0 + E ≤ E by omega)⟩

/-- A chunk's block lies inside the four axes. -/
theorem fits4 (n : Fin 512) : S512x2x4x64.Slices ![n.val, 0, 0, 0] S1x2x4x64 :=
  ⟨rfl, fun a => by
    match a with
    | ⟨0, _⟩ => exact (show n.val + 1 ≤ 512 by omega)
    | ⟨1, _⟩ => exact (show 0 + 2 ≤ 2 by omega)
    | ⟨2, _⟩ => exact (show 0 + 4 ≤ 4 by omega)
    | ⟨3, _⟩ => exact (show 0 + 64 ≤ 64 by omega)⟩

/-- Chunk `n` of an array with 64 columns. -/
def chunkK (n : ℕ) (X : FVec Ideal S512x2x4x16x64 .f32) : FVec Ideal S2x4x16x64 .f32 :=
  shapeCast S2x4x16x64 (Host.dynamicSlice S1x2x4x16x64 X (st5 n) sliceFits_S512x2x4x16x64_S1x2x4x16x64) shapeCasts_S1x2x4x16x64_S2x4x16x64

/-- Chunk `n` of an array with 128 columns. -/
def chunkV (n : ℕ) (X : FVec Ideal S512x2x4x16x128 .f32) : FVec Ideal S2x4x16x128 .f32 :=
  shapeCast S2x4x16x128 (Host.dynamicSlice S1x2x4x16x128 X (st5 n) sliceFits_S512x2x4x16x128_S1x2x4x16x128) shapeCasts_S1x2x4x16x128_S2x4x16x128

/-- Chunk `n` of the chunks' decays. -/
def chunkT (n : ℕ) (X : FVec Ideal S512x2x4x64 .f32) : FVec Ideal S2x4x64 .f32 :=
  shapeCast S2x4x64 (Host.dynamicSlice S1x2x4x64 X (st4 n) sliceFits_S512x2x4x64_S1x2x4x64) shapeCasts_S1x2x4x64_S2x4x64

/-- Chunk `n` of an array with 64 columns, at an index. -/
theorem chunkK_apply (n : Fin 512) (X : FVec Ideal S512x2x4x16x64 .f32) (b : Fin 2) (h : Fin 4) (p : Fin 16) (d : Fin 64) :
    chunkK n.val X (ix4 b h p d) = X (ix5 n b h p d) := by
  rw [chunkK, Host.dynamicSlice_eq_extractStridedSlice _ X _ ![n.val, 0, 0, 0, 0] _ (fits5 n 64) (st5_eq n)]
  pointwise []

/-- Chunk `n` of an array with 128 columns, at an index. -/
theorem chunkV_apply (n : Fin 512) (X : FVec Ideal S512x2x4x16x128 .f32) (b : Fin 2) (h : Fin 4) (p : Fin 16) (e : Fin 128) :
    chunkV n.val X (ix4 b h p e) = X (ix5 n b h p e) := by
  rw [chunkV, Host.dynamicSlice_eq_extractStridedSlice _ X _ ![n.val, 0, 0, 0, 0] _ (fits5 n 128) (st5_eq n)]
  pointwise []

/-- Chunk `n` of the chunks' decays, at an index. -/
theorem chunkT_apply (n : Fin 512) (X : FVec Ideal S512x2x4x64 .f32) (b : Fin 2) (h : Fin 4) (d : Fin 64) : chunkT n.val X (ix3 b h d) = X (ix4 n b h d) := by
  rw [chunkT, Host.dynamicSlice_eq_extractStridedSlice _ X _ ![n.val, 0, 0, 0] _ (fits4 n) (st4_eq n)]
  pointwise []

/-- An array with chunk `n` overwritten, at an index. -/
theorem update_apply (n : Fin 512) (X : FVec Ideal S512x2x4x16x128 .f32) (u : FVec Ideal S1x2x4x16x128 .f32) (n' : Fin 512) (b : Fin 2) (h : Fin 4) (p : Fin 16) (e : Fin 128) :
    Host.dynamicUpdateSlice X u (st5 n.val) updateFits_S512x2x4x16x128_S1x2x4x16x128 (ix5 n' b h p e) = if n' = n then u (ix5 0 b h p e) else X (ix5 n' b h p e) := by
  have hcs : ∀ a : Fin 5, Host.clampedStart S512x2x4x16x128 S1x2x4x16x128 rfl (st5 n.val) a = (![n.val, 0, 0, 0, 0] : Fin 5 → ℕ) a := fun a =>
    Host.clampedStart_of_le (s := S512x2x4x16x128) (t := S1x2x4x16x128) rfl (st5 n.val) a _ (st5_eq n a) ((fits5 n 128).2 a)
  rw [Host.dynamicUpdateSlice_apply]
  by_cases hn : n' = n
  · subst hn
    rw [if_pos rfl]
    refine (dif_pos fun a => ?_).trans (congrArg u ?_)
    · rw [hcs a]
      match a with
      | ⟨0, _⟩ => exact (show n'.val ≤ n'.val ∧ n'.val < n'.val + 1 by omega)
      | ⟨1, _⟩ => exact (show 0 ≤ b.val ∧ b.val < 0 + 2 by omega)
      | ⟨2, _⟩ => exact (show 0 ≤ h.val ∧ h.val < 0 + 4 by omega)
      | ⟨3, _⟩ => exact (show 0 ≤ p.val ∧ p.val < 0 + 16 by omega)
      | ⟨4, _⟩ => exact (show 0 ≤ e.val ∧ e.val < 0 + 128 by omega)
    · funext a
      apply Fin.ext
      match a with
      | ⟨0, _⟩ => exact (congrArg (n'.val - ·) (hcs 0)).trans (Nat.sub_self n'.val)
      | ⟨1, _⟩ => exact congrArg (b.val - ·) (hcs 1)
      | ⟨2, _⟩ => exact congrArg (h.val - ·) (hcs 2)
      | ⟨3, _⟩ => exact congrArg (p.val - ·) (hcs 3)
      | ⟨4, _⟩ => exact congrArg (e.val - ·) (hcs 4)
  · rw [if_neg hn]
    refine dif_neg fun hin => hn ?_
    have h0 : Host.clampedStart S512x2x4x16x128 S1x2x4x16x128 rfl (st5 n.val) 0 ≤ n'.val
      ∧ n'.val < Host.clampedStart S512x2x4x16x128 S1x2x4x16x128 rfl (st5 n.val) 0 + 1 := hin 0
    rw [hcs 0] at h0
    have h1 : n.val ≤ n'.val ∧ n'.val < n.val + 1 := h0
    exact Fin.ext (by omega)

section Step

variable (V0 : Valuation τ sig (Elt Ideal)) (n : Fin 512) (hc : V0 (Proc.devRef .tc main_v53_5) = fun _ => BitVec.ofNat 32 n.val)

include hc

/-- One trip's state. -/
theorem step_state (S : FVec Ideal S2x4x64x128 .f32) (T : FVec Ideal S512x2x4x64 .f32) (K : FVec Ideal S512x2x4x16x64 .f32) (V : FVec Ideal S512x2x4x16x128 .f32)
    (hS : V0 (Proc.devRef .tc main_v53_6) = S) (hT : V0 (Proc.devRef .tc main_v53_3) = T) (hK : V0 (Proc.devRef .tc main_v53_1) = K)
    (hV : V0 (Proc.devRef .tc main_v53_2) = V) (b : Fin 2) (h : Fin 4) (d : Fin 64) (e : Fin 128) :
    (step_main_v53_6 V0 : FVec Ideal S2x4x64x128 .f32) (ix4 b h d e) = S (ix4 b h d e) * T (ix4 n b h d) + ∑ p : Fin 16, K (ix5 n b h p d) * V (ix5 n b h p e) := by
  unfold step_main_v53_6
  rw [hS, hT, hK, hV, hc]
  change addf (mulf S (broadcastInDim S2x4x64x128 ![0, 1, 2, 3] bcast_S2x4x64x1_S2x4x64x128_0_1_2_3 (broadcastInDim S2x4x64x1 ![0, 1, 2] bcast_S2x4x64_S2x4x64x1_0_1_2 (chunkT n.val T))))
    (Host.dotGeneral dot_S2x4x16x64_S2x4x16x128_S2x4x64x128_2_2_3_3_01_01 none (chunkK n.val K) (chunkV n.val V)) (ix4 b h d e) = _
  pointwise [chunkT_apply, chunkK_apply, chunkV_apply]

/-- One trip's outputs. -/
theorem step_out (O : FVec Ideal S512x2x4x16x128 .f32) (S : FVec Ideal S2x4x64x128 .f32) (Q : FVec Ideal S512x2x4x16x64 .f32) (I : FVec Ideal S512x2x4x16x128 .f32)
    (hO : V0 (Proc.devRef .tc main_v53_7) = O) (hS : V0 (Proc.devRef .tc main_v53_6) = S) (hQ : V0 (Proc.devRef .tc main_v53_0) = Q)
    (hI : V0 (Proc.devRef .tc main_v53_4) = I) (n' : Fin 512) (b : Fin 2) (h : Fin 4) (p : Fin 16) (e : Fin 128) :
    (step_main_v53_7 V0 : FVec Ideal S512x2x4x16x128 .f32) (ix5 n' b h p e)
      = if n' = n then ∑ d : Fin 64, Q (ix5 n b h p d) * S (ix4 b h d e) + I (ix5 n b h p e) else O (ix5 n' b h p e) := by
  unfold step_main_v53_7
  rw [hO, hS, hQ, hI, hc]
  change Host.dynamicUpdateSlice O (broadcastInDim S1x2x4x16x128 ![1, 2, 3, 4] bcast_S2x4x16x128_S1x2x4x16x128_1_2_3_4
    (addf (Host.dotGeneral dot_S2x4x16x64_S2x4x64x128_S2x4x16x128_3_2_2_3_01_01 none (chunkK n.val Q) S) (chunkV n.val I)))
    (st5 n.val) updateFits_S512x2x4x16x128_S1x2x4x16x128 (ix5 n' b h p e) = _
  rw [update_apply]
  refine if_congr Iff.rfl ?_ rfl
  pointwise [chunkK_apply, chunkV_apply]

end Step

end Cert.Gla
-- ==== Proof.GlaTrip.lean ====
module

public import proofs.«01_k».proof.Proof.GlaLoop

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

/-! The reference's loop over its 512 trips, and its result read at an index. -/

/-- Tokens and columns inside their ranges: 256 columns. -/
theorem tok256_at (x : FVec Ideal S2x8192x256 .f32) (b : Fin 2) (s : Fin 8192) (c : Fin 256) : tok256 x b s.val c.val = x (ix3 b s c) := by
  unfold tok256
  simp only [Nat.mod_eq_of_lt s.isLt, Nat.mod_eq_of_lt c.isLt]

/-- Tokens and columns inside their ranges: 512 columns. -/
theorem tok512_at (x : FVec Ideal S2x8192x512 .f32) (b : Fin 2) (s : Fin 8192) (c : Fin 512) : tok512 x b s.val c.val = x (ix3 b s c) := by
  unfold tok512
  simp only [Nat.mod_eq_of_lt s.isLt, Nat.mod_eq_of_lt c.isLt]

/-- Tokens and columns inside their ranges: the log decays. -/
theorem gLA_at (a : FVec Ideal S2x8192x16 .f32) (w : FVec Ideal S16x256 .f32) (g : FVec Ideal S256 .f32) (b : Fin 2) (s : Fin 8192) (c : Fin 256) :
    gLA a w g b s.val c.val = rLA a w g (ix3 b s c) := by
  rw [rLA_apply]
  unfold gLA
  simp only [Nat.mod_eq_of_lt s.isLt, Nat.mod_eq_of_lt c.isLt]

section Trips

variable (m : (ℓ : Loc nD τ sig) → Buf (Elt Ideal) ℓ) (c : Dev nD)

/-- The launch's scaled queries. -/
def aQ (b : Fin 2) : ℕ → ℕ → EReal := gQ (m ((c : Thread nD τ).loc main_arg0)) b
/-- The launch's keys. -/
def aK (b : Fin 2) : ℕ → ℕ → EReal := tok256 (m ((c : Thread nD τ).loc main_arg1)) b
/-- The launch's log decays. -/
def aL (b : Fin 2) : ℕ → ℕ → EReal := gLA (m ((c : Thread nD τ).loc main_arg4)) (m ((c : Thread nD τ).loc main_arg5)) (m ((c : Thread nD τ).loc main_arg6)) b
/-- The launch's values. -/
def aV (b : Fin 2) : ℕ → ℕ → EReal := tok512 (m ((c : Thread nD τ).loc main_arg2)) b

/-- The reference's queries by chunk and head. -/
theorem rQ_at (b : Fin 2) (h : Fin 4) (n : Fin 512) (p : Fin 16) (d : Fin 64) :
    rQ (m ((c : Thread nD τ).loc main_arg0)) (ix5 b h n p d) = aQ m c b (16 * n.val + p.val) (64 * h.val + d.val) := by
  rw [rQ_apply]
  exact congrArg (· * _) (tok256_at _ b ⟨16 * n.val + p.val, by omega⟩ ⟨64 * h.val + d.val, by omega⟩).symm

/-- The reference's keys by chunk and head. -/
theorem rK_at (b : Fin 2) (h : Fin 4) (n : Fin 512) (p : Fin 16) (d : Fin 64) :
    rSplit (m ((c : Thread nD τ).loc main_arg1)) (ix5 b h n p d) = aK m c b (16 * n.val + p.val) (64 * h.val + d.val) := by
  rw [rSplit_apply]
  exact (tok256_at _ b ⟨16 * n.val + p.val, by omega⟩ ⟨64 * h.val + d.val, by omega⟩).symm

/-- The reference's values by chunk and head. -/
theorem rV_at (b : Fin 2) (h : Fin 4) (n : Fin 512) (p : Fin 16) (e : Fin 128) :
    rSplitV (m ((c : Thread nD τ).loc main_arg2)) (ix5 b h n p e) = aV m c b (16 * n.val + p.val) (128 * h.val + e.val) := by
  rw [rSplitV_apply]
  exact (tok512_at _ b ⟨16 * n.val + p.val, by omega⟩ ⟨128 * h.val + e.val, by omega⟩).symm

/-- The reference's running sums by chunk and head. -/
theorem rCm_at (b : Fin 2) (h : Fin 4) (n : Fin 512) (p : Fin 16) (d : Fin 64) : rCm m c (ix5 b h n p d) = bc (aL m c b) n.val p.val (64 * h.val + d.val) := by
  rw [rCm, rC_apply]
  refine Finset.sum_congr rfl fun j _ => if_congr Iff.rfl ?_ rfl
  rw [rSplit_apply]
  exact (gLA_at _ _ _ b ⟨16 * n.val + j.val, by omega⟩ ⟨64 * h.val + d.val, by omega⟩).symm

/-- What the reference's chunks give themselves, by chunk and head: a masked pair has weight zero. -/
theorem rIntra_at (b : Fin 2) (h : Fin 4) (n : Fin 512) (p : Fin 16) (e : Fin 128) :
    rIntra (rQ (m ((c : Thread nD τ).loc main_arg0))) (rSplit (m ((c : Thread nD τ).loc main_arg1))) (rCm m c) (rSplitV (m ((c : Thread nD τ).loc main_arg2))) (ix5 b h n p e)
      = sIntra (aQ m c b) (aK m c b) (aL m c b) (aV m c b) n.val p.val h.val e.val := by
  rw [rIntra_apply]
  refine Finset.sum_congr rfl fun j _ => ?_
  rw [rScore_apply, rV_at]
  simp only [rQ_at, rK_at, rCm_at]
  by_cases hj : j.val ≤ p.val
  · simp only [if_pos hj]
  · simp only [if_neg hj, Ideal.exp_bot, mul_zero, Finset.sum_const_zero, zero_mul]

/-- The memory of the reference's core after `k` trips. -/
def X (k : ℕ) : Valuation τ sig (Elt Ideal) := STEP^[k] (entryContents preI m c)

/-- One more trip. -/
theorem X_succ (k : ℕ) : X m c (k + 1) = STEP (X m c k) := Function.iterate_succ_apply' STEP k _

/-- What a trip leaves alone is what the loop starts with. -/
theorem X_keep (r : DevRef τ sig) (hr : ∀ V0 : Valuation τ sig (Elt Ideal), STEP V0 r = V0 r) : ∀ k, X m c k r = entryContents preI m c r
  | 0 => rfl
  | k + 1 => by rw [X_succ, hr, X_keep r hr k]

/-- The trips' counter. -/
theorem X_ctr : ∀ k, X m c k (Proc.devRef .tc main_v53_5) = fun _ => BitVec.ofNat 32 k
  | 0 => ctr_entry m c
  | k + 1 => by
    rw [X_succ, STEP_main_v53_5]
    unfold step_main_v53_5
    rw [X_ctr k]
    funext i
    exact (BitVec.ofNat_add (n := 32) k 1).symm

/-- Before trip `k` the state is the one the chunks before `k` leave. -/
theorem X_state (b : Fin 2) (h : Fin 4) (d : Fin 64) (e : Fin 128) : ∀ k, k ≤ 512 →
    (X m c k (Proc.devRef .tc main_v53_6) : FVec Ideal S2x4x64x128 .f32) (ix4 b h d e) = sSt (aK m c b) (aL m c b) (aV m c b) h.val k e.val d.val
  | 0, _ => by
    refine (congrFun (entry_s m c) (ix4 b h d e)).trans ?_
    pointwise []
    rfl
  | k + 1, hk => by
    rw [X_succ, STEP_main_v53_6]
    refine (step_state (X m c k) ⟨k, hk⟩ (X_ctr m c k) _ _ _ _ rfl ((X_keep m c _ STEP_main_v53_3 k).trans (entry_t m c)) ((X_keep m c _ STEP_main_v53_1 k).trans (entry_k m c)) ((X_keep m c _ STEP_main_v53_2 k).trans (entry_v m c)) b h d e).trans ?_
    rw [X_state b h d e k (by omega)]
    pointwise [rTot_apply, rKd_apply, rCm_at, rK_at, rV_at]
    rw [sSt]
    refine congrArg₂ (· + ·) rfl (Finset.sum_congr rfl fun p _ => mul_comm _ _)

/-- After `k` trips the chunks before `k` have their outputs. -/
theorem X_out (n : Fin 512) (b : Fin 2) (h : Fin 4) (p : Fin 16) (e : Fin 128) : ∀ k, k ≤ 512 → n.val < k →
    (X m c k (Proc.devRef .tc main_v53_7) : FVec Ideal S512x2x4x16x128 .f32) (ix5 n b h p e)
      = sO (aQ m c b) (aK m c b) (aL m c b) (aV m c b) n.val p.val h.val e.val
  | 0, _, hn => absurd hn (Nat.not_lt_zero _)
  | k + 1, hk, hn => by
    rw [X_succ, STEP_main_v53_7]
    refine (step_out (X m c k) ⟨k, hk⟩ (X_ctr m c k) _ _ _ _ rfl rfl ((X_keep m c _ STEP_main_v53_0 k).trans (entry_q m c)) ((X_keep m c _ STEP_main_v53_4 k).trans (entry_i m c)) n b h p e).trans ?_
    by_cases hnk : n = ⟨k, hk⟩
    · subst hnk
      rw [if_pos rfl]
      unfold sO
      rw [add_comm]
      refine congrArg₂ (· + ·) ?_ (Finset.sum_congr rfl fun d _ => ?_)
      · pointwise [rIntra_at]
      · rw [X_state m c b h d e k (by omega)]
        refine congrArg (· * _) ?_
        pointwise [rQ_at, rCm_at]
    · rw [if_neg hnk]
      have hne : n.val ≠ k := fun q => hnk (Fin.ext q)
      exact X_out n b h p e k (by omega) (by omega)

end Trips

/-- The outputs by token and head. -/
def rY (Y : FVec Ideal S512x2x4x16x128 .f32) : FVec Ideal S2x8192x4x128 .f32 :=
  shapeCast S2x8192x4x128 (transpose S2x512x16x4x128 [0, 2, 3, 1, 4] (transpose S2x4x512x16x128 [1, 2, 0, 3, 4] Y transposes_S512x2x4x16x128_S2x4x512x16x128_1_2_0_3_4)
    transposes_S2x4x512x16x128_S2x512x16x4x128_0_2_3_1_4) shapeCasts_S2x512x16x4x128_S2x8192x4x128

/-- The reciprocal root mean squares by token and head. -/
def rNorm (Y : FVec Ideal S2x8192x4x128 .f32) : FVec Ideal S2x8192x4x1 .f32 :=
  Host.rsqrt (addf (Host.divf (broadcastInDim S2x8192x4x1 ![0, 1, 2] bcast_S2x8192x4_S2x8192x4x1_0_1_2
    (Host.reduceAdd (mulf Y Y) (constant S_ .f32 0x00000000#32) reducesTo_S2x8192x4x128_S2x8192x4_d3 h_S_))
    (broadcastInDim S2x8192x4x1 ![] bcast_S_S2x8192x4x1 (constant S_ .f32 0x43000000#32))) (broadcastInDim S2x8192x4x1 ![] bcast_S_S2x8192x4x1 (constant S_ .f32 0x358637BD#32)))

/-- The gate by token and head. -/
def rGate (R : FVec Ideal S2x8192x512 .f32) : FVec Ideal S2x8192x4x128 .f32 :=
  mulf (shapeCast S2x8192x4x128 R shapeCasts_S2x8192x512_S2x8192x4x128)
    (Host.divf (broadcastInDim S2x8192x4x128 ![] bcast_S_S2x8192x4x128 (constant S_ .f32 0x3F800000#32))
      (addf (broadcastInDim S2x8192x4x128 ![] bcast_S_S2x8192x4x128 (constant S_ .f32 0x3F800000#32))
        (Host.exp (Host.negf (shapeCast S2x8192x4x128 R shapeCasts_S2x8192x512_S2x8192x4x128)))))

/-- The normed and gated outputs. -/
def rOut (Y : FVec Ideal S2x8192x4x128 .f32) (R : FVec Ideal S2x8192x512 .f32) (W : FVec Ideal S128 .f32) : FVec Ideal S2x8192x512 .f32 :=
  shapeCast S2x8192x512 (mulf (mulf (mulf Y (broadcastInDim S2x8192x4x128 ![0, 1, 2, 3] bcast_S2x8192x4x1_S2x8192x4x128_0_1_2_3 (rNorm Y)))
    (broadcastInDim S2x8192x4x128 ![0, 1, 2, 3] bcast_S1x1x1x128_S2x8192x4x128_0_1_2_3 (broadcastInDim S1x1x1x128 ![3] bcast_S128_S1x1x1x128_3 W))) (rGate R))
    shapeCasts_S2x8192x4x128_S2x8192x512

/-- The outputs by token and head, at an index. -/
theorem rY_apply (Y : FVec Ideal S512x2x4x16x128 .f32) (b : Fin 2) (s : Fin 8192) (h : Fin 4) (e : Fin 128) :
    rY Y (ix4 b s h e) = Y (ix5 ⟨s.val / 16, by omega⟩ b h ⟨s.val % 16, by omega⟩ e) := by
  pointwise [rY]

/-- The reciprocal root mean squares at an index. -/
theorem rNorm_apply (Y : FVec Ideal S2x8192x4x128 .f32) (b : Fin 2) (s : Fin 8192) (h : Fin 4) :
    rNorm Y (ix4 b s h 0) = Ideal.rsqrt (Ideal.div (∑ x : Fin 128, Y (ix4 b s h x) * Y (ix4 b s h x)) (Ideal.ofBits .f32 0x43000000#32) + Ideal.ofBits .f32 0x358637BD#32) := by
  pointwise [rNorm]

/-- The gate at an index. -/
theorem rGate_apply (R : FVec Ideal S2x8192x512 .f32) (b : Fin 2) (s : Fin 8192) (h : Fin 4) (e : Fin 128) :
    rGate R (ix4 b s h e) = R (ix3 b s ⟨128 * h.val + e.val, by omega⟩) * Ideal.logistic (R (ix3 b s ⟨128 * h.val + e.val, by omega⟩)) := by
  pointwise [rGate]
  simp only [Nat.mul_comm h.val]
  rfl

/-- The normed and gated outputs at an index. -/
theorem rOut_apply (Y : FVec Ideal S2x8192x4x128 .f32) (R : FVec Ideal S2x8192x512 .f32) (W : FVec Ideal S128 .f32) (b : Fin 2) (s : Fin 8192) (j : Fin 512) :
    rOut Y R W (ix3 b s j) = Y (ix4 b s ⟨j.val / 128, by omega⟩ ⟨j.val % 128, by omega⟩) * rNorm Y (ix4 b s ⟨j.val / 128, by omega⟩ 0) * W (ix1 ⟨j.val % 128, by omega⟩)
      * rGate R (ix4 b s ⟨j.val / 128, by omega⟩ ⟨j.val % 128, by omega⟩) := by
  pointwise [rOut]

end Cert.Gla
-- ==== Proof.Gla.lean ====
module

public import proofs.«01_k».proof.Proof.GlaKernel
public import proofs.«01_k».proof.Proof.GlaTrip

@[expose] public section

set_option maxRecDepth 16384

noncomputable section

namespace Cert.Gla

open Idealize.ShloMosaic Idealize.ShloMosaic.TcCoe Idealize.SL.Sem
open Idealize.ShloMosaic.StableHlo
open Cert.ReferenceIdeal Cert.ReferenceIdeal.Gen Cert.ReferenceIdeal.Value

/-! The gated linear attention branch: the kernel's result and the reference's are one array. -/

section Result

variable (m : (ℓ : Loc nD τ sig) → Buf (Elt Ideal) ℓ) (c : Dev nD)

/-- The reference's result from the loop's outputs, the gate's input and the norm's weight. -/
theorem out_eq (V0 : Valuation τ sig (Elt Ideal)) (Y : FVec Ideal S512x2x4x16x128 .f32) (R : FVec Ideal S2x8192x512 .f32) (W : FVec Ideal S128 .f32)
    (hY : V0 (Proc.devRef .tc main_v53_7) = Y) (hR : V0 (Proc.devRef .tc main_arg3) = R) (hW : V0 (Proc.devRef .tc main_arg7) = W) :
    out_main_v73 V0 = rOut (rY Y) R W := by
  unfold out_main_v73
  rw [hY, hR, hW]
  rfl

/-- The loop's outputs by token and head. -/
theorem rY_at (Y : FVec Ideal S512x2x4x16x128 .f32) (hY : X m c 512 (Proc.devRef .tc main_v53_7) = Y) (b : Fin 2) (s : Fin 8192) (h : Fin 4) (e : Fin 128) : rY Y (ix4 b s h e)
    = sO (aQ m c b) (aK m c b) (aL m c b) (aV m c b) (s.val / 16) (s.val % 16) h.val e.val := by
  rw [rY_apply, ← hY]
  exact X_out m c ⟨s.val / 16, by omega⟩ b h ⟨s.val % 16, by omega⟩ e 512 le_rfl (by omega)

/-- The reference's result at an index. -/
theorem ref_apply (Y : FVec Ideal S512x2x4x16x128 .f32) (hY : X m c 512 (Proc.devRef .tc main_v53_7) = Y) (b : Fin 2) (s : Fin 8192) (j : Fin 512) :
    rOut (rY Y) (m ((c : Thread nD τ).loc main_arg3)) (m ((c : Thread nD τ).loc main_arg7)) (ix3 b s j)
      = glaAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) b s.val j.val := by
  rw [rOut_apply, rNorm_apply, rGate_apply]
  simp only [rY_at m c Y hY, Nat.div_add_mod]
  unfold glaAt sOut
  rw [tok512_at]
  simp only [gW, Nat.mod_mod]
  rfl

end Result

/-- From arrays that agree the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨_, (θ_run Cert.KernelIdeal.defs _ _).mono (fun _ h c => ⟨(h c).1.trans (final m c), (h c).2⟩)
    (Cert.KernelIdeal.Value.run_blocks (F := Ideal) m g), ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7⟩ := hag c
  refine (out_eq _ _ _ _ rfl (iter_main_arg3 m' c 512) (iter_main_arg7 m' c 512)).trans ?_
  funext y
  idx_vars y
  refine (ref_apply m' c _ rfl y0 y1 y2).trans ?_
  rw [h0, h1, h2, h3, h4, h5, h6, h7]
  rfl

end Cert.Gla
-- ==== Proof.Ffn.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem
open Cert.Kernel2Ideal (S2x8192x1024 S1024 S16384x1024 S1024x5632 S2816x1024)

/-- The normalised row: each entry over the root mean square of the row, times its weight. -/
def rmsRow (x w : Fin 1024 → EReal) (k : Fin 1024) : EReal :=
  x k * Ideal.rsqrt (Ideal.div (∑ k, x k * x k) (Ideal.ofBits .f32 0x44800000#32) + Ideal.ofBits .f32 0x358637BD#32) * w k

/-- One hidden unit: silu of the gate column's product with the row, times the up column's. -/
def swi (h g u : Fin 1024 → EReal) : EReal :=
  (∑ k, h k * g k) * Ideal.logistic (∑ k, h k * g k) * ∑ k, h k * u k

/-- The contraction with the down weights, over all 2816 hidden units. -/
def downRow (h : Fin 1024 → EReal) (w : S1024x5632.Idx → EReal) (d : S2816x1024.Idx → EReal) (j : Fin 1024) : EReal :=
  ∑ f : Fin 2816, swi h (fun k => w (ix2 k ⟨f.val, by omega⟩)) (fun k => w (ix2 k ⟨2816 + f.val, by omega⟩)) * d (ix2 f j)

/-- One row of the block: the row plus one half of the normalised feed-forward of its normalised self. -/
def ffnRow (x np : Fin 1024 → EReal) (w : S1024x5632.Idx → EReal) (d : S2816x1024.Idx → EReal) (no : Fin 1024 → EReal)
    (j : Fin 1024) : EReal :=
  x j + Ideal.ofBits .f32 0x3F000000#32 * rmsRow (downRow (rmsRow x np) w d) no j

/-- The layer's feed-forward at token `t` of the flattened batch and column `j`, from the whole arrays. -/
def ffnAt (X : S2x8192x1024.Idx → EReal) (np : S1024.Idx → EReal) (w : S1024x5632.Idx → EReal) (d : S2816x1024.Idx → EReal)
    (no : S1024.Idx → EReal) (t : Fin 16384) (j : Fin 1024) : EReal :=
  ffnRow (fun k => X (ix3 ⟨t.val / 8192, by omega⟩ ⟨t.val % 8192, by omega⟩ k)) (fun k => np (ix1 k)) w d (fun k => no (ix1 k)) j

/-- The same as one array over tokens and columns. -/
def ffnVec (X : S2x8192x1024.Idx → EReal) (np : S1024.Idx → EReal) (w : S1024x5632.Idx → EReal) (d : S2816x1024.Idx → EReal)
    (no : S1024.Idx → EReal) : S16384x1024.Idx → EReal :=
  fun y => ffnAt X np w d no (y 0) (y 1)

/-- Eleven sums over 256 consecutive terms, added left to right, are the sum over 2816 terms. -/
theorem sum_eleven (f : ℕ → EReal) (s : ℕ → EReal) (hs : ∀ c, s c = ∑ x : Fin 256, f (256 * c + x.val)) :
    s 0 + s 1 + s 2 + s 3 + s 4 + s 5 + s 6 + s 7 + s 8 + s 9 + s 10 = ∑ k : Fin 2816, f k.val := by
  have h : ∀ n, ∑ k ∈ Finset.range (256 * n), f k = ∑ c ∈ Finset.range n, s c := by
    intro n
    induction n with
    | zero => simp
    | succ n ih =>
      rw [Finset.sum_range_succ, ← ih, Nat.mul_succ, Finset.sum_range_add, hs, ← Fin.sum_univ_eq_sum_range (fun x => f (256 * n + x)) 256]
  rw [Fin.sum_univ_eq_sum_range f 2816, show 2816 = 256 * 11 from rfl, h]
  simp only [Finset.sum_range_succ, Finset.sum_range_zero, zero_add]

section
open Cert.Kernel2Ideal hiding S2x8192x1024 S1024 S16384x1024 S1024x5632 S2816x1024
open Cert.Kernel2Ideal.Gen
variable (m : (ℓ : Loc nD τ sig) → Buf (Elt Ideal) ℓ)

/-- What one block of 256 hidden units adds to an output entry. -/
def piece (h : FVec Ideal S512x1024 .bf16) (g u : Vec Ideal S1024x256 .bf16) (d : Vec Ideal S256x1024 .bf16)
    (i : Fin 512) (j : Fin 1024) : EReal :=
  ∑ x : Fin 256, swi (fun k => h (ix2 i k)) (fun k => g (ix2 k x)) (fun k => u (ix2 k x)) * d (ix2 x j)

/-- The normalised rows of a block, at an index. -/
theorem pay3_apply (x0 x1) (i : Fin 512) (j : Fin 1024) :
    k0_pay3 (F := Ideal) x0 x1 (ix2 i j) = rmsRow (fun k => x0 (ix2 i k)) (fun k => x1 (ix2 0 k)) j := by
  pointwise [k0_pay3, k0_pay2]
  rfl

/-- The first 256 hidden units' sum, at an index. -/
theorem pay4_apply (x0 x1 x2 x3 x4) (i : Fin 512) (j : Fin 1024) :
    k0_pay4 (F := Ideal) x0 x1 x2 x3 x4 (ix2 i j) = piece (k0_pay3 x0 x1) x2 x3 x4 i j := by
  pointwise [k0_pay4]
  rfl

/-- A running sum with three more blocks of hidden units added, at an index. -/
theorem pay7_apply (x0 x1 y0 y1 x2 x3 x4 x5 x6 x7 x8 x9) (i : Fin 512) (j : Fin 1024) :
    k0_pay7 (F := Ideal) (k0_pay3 x0 x1) y0 (k0_pay5 x0 x1 y1) (k0_pay6 x2) x3 x4 x5 x6 x7 x8 x9 (ix2 i j) =
      y0 (ix2 i j) + piece (k0_pay3 x0 x1) y1 x2 x3 i j + piece (k0_pay3 x0 x1) x4 x5 x6 i j + piece (k0_pay3 x0 x1) x7 x8 x9 i j := by
  pointwise [k0_pay7, k0_pay5, k0_pay6]
  rfl

/-- A running sum with two more blocks of hidden units added, at an index. -/
theorem pay8_apply (x0 x1 x2 x3 x4 x5 x6 x7) (i : Fin 512) (j : Fin 1024) :
    k0_pay8 (F := Ideal) x0 x1 x2 x3 x4 x5 x6 x7 (ix2 i j) =
      x1 (ix2 i j) + piece x0 x2 x3 x4 i j + piece x0 x5 x6 x7 i j := by
  pointwise [k0_pay8]
  rfl

/-- A running sum with three later blocks of hidden units added, at an index. -/
theorem pay10_apply (x0 x1 y0 y1 x2 x3 x4 x5 x6 x7 x8) (i : Fin 512) (j : Fin 1024) :
    k0_pay10 (F := Ideal) x0 x1 (k0_pay9 x0 y0 y1) x2 x3 x4 x5 x6 x7 x8 (ix2 i j) =
      x1 (ix2 i j) + piece x0 y0 y1 x2 i j + piece x0 x3 x4 x5 i j + piece x0 x6 x7 x8 i j := by
  pointwise [k0_pay10, k0_pay9]
  rfl

/-- The running sum with the last two blocks added, normalised, at an index. -/
theorem pay12_apply (x0 x1 y0 x3 x4 x5 x6 x7 x8) (i : Fin 512) (j : Fin 1024) :
    k0_pay12 (F := Ideal) x0 x1 (k0_pay11 x0 y0) x3 x4 x5 x6 x7 x8 (ix2 i j) =
      rmsRow (fun k => x1 (ix2 i k) + piece x0 y0 x3 x4 i k + piece x0 x5 x6 x7 i k) (fun k => x8 (ix2 0 k)) j := by
  pointwise [k0_pay12, k0_pay11]
  rfl

/-- Which block each window takes at step `t`. -/
theorem idx_facts : ∀ t : Fin grid0.N, win0_0.index t = ![t.val, 0] ∧ win0_1.index t = ![0, 0] ∧ win0_2.index t = ![0, 0] ∧
    win0_3.index t = ![0, 0] ∧ win0_4.index t = ![0, 0] ∧ win0_5.index t = ![t.val, 0] := by decide +kernel

/-- The first product's weight is read whole. -/
theorem blk2 (c : Dev nD) (t : Fin cfg0.N) (k : Fin 1024) (f : Fin 5632) :
    iblk m c 2 t (ix2 k f) = m ((c : Thread nD τ).loc main_arg2) (ix2 k f) := by
  blk_point [iblk, V, idx_facts t]

/-- The input's window at step `t`. -/
theorem blk0 (c : Dev nD) (t : Fin cfg0.N) (i : Fin 512) (k : Fin 1024) (r : Fin 16384) (hr : r.val = t.val * 512 + i.val) :
    iblk m c 0 t (ix2 i k) = m ((c : Thread nD τ).loc main_arg0) (ix3 ⟨r.val / 8192, by omega⟩ ⟨r.val % 8192, by omega⟩ k) := by
  blk_point [iblk, V, idx_facts t]
/-- The first norm's weight is read whole. -/
theorem blk1 (c : Dev nD) (t : Fin cfg0.N) (k : Fin 1024) :
    iblk m c 1 t (ix2 0 k) = m ((c : Thread nD τ).loc main_arg1) (ix1 k) := by
  blk_point [iblk, V, idx_facts t]

/-- The second product's weight is read whole. -/
theorem blk3 (c : Dev nD) (t : Fin cfg0.N) (f : Fin 2816) (j : Fin 1024) :
    iblk m c 3 t (ix2 f j) = m ((c : Thread nD τ).loc main_arg3) (ix2 f j) := by
  blk_point [iblk, V, idx_facts t]

/-- The second norm's weight is read whole. -/
theorem blk4 (c : Dev nD) (t : Fin cfg0.N) (k : Fin 1024) :
    iblk m c 4 t (ix2 0 k) = m ((c : Thread nD τ).loc main_arg4) (ix1 k) := by
  blk_point [iblk, V, idx_facts t]

/-- The terms of `downRow` on the natural numbers. -/
def downTerm (h : Fin 1024 → EReal) (W : S1024x5632.Idx → EReal) (D : S2816x1024.Idx → EReal) (j : Fin 1024) (f : ℕ) : EReal :=
  if hf : f < 2816 then
    swi h (fun k => W (ix2 k ⟨f, by omega⟩)) (fun k => W (ix2 k ⟨2816 + f, by omega⟩)) * D (ix2 ⟨f, hf⟩ j)
  else 0

/-- The block of hidden units from `256 * c` on, loaded from the whole weights, adds those terms of `downRow`. -/
theorem piece_eq (h : FVec Ideal S512x1024 .bf16) (W : S1024x5632.Idx → EReal) (D : S2816x1024.Idx → EReal)
    (i : Fin 512) (j : Fin 1024) (c : ℕ) (hc : c < 11) (g u : Vec Ideal S1024x256 .bf16) (d : Vec Ideal S256x1024 .bf16)
    (hg : ∀ (k : Fin 1024) (x : Fin 256), g (ix2 k x) = W (ix2 k ⟨256 * c + x.val, by omega⟩))
    (hu : ∀ (k : Fin 1024) (x : Fin 256), u (ix2 k x) = W (ix2 k ⟨2816 + (256 * c + x.val), by omega⟩))
    (hd : ∀ (x : Fin 256), d (ix2 x j) = D (ix2 ⟨256 * c + x.val, by omega⟩ j)) :
    piece h g u d i j = ∑ x : Fin 256, downTerm (fun k => h (ix2 i k)) W D j (256 * c + x.val) := by
  refine Finset.sum_congr rfl fun x _ => ?_
  rw [downTerm, dif_pos (by omega), hd]
  simp only [hg, hu]

/-- The kernel's eleven blocks add up to the whole contraction. -/
theorem acc_apply (x0 : Vec Ideal S512x1024 .f32) (x1 : Vec Ideal S1x1024 .f32) (W : Vec Ideal S1024x5632 .bf16)
    (D : Vec Ideal S2816x1024 .bf16) (i : Fin 512) (j : Fin 1024) :
    k0_pay10 (F := Ideal) (k0_pay3 x0 x1)
        (k0_pay8 (k0_pay3 x0 x1)
          (k0_pay7 (k0_pay3 x0 x1) (k0_pay4 x0 x1 (View.ld W r0_2) (View.ld W r0_3) (View.ld D r0_4))
            (k0_pay5 x0 x1 (View.ld W r0_5)) (k0_pay6 (View.ld W r0_6)) (View.ld D r0_7)
            (View.ld W r0_8) (View.ld W r0_9) (View.ld D r0_10) (View.ld W r0_11) (View.ld W r0_12) (View.ld D r0_13))
          (View.ld W r0_14) (View.ld W r0_15) (View.ld D r0_16) (View.ld W r0_17) (View.ld W r0_18) (View.ld D r0_19))
        (k0_pay9 (k0_pay3 x0 x1) (View.ld W r0_20) (View.ld W r0_21)) (View.ld D r0_22)
        (View.ld W r0_23) (View.ld W r0_24) (View.ld D r0_25) (View.ld W r0_26) (View.ld W r0_27) (View.ld D r0_28) (ix2 i j)
      + piece (k0_pay3 x0 x1) (View.ld W r0_29) (View.ld W r0_30) (View.ld D r0_31) i j
      + piece (k0_pay3 x0 x1) (View.ld W r0_32) (View.ld W r0_33) (View.ld D r0_34) i j
      = downRow (fun k => k0_pay3 x0 x1 (ix2 i k)) W D j := by
  rw [pay10_apply, pay8_apply, pay7_apply, pay4_apply]
  refine Eq.trans ?_ ((sum_eleven (downTerm (fun k => k0_pay3 x0 x1 (ix2 i k)) W D j) _ fun c => rfl).trans
    (Finset.sum_congr rfl fun f _ => by rw [downTerm, dif_pos f.isLt]))
  iterate 10 refine congrArg₂ (· + ·) ?_ (piece_eq _ W D i j _ (by decide) _ _ _ (fun k x => by pointwise; try exact congrArg (fun f => W (ix2 k f)) (Fin.ext (by dsimp only; omega))) (fun k x => by pointwise; try exact congrArg (fun f => W (ix2 k f)) (Fin.ext (by dsimp only; omega))) (fun x => by pointwise))
  exact piece_eq _ W D i j 0 (by decide) _ _ _ (fun k x => by pointwise; try exact congrArg (fun f => W (ix2 k f)) (Fin.ext (by dsimp only; omega))) (fun k x => by pointwise; try exact congrArg (fun f => W (ix2 k f)) (Fin.ext (by dsimp only; omega))) (fun x => by pointwise)

/-- The result array after all steps. -/
theorem final (c : Dev nD) : (dats m 0 c).arrAt 5 cfg0.N = ffnVec
    (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5]
  frame_out
  have h13 : k0_pay13 (iblk m c 0 t) (iblk m c 1 t) (iblk m c 2 t) (iblk m c 3 t) (iblk m c 4 t) = k0_pay3 (iblk m c 0 t) (iblk m c 1 t) :=
    congrArg₂ k0_pay3 (View.ld_unit_lit _ _ (by decide)) (View.ld_unit_lit _ _ (by decide))
  rw [h13]
  idx_vars y
  have ht : t.val < 32 := t.isLt
  have he : ((View.whole main_v5).slice (win0_5.rect t)).emb (ix2 y0 y1) = ix2 ⟨t.val * 512 + y0.val, by omega⟩ y1 := by
    blk_ext [idx_facts t]
  rw [he]
  pointwise [k0_pay1, k0_pay2, pay12_apply]
  simp only [acc_apply, pay3_apply]
  show _ = ffnAt _ _ _ _ _ _ _
  unfold ffnAt ffnRow
  rw [blk0 m c t y0 y1 ⟨t.val * 512 + y0.val, by omega⟩ rfl]
  simp only [fun k => blk0 m c t y0 k ⟨t.val * 512 + y0.val, by omega⟩ rfl, blk1, blk4]
  rw [show iblk m c 2 t = m ((c : Thread nD τ).loc main_arg2) from funext fun i => by idx_vars i; exact blk2 m c t _ _,
    show iblk m c 3 t = m ((c : Thread nD τ).loc main_arg3) from funext fun i => by idx_vars i; exact blk3 m c t _ _]
  rfl
end

section
open Cert.Reference2Ideal hiding S2x8192x1024 S1024 S16384x1024 S1024x5632 S2816x1024
open Cert.Reference2Ideal.Gen
variable (m : (ℓ : Loc nD τ sig) → Buf (Elt Ideal) ℓ)

/-- The reference's normalisation of every row. -/
def rmsV (x : FVec Ideal S2x8192x1024 .f32) (np : FVec Ideal S1024 .f32) : FVec Ideal S2x8192x1024 .f32 :=
  (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 np)))

/-- The reference's gated hidden units. -/
def hidV (p : FVec Ideal S2x8192x5632 .f32) : FVec Ideal S2x8192x2816 .f32 :=
  (mulf (mulf (extractStridedSlice S2x8192x2816 ![0, 0, 0] p slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] p slices_S2x8192x5632_S2x8192x2816_0_0_0)))))) (extractStridedSlice S2x8192x2816 ![0, 0, 2816] p slices_S2x8192x5632_S2x8192x2816_0_0_2816))

/-- The reference's norm at an index. -/
theorem rmsV_apply (x np) (b : Fin 2) (s : Fin 8192) (j : Fin 1024) :
    rmsV x np (ix3 b s j) = rmsRow (fun k => x (ix3 b s k)) (fun k => np (ix1 k)) j := by
  pointwise [rmsV]
  rfl

/-- The reference's hidden units at an index. -/
theorem hidV_apply (p) (b : Fin 2) (s : Fin 8192) (f : Fin 2816) :
    hidV p (ix3 b s f) = p (ix3 b s ⟨f.val, by omega⟩) * Ideal.logistic (p (ix3 b s ⟨f.val, by omega⟩)) * p (ix3 b s ⟨2816 + f.val, by omega⟩) := by
  pointwise [hidV]
  rfl

/-- The reference's result, written with the norm and the hidden units. -/
theorem res_eq (c : Dev nD) : Cert.Reference2Ideal.Value.res_out0 (F := Ideal) m c =
    (fun (x : FVec Ideal S2x8192x1024 .f32) (np : FVec Ideal S1024 .f32) (W : FVec Ideal S1024x5632 .f32) (D : FVec Ideal S2816x1024 .f32) (no : FVec Ideal S1024 .f32) =>
      (shapeCast _ (addf x (mulf (broadcastInDim S2x8192x1024 ![] bcast_S_S2x8192x1024 (constant S_ .f32 0x3F000000#32)) (rmsV (Host.dotGeneral dot_S2x8192x2816_S2816x1024_S2x8192x1024_2_0_01_1_n_n none (hidV (Host.dotGeneral dot_S2x8192x1024_S1024x5632_S2x8192x5632_2_0_01_1_n_n none (rmsV x np) W)) D) no))) shapeCasts_S2x8192x1024_S16384x1024 : FVec Ideal S16384x1024 .f32))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The reference's result at an index. -/
theorem ref_apply (c : Dev nD) (t : Fin 16384) (j : Fin 1024) :
    Cert.Reference2Ideal.Value.res_out0 (F := Ideal) m c (ix2 t j) = ffnAt
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) t j := by
  rw [res_eq]
  pointwise [rmsV_apply, hidV_apply]
  rfl
end

/-- From arrays that agree the kernel and the reference end with equal results. -/
theorem algebraic : Cert.algebraic_Kernel2Ideal_Reference2Ideal (hKernel2Ideal := Cert.Kernel2Ideal.Gen.facts)
    (hReference2Ideal := Cert.Reference2Ideal.Gen.facts) := by
  intro m g m' g' _ hag
  refine ⟨_, (θ_run Cert.Kernel2Ideal.defs _ _).mono (fun _ h c => ⟨(h c).1.trans (final m c), (h c).2⟩)
    (Cert.Kernel2Ideal.Value.run_blocks (F := Ideal) m g), ?_⟩
  refine (θ_run Cert.Reference2Ideal.defs _ _).mono (fun _ h c => ⟨(h c).1.trans ?_, (h c).2⟩)
    (Cert.Reference2Ideal.Value.run (F := Ideal) m' g')
  obtain ⟨h0, h1, h2, h3, h4⟩ := hag c
  funext y
  idx_vars y
  refine (ref_apply m' c y0 y1).trans ?_
  rw [h0, h1, h2, h3, h4]
  rfl

end Cert.Ffn
end
-- ==== Proof.Merge.lean ====
module

public import proofs.«01_k».proof.Defs
public import proofs.«01_k».proof.Proof.Gen.Kernel3Ideal.Value
public import proofs.«01_k».proof.Proof.Gen.Reference3Ideal.Run
public import proofs.«01_k».proof.Proof.Ffn

@[expose] public section

set_option maxRecDepth 16384

noncomputable section

namespace Cert.Merge

open Idealize.ShloMosaic Idealize.ShloMosaic.TcCoe Idealize.SL.Sem
open Cert.Kernel3Ideal (S2x8192x1024 S2x8192x512 S2x8192x3072 S512x1024 S1024x1024 S1024 S16384x1024)
open Cert.Ffn (rmsRow)

/-- One column of a branch's contribution: its gate times its projected output. -/
def branch {n : ℕ} (g : EReal) (o w : Fin n → EReal) : EReal := g * ∑ k, o k * w k

/-- The merge at token `t` of the flattened batch and column `j`, from the whole arrays. -/
def mergeAt (X : S2x8192x1024.Idx → EReal) (A B C : S2x8192x512.Idx → EReal) (G : S2x8192x3072.Idx → EReal)
    (wa wb wc : S512x1024.Idx → EReal) (wo : S1024x1024.Idx → EReal) (no : S1024.Idx → EReal) (t : Fin 16384) (j : Fin 1024) : EReal :=
  let b : Fin 2 := ⟨t.val / 8192, by omega⟩
  let s : Fin 8192 := ⟨t.val % 8192, by omega⟩
  let y : Fin 1024 → EReal := fun j => ∑ k : Fin 1024,
    (branch (G (ix3 b s ⟨k.val, by omega⟩)) (fun i => A (ix3 b s i)) (fun i => wa (ix2 i k))
      + branch (G (ix3 b s ⟨1024 + k.val, by omega⟩)) (fun i => B (ix3 b s i)) (fun i => wb (ix2 i k))
      + branch (G (ix3 b s ⟨2048 + k.val, by omega⟩)) (fun i => C (ix3 b s i)) (fun i => wc (ix2 i k))) * wo (ix2 k j)
  X (ix3 b s j) + rmsRow y (fun k => no (ix1 k)) j

/-- The same as one array over tokens and columns. -/
def mergeVec (X : S2x8192x1024.Idx → EReal) (A B C : S2x8192x512.Idx → EReal) (G : S2x8192x3072.Idx → EReal)
    (wa wb wc : S512x1024.Idx → EReal) (wo : S1024x1024.Idx → EReal) (no : S1024.Idx → EReal) : S16384x1024.Idx → EReal :=
  fun y => mergeAt X A B C G wa wb wc wo no (y 0) (y 1)

/-- A function on 512 lanes laid out on 1024: each run of 64 lanes is followed by 64 zeros. -/
def spread (f : Fin 512 → EReal) (k : Fin 1024) : EReal :=
  if h : k.val % 128 < 64 then f ⟨k.val / 128 * 64 + k.val % 128, by omega⟩ else 0

/-- Zeros in place of the other lanes change no contraction. -/
theorem sum_spread (f g : Fin 512 → EReal) : ∑ k, spread f k * spread g k = ∑ k, f k * g k := by
  symm
  refine Finset.sum_bij_ne_zero (fun k _ _ => (⟨128 * (k.val / 64) + k.val % 64, by omega⟩ : Fin 1024)) (fun _ _ _ => Finset.mem_univ _) ?_ ?_ ?_
  · intro a _ _ b _ _ h
    simp only [Fin.mk.injEq] at h
    exact Fin.ext (by omega)
  · intro k _ hk
    by_cases h : k.val % 128 < 64
    · refine ⟨⟨k.val / 128 * 64 + k.val % 128, by omega⟩, Finset.mem_univ _, ?_, ?_⟩
      · simpa only [spread, dif_pos h] using hk
      · exact Fin.ext (by dsimp only; omega)
    · exact absurd (by simp only [spread, dif_neg h, zero_mul]) hk
  · intro a _ _
    have h : (128 * (a.val / 64) + a.val % 64) % 128 < 64 := by omega
    have e : (⟨(128 * (a.val / 64) + a.val % 64) / 128 * 64 + (128 * (a.val / 64) + a.val % 64) % 128, by omega⟩ : Fin 512) = a :=
      Fin.ext (by dsimp only; omega)
    simp only [spread, dif_pos h, e]

section
open Cert.Kernel3Ideal hiding S2x8192x1024 S2x8192x512 S2x8192x3072 S512x1024 S1024x1024 S1024 S16384x1024
open Cert.Kernel3Ideal.Gen
variable (m : (ℓ : Loc nD τ sig) → Buf (Elt Ideal) ℓ)

/-- Which block each window takes at step `t`. -/
theorem idx_facts : ∀ t : Fin grid0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![0, 0] ∧ win0_10.index t = ![t.val, 0] := by decide +kernel

/-- The host's layout of the sparse branch's output: each head's 64 lanes padded with zeros to 128. -/
def padV (x : FVec Ideal S2x8192x512 .f32) : FVec Ideal S16384x1024 .f32 :=
  shapeCast S16384x1024 (pad S16384x8x128 ![0, 0, 0] ![0, 0, 64] ![0, 0, 0] (shapeCast S16384x8x64 x shapeCasts_S2x8192x512_S16384x8x64) (sitofp (F := Ideal) .f32 (constantI S_ 32 0#32)) pads_S16384x8x64_S16384x8x128_000_000_0640 h_S_) shapeCasts_S16384x8x128_S16384x1024

/-- The host's layout of the sparse branch's weight: each head's 64 rows padded with zeros to 128. -/
def padW (w : FVec Ideal S512x1024 .f32) : FVec Ideal S1024x1024 .f32 :=
  shapeCast S1024x1024 (pad S8x128x1024 ![0, 0, 0] ![0, 64, 0] ![0, 0, 0] (shapeCast S8x64x1024 w shapeCasts_S512x1024_S8x64x1024) (sitofp (F := Ideal) .f32 (constantI S_ 32 0#32)) pads_S8x64x1024_S8x128x1024_000_0640_000 h_S_) shapeCasts_S8x128x1024_S1024x1024

/-- The padding word is zero. -/
theorem sitofp_zero : FloatOps.sitofp (F := Ideal) .f32 0#32 = (0 : EReal) := by
  show ((((0#32 : BitVec 32).toInt : ℝ)) : EReal) = 0
  simp

/-- The padded branch at an index. -/
theorem padV_apply (x) (r : Fin 16384) (k : Fin 1024) :
    padV x (ix2 r k) = spread (fun k => x (ix3 ⟨r.val / 8192, by omega⟩ ⟨r.val % 8192, by omega⟩ k)) k := by
  unfold spread
  pointwise [padV]
  by_cases h : k.val % 128 < 64
  · rw [dif_pos ⟨by omega, h⟩, dif_pos h]
  · rw [dif_neg fun g => h g.2, dif_neg h, sitofp_zero]

/-- The padded weight at an index. -/
theorem padW_apply (w) (r : Fin 1024) (j : Fin 1024) :
    padW w (ix2 r j) = spread (fun k => w (ix2 k j)) r := by
  unfold spread
  pointwise [padW]
  by_cases h : r.val % 128 < 64
  · rw [dif_pos ⟨by omega, h⟩, dif_pos h]
  · rw [dif_neg fun g => h g.2, dif_neg h, sitofp_zero]

/-- A row of the flattened batch is the row of its batch entry (512 columns). -/
theorem row512_apply (x : FVec Ideal S2x8192x512 .f32) (r : Fin 16384) (k : Fin 512) :
    shapeCast S16384x512 x shapeCasts_S2x8192x512_S16384x512 (ix2 r k) = x (ix3 ⟨r.val / 8192, by omega⟩ ⟨r.val % 8192, by omega⟩ k) := by
  pointwise

/-- A row of the flattened batch is the row of its batch entry (1024 columns). -/
theorem row1024_apply (x : FVec Ideal S2x8192x1024 .f32) (r : Fin 16384) (k : Fin 1024) :
    shapeCast S16384x1024 x shapeCasts_S2x8192x1024_S16384x1024 (ix2 r k) = x (ix3 ⟨r.val / 8192, by omega⟩ ⟨r.val % 8192, by omega⟩ k) := by
  pointwise

/-- A row of the flattened batch is the row of its batch entry (3072 columns). -/
theorem row3072_apply (x : FVec Ideal S2x8192x3072 .f32) (r : Fin 16384) (k : Fin 3072) :
    shapeCast S16384x3072 x shapeCasts_S2x8192x3072_S16384x3072 (ix2 r k) = x (ix3 ⟨r.val / 8192, by omega⟩ ⟨r.val % 8192, by omega⟩ k) := by
  pointwise

/-- The layer input's rows as the region finds them. -/
theorem V_v0 (c : Dev nD) : V m c main_v0 = shapeCast S16384x1024 (m ((c : Thread nD τ).loc main_arg0)) shapeCasts_S2x8192x1024_S16384x1024 := rfl
/-- The first branch's rows as the region finds them. -/
theorem V_v7 (c : Dev nD) : V m c main_v7 = shapeCast S16384x512 (m ((c : Thread nD τ).loc main_arg1)) shapeCasts_S2x8192x512_S16384x512 := rfl
/-- The sparse branch's rows as the region finds them. -/
theorem V_v3 (c : Dev nD) : V m c main_v3 = padV (m ((c : Thread nD τ).loc main_arg2)) := rfl
/-- The third branch's rows as the region finds them. -/
theorem V_v8 (c : Dev nD) : V m c main_v8 = shapeCast S16384x512 (m ((c : Thread nD τ).loc main_arg3)) shapeCasts_S2x8192x512_S16384x512 := rfl
/-- The gates' rows as the region finds them. -/
theorem V_v10 (c : Dev nD) : V m c main_v10 = shapeCast S16384x3072 (m ((c : Thread nD τ).loc main_arg4)) shapeCasts_S2x8192x3072_S16384x3072 := rfl
/-- The sparse branch's weight as the region finds it. -/
theorem V_v12 (c : Dev nD) : V m c main_v12 = padW (m ((c : Thread nD τ).loc main_arg6)) := rfl
/-- The last norm's weight as the region finds it. -/
theorem V_v15 (c : Dev nD) : V m c main_v15 = shapeCast S1x1024 (m ((c : Thread nD τ).loc main_arg9)) shapeCasts_S1024_S1x1024 := rfl

/-- The layer input's window at step `t`. -/
theorem blk0 (c : Dev nD) (t : Fin cfg0.N) (i : Fin 512) (k : Fin 1024) (r : Fin 16384) (hr : r.val = t.val * 512 + i.val) :
    iblk m c 0 t (ix2 i k) = m ((c : Thread nD τ).loc main_arg0) (ix3 ⟨r.val / 8192, by omega⟩ ⟨r.val % 8192, by omega⟩ k) := by
  rw [iblk]
  show V m c main_v0 ((win0_0.blk t).view.emb (ix2 i k)) = _
  rw [show (win0_0.blk t).view.emb (ix2 i k) = ix2 r k by blk_ext [idx_facts t], V_v0]
  exact row1024_apply _ r k

/-- The first branch's window at step `t`. -/
theorem blk1 (c : Dev nD) (t : Fin cfg0.N) (i : Fin 512) (k : Fin 512) (r : Fin 16384) (hr : r.val = t.val * 512 + i.val) :
    iblk m c 1 t (ix2 i k) = m ((c : Thread nD τ).loc main_arg1) (ix3 ⟨r.val / 8192, by omega⟩ ⟨r.val % 8192, by omega⟩ k) := by
  rw [iblk]
  show V m c main_v7 ((win0_1.blk t).view.emb (ix2 i k)) = _
  rw [show (win0_1.blk t).view.emb (ix2 i k) = ix2 r k by blk_ext [idx_facts t], V_v7]
  exact row512_apply _ r k

/-- The sparse branch's window at step `t`: its heads spread over 128 lanes each. -/
theorem blk2 (c : Dev nD) (t : Fin cfg0.N) (i : Fin 512) (k : Fin 1024) (r : Fin 16384) (hr : r.val = t.val * 512 + i.val) :
    iblk m c 2 t (ix2 i k) = spread (fun k => m ((c : Thread nD τ).loc main_arg2) (ix3 ⟨r.val / 8192, by omega⟩ ⟨r.val % 8192, by omega⟩ k)) k := by
  rw [iblk]
  show V m c main_v3 ((win0_2.blk t).view.emb (ix2 i k)) = _
  rw [show (win0_2.blk t).view.emb (ix2 i k) = ix2 r k by blk_ext [idx_facts t], V_v3]
  exact padV_apply _ r k

/-- The third branch's window at step `t`. -/
theorem blk3 (c : Dev nD) (t : Fin cfg0.N) (i : Fin 512) (k : Fin 512) (r : Fin 16384) (hr : r.val = t.val * 512 + i.val) :
    iblk m c 3 t (ix2 i k) = m ((c : Thread nD τ).loc main_arg3) (ix3 ⟨r.val / 8192, by omega⟩ ⟨r.val % 8192, by omega⟩ k) := by
  rw [iblk]
  show V m c main_v8 ((win0_3.blk t).view.emb (ix2 i k)) = _
  rw [show (win0_3.blk t).view.emb (ix2 i k) = ix2 r k by blk_ext [idx_facts t], V_v8]
  exact row512_apply _ r k

/-- The gates' window at step `t`. -/
theorem blk4 (c : Dev nD) (t : Fin cfg0.N) (i : Fin 512) (k : Fin 3072) (r : Fin 16384) (hr : r.val = t.val * 512 + i.val) :
    iblk m c 4 t (ix2 i k) = m ((c : Thread nD τ).loc main_arg4) (ix3 ⟨r.val / 8192, by omega⟩ ⟨r.val % 8192, by omega⟩ k) := by
  rw [iblk]
  show V m c main_v10 ((win0_4.blk t).view.emb (ix2 i k)) = _
  rw [show (win0_4.blk t).view.emb (ix2 i k) = ix2 r k by blk_ext [idx_facts t], V_v10]
  exact row3072_apply _ r k

/-- The first branch's weight is read whole. -/
theorem blk5 (c : Dev nD) (t : Fin cfg0.N) (i : Fin 512) (k : Fin 1024) :
    iblk m c 5 t (ix2 i k) = m ((c : Thread nD τ).loc main_arg5) (ix2 i k) := by
  blk_point [iblk, V, idx_facts t]

/-- The sparse branch's weight is read whole. -/
theorem blk6 (c : Dev nD) (t : Fin cfg0.N) (i : Fin 1024) (k : Fin 1024) :
    iblk m c 6 t (ix2 i k) = spread (fun i => m ((c : Thread nD τ).loc main_arg6) (ix2 i k)) i := by
  rw [iblk]
  show V m c main_v12 ((win0_6.blk t).view.emb (ix2 i k)) = _
  rw [show (win0_6.blk t).view.emb (ix2 i k) = ix2 i k by blk_ext [idx_facts t], V_v12]
  exact padW_apply _ i k

/-- The third branch's weight is read whole. -/
theorem blk7 (c : Dev nD) (t : Fin cfg0.N) (i : Fin 512) (k : Fin 1024) :
    iblk m c 7 t (ix2 i k) = m ((c : Thread nD τ).loc main_arg7) (ix2 i k) := by
  blk_point [iblk, V, idx_facts t]

/-- The output projection's weight is read whole. -/
theorem blk8 (c : Dev nD) (t : Fin cfg0.N) (i : Fin 1024) (k : Fin 1024) :
    iblk m c 8 t (ix2 i k) = m ((c : Thread nD τ).loc main_arg8) (ix2 i k) := by
  blk_point [iblk, V, idx_facts t]

/-- The norm's weight is read whole. -/
theorem blk9 (c : Dev nD) (t : Fin cfg0.N) (k : Fin 1024) :
    iblk m c 9 t (ix2 0 k) = m ((c : Thread nD τ).loc main_arg9) (ix1 k) := by
  rw [iblk]
  show V m c main_v15 ((win0_9.blk t).view.emb (ix2 0 k)) = _
  rw [show (win0_9.blk t).view.emb (ix2 0 k) = ix2 0 k by blk_ext [idx_facts t], V_v15]
  pointwise

/-- The block's gated sum of the three projected branches, at an index. -/
theorem pay2_apply (g0 oa wa g1 ob wb g2 oc wc) (i : Fin 512) (j : Fin 1024) :
    k0_pay2 (F := Ideal) g0 oa wa g1 ob wb g2 oc wc (ix2 i j) =
      branch (g0 (ix2 i j)) (fun k => oa (ix2 i k)) (fun k => wa (ix2 k j))
      + branch (g1 (ix2 i j)) (fun k => ob (ix2 i k)) (fun k => wb (ix2 k j))
      + branch (g2 (ix2 i j)) (fun k => oc (ix2 i k)) (fun k => wc (ix2 k j)) := by
  pointwise [k0_pay2]
  rfl

/-- The block's result from its gated sum, at an index. -/
theorem pay1_apply (v w x no) (i : Fin 512) (j : Fin 1024) :
    k0_pay1 (F := Ideal) v w (constant _ .f32 0x00000000#32) x no (ix2 i j) =
      x (ix2 i j) + rmsRow (fun j => ∑ k : Fin 1024, v (ix2 i k) * w (ix2 k j)) (fun k => no (ix2 0 k)) j := by
  pointwise [k0_pay1]
  rfl
/-- The result array after all steps. -/
theorem final (c : Dev nD) : (dats m 0 c).arrAt 10 cfg0.N = mergeVec
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) := by
  refine (dats m 0 c).arrAt_eq_of_covers 10 _ (by decide +kernel) fun t hf y => ?_
  blk_simp
  rw [after0_10]
  frame_out
  idx_vars y
  have ht : t.val < 32 := t.isLt
  have he : ((View.whole main_v16).slice (win0_10.rect t)).emb (ix2 y0 y1) = ix2 ⟨t.val * 512 + y0.val, by omega⟩ y1 := by
    blk_ext [idx_facts t]
  rw [he]
  pointwise [pay1_apply, pay2_apply, k0_pay3]
  show _ = mergeAt _ _ _ _ _ _ _ _ _ _ _ _
  simp only [fun k => blk0 m c t y0 k ⟨t.val * 512 + y0.val, by omega⟩ rfl, fun k => blk1 m c t y0 k ⟨t.val * 512 + y0.val, by omega⟩ rfl,
    fun k => blk2 m c t y0 k ⟨t.val * 512 + y0.val, by omega⟩ rfl, fun k => blk3 m c t y0 k ⟨t.val * 512 + y0.val, by omega⟩ rfl,
    fun k => blk4 m c t y0 k ⟨t.val * 512 + y0.val, by omega⟩ rfl, blk5, blk6, blk7, blk8, blk9, branch, sum_spread]
  rfl
end

section
open Cert.Reference3Ideal hiding S2x8192x1024 S2x8192x512 S2x8192x3072 S512x1024 S1024x1024 S1024 S16384x1024
open Cert.Reference3Ideal.Gen
variable (m : (ℓ : Loc nD τ sig) → Buf (Elt Ideal) ℓ)

/-- The reference's gated sum of the three projected branches. -/
def sumV (A B C : FVec Ideal S2x8192x512 .f32) (G : FVec Ideal S2x8192x3072 .f32) (wa wb wc : FVec Ideal S512x1024 .f32) : FVec Ideal S2x8192x1024 .f32 :=
  (addf (addf (mulf (shapeCast _ (extractStridedSlice S2x8192x1x1024 ![0, 0, 0, 0] (shapeCast _ G shapeCasts_S2x8192x3072_S2x8192x3x1024) slices_S2x8192x3x1024_S2x8192x1x1024_0_0_0_0) shapeCasts_S2x8192x1x1024_S2x8192x1024) (Host.dotGeneral dot_S2x8192x512_S512x1024_S2x8192x1024_2_0_01_1_n_n none A wa)) (mulf (shapeCast _ (extractStridedSlice S2x8192x1x1024 ![0, 0, 1, 0] (shapeCast _ G shapeCasts_S2x8192x3072_S2x8192x3x1024) slices_S2x8192x3x1024_S2x8192x1x1024_0_0_1_0) shapeCasts_S2x8192x1x1024_S2x8192x1024) (Host.dotGeneral dot_S2x8192x512_S512x1024_S2x8192x1024_2_0_01_1_n_n none B wb))) (mulf (shapeCast _ (extractStridedSlice S2x8192x1x1024 ![0, 0, 2, 0] (shapeCast _ G shapeCasts_S2x8192x3072_S2x8192x3x1024) slices_S2x8192x3x1024_S2x8192x1x1024_0_0_2_0) shapeCasts_S2x8192x1x1024_S2x8192x1024) (Host.dotGeneral dot_S2x8192x512_S512x1024_S2x8192x1024_2_0_01_1_n_n none C wc)))

/-- The reference's gated sum at an index. -/
theorem sumV_apply (A B C G wa wb wc) (b : Fin 2) (s : Fin 8192) (j : Fin 1024) :
    sumV A B C G wa wb wc (ix3 b s j) =
      branch (G (ix3 b s ⟨j.val, by omega⟩)) (fun i => A (ix3 b s i)) (fun i => wa (ix2 i j))
      + branch (G (ix3 b s ⟨1024 + j.val, by omega⟩)) (fun i => B (ix3 b s i)) (fun i => wb (ix2 i j))
      + branch (G (ix3 b s ⟨2048 + j.val, by omega⟩)) (fun i => C (ix3 b s i)) (fun i => wc (ix2 i j)) := by
  pointwise [sumV]
  rfl

/-- The reference's result, written with the gated sum. -/
theorem res_eq (c : Dev nD) : Cert.Reference3Ideal.Value.res_out0 (F := Ideal) m c =
    (fun (X : FVec Ideal S2x8192x1024 .f32) (A B C : FVec Ideal S2x8192x512 .f32) (G : FVec Ideal S2x8192x3072 .f32) (wa wb wc : FVec Ideal S512x1024 .f32) (wo : FVec Ideal S1024x1024 .f32) (no : FVec Ideal S1024 .f32) =>
      (shapeCast _ (addf X (Cert.Ffn.rmsV (Host.dotGeneral dot_S2x8192x1024_S1024x1024_S2x8192x1024_2_0_01_1_n_n none (sumV A B C G wa wb wc) wo) no)) shapeCasts_S2x8192x1024_S16384x1024 : FVec Ideal S16384x1024 .f32))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

/-- The reference's result at an index. -/
theorem ref_apply (c : Dev nD) (t : Fin 16384) (j : Fin 1024) :
    Cert.Reference3Ideal.Value.res_out0 (F := Ideal) m c (ix2 t j) = mergeAt
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) t j := by
  rw [res_eq]
  pointwise [Cert.Ffn.rmsV_apply, sumV_apply]
  rfl
end

/-- From arrays that agree the kernel and the reference end with equal results. -/
theorem algebraic : Cert.algebraic_Kernel3Ideal_Reference3Ideal (hKernel3Ideal := Cert.Kernel3Ideal.Gen.facts)
    (hReference3Ideal := Cert.Reference3Ideal.Gen.facts) := by
  intro m g m' g' _ hag
  refine ⟨_, (θ_run Cert.Kernel3Ideal.defs _ _).mono (fun _ h c => ⟨(h c).1.trans (final m c), (h c).2⟩)
    (Cert.Kernel3Ideal.Value.run_blocks (F := Ideal) m g), ?_⟩
  refine (θ_run Cert.Reference3Ideal.defs _ _).mono (fun _ h c => ⟨(h c).1.trans ?_, (h c).2⟩)
    (Cert.Reference3Ideal.Value.run (F := Ideal) m' g')
  obtain ⟨h0, h1, h2, h3, h4, h5, h6, h7, h8, h9⟩ := hag c
  funext y
  idx_vars y
  refine (ref_apply m' c y0 y1).trans ?_
  rw [h0, h1, h2, h3, h4, h5, h6, h7, h8, h9]
  rfl

end Cert.Merge
end
-- ==== Proof.Proj.lean ====
module

public import proofs.«01_k».proof.Defs
public import proofs.«01_k».proof.Proof.Gen.Kernel4Ideal.Value
public import proofs.«01_k».proof.Proof.Gen.Reference4Ideal.Run
public import proofs.«01_k».proof.Proof.Ffn
public import proofs.«01_k».proof.Proof.Merge

@[expose] public section

set_option maxRecDepth 16384

noncomputable section

namespace Cert.Proj

open Idealize.ShloMosaic Idealize.ShloMosaic.TcCoe Idealize.SL.Sem
open Cert.Kernel4Ideal (S2x8192x1024 S1024 S1024x8432 S1024x3840)
open Cert.Ffn (rmsRow rmsV rmsV_apply)

/-- One column of weights against the normalised row of token `t` of the flattened batch. -/
def col (X : S2x8192x1024.Idx → EReal) (np : S1024.Idx → EReal) (w : Fin 1024 → EReal) (t : Fin 16384) : EReal :=
  ∑ k, rmsRow (fun k => X (ix3 ⟨t.val / 8192, by omega⟩ ⟨t.val % 8192, by omega⟩ k)) (fun k => np (ix1 k)) k * w k

/-- A column of zeros gives zero. -/
theorem col_zero (X np t) : col X np (fun _ => 0) t = 0 := by
  unfold col
  simp only [mul_zero, Finset.sum_const_zero]

section
open Cert.Kernel4Ideal hiding S2x8192x1024 S1024 S1024x8432 S1024x3840
open Cert.Kernel4Ideal.Gen
variable (m : (ℓ : Loc nD τ sig) → Buf (Elt Ideal) ℓ)

/-- A `jnp.pad` by the integer zero converted to a float. -/
abbrev padZ : FVec Ideal S_ .f32 := sitofp (F := Ideal) .f32 (constantI S_ 32 0#32)

/-- The weights the kernel's host lays side by side: the columns of both recurrent branches, two narrow parts filled up with zeros. -/
def wall (W : FVec Ideal S1024x8432 .f32) : FVec Ideal S1024x3840 .bf16 :=
  truncf .bf16 (concatenate S1024x3840 1 [
    ⟨S1024x1536, concatenate S1024x1536 1 [⟨S1024x512, extractStridedSlice S1024x512 ![0, 0] W slices_S1024x8432_S1024x512_0_0⟩,
      ⟨S1024x512, extractStridedSlice S1024x512 ![0, 512] W slices_S1024x8432_S1024x512_0_512⟩,
      ⟨S1024x512, extractStridedSlice S1024x512 ![0, 1024] W slices_S1024x8432_S1024x512_0_1024⟩] concatenates_S1024x512_S1024x512_S1024x512_S1024x1536_d1⟩,
    ⟨S1024x512, extractStridedSlice S1024x512 ![0, 1536] W slices_S1024x8432_S1024x512_0_1536⟩,
    ⟨S1024x128, pad S1024x128 ![0, 0] ![0, 120] ![0, 0] (concatenate S1024x8 1 [⟨S1024x4, extractStridedSlice S1024x4 ![0, 2048] W slices_S1024x8432_S1024x4_0_2048⟩,
      ⟨S1024x4, extractStridedSlice S1024x4 ![0, 2052] W slices_S1024x8432_S1024x4_0_2052⟩] concatenates_S1024x4_S1024x4_S1024x8_d1) padZ pads_S1024x8_S1024x128_000_01200 h_S_⟩,
    ⟨S1024x512, concatenate S1024x512 1 [⟨S1024x256, extractStridedSlice S1024x256 ![0, 3808] W slices_S1024x8432_S1024x256_0_3808⟩,
      ⟨S1024x256, extractStridedSlice S1024x256 ![0, 4064] W slices_S1024x8432_S1024x256_0_4064⟩] concatenates_S1024x256_S1024x256_S1024x512_d1⟩,
    ⟨S1024x512, extractStridedSlice S1024x512 ![0, 4320] W slices_S1024x8432_S1024x512_0_4320⟩,
    ⟨S1024x512, extractStridedSlice S1024x512 ![0, 4832] W slices_S1024x8432_S1024x512_0_4832⟩,
    ⟨S1024x128, pad S1024x128 ![0, 0] ![0, 112] ![0, 0] (extractStridedSlice S1024x16 ![0, 5344] W slices_S1024x8432_S1024x16_0_5344) padZ pads_S1024x16_S1024x128_000_01120 h_S_⟩]
    concatenates_S1024x1536_S1024x512_S1024x128_S1024x512_S1024x512_S1024x512_S1024x128_S1024x3840_d1) bitsLt_bf16_f32

/-- The weights as the region finds them. -/
theorem V_v42 (c : Dev nD) : V m c main_v42 = wall (m ((c : Thread nD τ).loc main_arg2)) := by
  sl_kernel_rfl
/-- The layer input's rows as the region finds them. -/
theorem V_v40 (c : Dev nD) : V m c main_v40 = shapeCast S16384x1024 (m ((c : Thread nD τ).loc main_arg0)) shapeCasts_S2x8192x1024_S16384x1024 := rfl
/-- The norm's weight as the region finds it. -/
theorem V_v43 (c : Dev nD) : V m c main_v43 = shapeCast S1x1024 (m ((c : Thread nD τ).loc main_arg1)) shapeCasts_S1024_S1x1024 := rfl

/-- The column of `w_in` a column of `wall` stands for, or zero. -/
def wcol (W : FVec Ideal S1024x8432 .f32) (k : Fin 1024) (j : ℕ) : EReal :=
  if h : j < 2056 then W (ix2 k ⟨j, by omega⟩)
  else if j < 2176 then 0
  else if h : j < 3728 then W (ix2 k ⟨1632 + j, by omega⟩)
  else 0

/-- `wall` column by column. -/
theorem wall_apply (W) (k : Fin 1024) (j : Fin 3840) : wall W (ix2 k j) = wcol W k j.val := by
  unfold wcol
  pointwise [wall, Cert.Merge.sitofp_zero]
  repeat' split
  all_goals first
    | (exfalso; omega)
    | rfl
    | exact congrArg (fun f => W (ix2 k f)) (Fin.ext (by dsimp only; omega))

/-- Where each window's block lies at a grid point. -/
theorem idx_facts : ∀ t : Fin grid0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] := by decide +kernel

/-- The body's normalised rows. -/
theorem pay7_apply (x0 x1) (i : Fin 512) (j : Fin 1024) :
    k0_pay7 (F := Ideal) x0 x1 (ix2 i j) = rmsRow (fun k => x0 (ix2 i k)) (fun k => x1 (ix2 0 k)) j := by
  pointwise [k0_pay7]
  rfl

/-- A row of the flattened batch is the row of its batch entry. -/
theorem row_apply (x : FVec Ideal S2x8192x1024 .f32) (r : Fin 16384) (k : Fin 1024) :
    shapeCast S16384x1024 x shapeCasts_S2x8192x1024_S16384x1024 (ix2 r k) = x (ix3 ⟨r.val / 8192, by omega⟩ ⟨r.val % 8192, by omega⟩ k) := by
  pointwise

/-- The norm's weight as one row. -/
theorem nrow_apply (x : FVec Ideal S1024 .f32) (k : Fin 1024) :
    shapeCast S1x1024 x shapeCasts_S1024_S1x1024 (ix2 0 k) = x (ix1 k) := by
  pointwise

/-- Row `i` of the block of tokens at point `t`. -/
theorem blk0 (c : Dev nD) (t : Fin cfg0.N) (i : Fin 512) (k : Fin 1024) (r : Fin 16384) (hr : r.val = t.val * 512 + i.val) :
    iblk m c 0 t (ix2 i k) = m ((c : Thread nD τ).loc main_arg0) (ix3 ⟨r.val / 8192, by omega⟩ ⟨r.val % 8192, by omega⟩ k) := by
  show V m c main_v40 ((win0_0.blk t).view.emb (ix2 i k)) = _
  rw [show (win0_0.blk t).view.emb (ix2 i k) = ix2 r k by blk_ext [idx_facts t], V_v40]
  exact row_apply _ r k

/-- The norm's weight, the same at every point. -/
theorem blk1 (c : Dev nD) (t : Fin cfg0.N) (k : Fin 1024) :
    iblk m c 1 t (ix2 0 k) = m ((c : Thread nD τ).loc main_arg1) (ix1 k) := by
  show V m c main_v43 ((win0_1.blk t).view.emb (ix2 0 k)) = _
  rw [show (win0_1.blk t).view.emb (ix2 0 k) = ix2 0 k by blk_ext [idx_facts t], V_v43]
  exact nrow_apply _ k

/-- The weights, the same at every point. -/
theorem blk2 (c : Dev nD) (t : Fin cfg0.N) (k : Fin 1024) (j : Fin 3840) :
    iblk m c 2 t (ix2 k j) = wcol (m ((c : Thread nD τ).loc main_arg2)) k j.val := by
  show V m c main_v42 ((win0_2.blk t).view.emb (ix2 k j)) = _
  rw [show (win0_2.blk t).view.emb (ix2 k j) = ix2 k j by blk_ext [idx_facts t], V_v42]
  exact wall_apply _ k j

/-- Column `j` of the kernel's weights against token `t`'s row, from the arrays at launch. -/
def kcol (c : Dev nD) (t : Fin 16384) (j : ℕ) : EReal :=
  col (m ((c : Thread nD τ).loc main_arg0)) (m ((c : Thread nD τ).loc main_arg1)) (fun k => wcol (m ((c : Thread nD τ).loc main_arg2)) k j) t

/-- The same from arrays equal to those at launch. -/
theorem kcol_of (c : Dev nD) {X : FVec Ideal S2x8192x1024 .f32} {np : FVec Ideal S1024 .f32} {W : FVec Ideal S1024x8432 .f32}
    (h0 : X = m ((c : Thread nD τ).loc main_arg0)) (h1 : np = m ((c : Thread nD τ).loc main_arg1)) (h2 : W = m ((c : Thread nD τ).loc main_arg2))
    (t : Fin 16384) (j : ℕ) : kcol m c t j = col X np (fun k => wcol W k j) t := by
  subst h0 h1 h2
  rfl

/-- The body's normalised rows against one column of the block of weights. -/
theorem kcol_eq (c : Dev nD) (t : Fin cfg0.N) (i : Fin 512) (j : Fin 3840) (r : Fin 16384) (hr : r.val = t.val * 512 + i.val) :
    ∑ k : Fin 1024, rmsRow (fun k => iblk m c 0 t (ix2 i k)) (fun k => iblk m c 1 t (ix2 0 k)) k * iblk m c 2 t (ix2 k j) =
      kcol m c r j.val := by
  unfold kcol col
  simp only [fun k => blk0 m c t i k r hr, blk1, blk2]

/-- The first output at the end: columns of the kernel's weights from 0 on. -/
theorem final3 (c : Dev nD) : (dats m 0 c).arrAt 3 cfg0.N = fun y : S16384x1536.Idx => kcol m c (y 0) (y 1).val := by
  refine (dats m 0 c).arrAt_eq_of_covers 3 _ (by decide +kernel) fun t hf y => ?_
  blk_simp
  rw [after0_3]
  unfold_out out0_3
  frame_out
  idx_vars y
  have ht : t.val < 32 := t.isLt
  rw [show ((View.whole main_v44_0).slice (win0_3.rect t)).emb (ix2 y0 y1) = ix2 ⟨t.val * 512 + y0.val, by omega⟩ y1 by
    blk_ext [idx_facts t], show win0_3.index t 1 = 0 by simp [idx_facts t], Nat.zero_mul, Nat.zero_add]
  refine Eq.trans ?_ (kcol_eq m c t y0 ⟨y1.val, by omega⟩ ⟨t.val * 512 + y0.val, by omega⟩ rfl)
  canon_tiles x h
  all_goals idx_vars x
  all_goals pointwise [k0_pay8, k0_pay9, k0_pay10, pay7_apply]
  all_goals
    obtain rfl : x0 = y0 := Fin.ext h0.symm
    simp only [h1]

/-- The second output at the end: columns of the kernel's weights from 1536 on. -/
theorem final4 (c : Dev nD) : (dats m 0 c).arrAt 4 cfg0.N = fun y : S16384x512.Idx => kcol m c (y 0) (1536 + (y 1).val) := by
  refine (dats m 0 c).arrAt_eq_of_covers 4 _ (by decide +kernel) fun t hf y => ?_
  blk_simp
  rw [after0_4]
  unfold_out out0_4
  frame_out
  idx_vars y
  have ht : t.val < 32 := t.isLt
  rw [show ((View.whole main_v44_1).slice (win0_4.rect t)).emb (ix2 y0 y1) = ix2 ⟨t.val * 512 + y0.val, by omega⟩ y1 by
    blk_ext [idx_facts t], show win0_4.index t 1 = 0 by simp [idx_facts t], Nat.zero_mul, Nat.zero_add]
  pointwise [k0_pay1, k0_pay11, k0_pay12, pay7_apply]
  exact kcol_eq m c t y0 ⟨1536 + y1.val, by omega⟩ ⟨t.val * 512 + y0.val, by omega⟩ rfl

/-- The third output at the end: columns of the kernel's weights from 2048 on. -/
theorem final5 (c : Dev nD) : (dats m 0 c).arrAt 5 cfg0.N = fun y : S16384x128.Idx => kcol m c (y 0) (2048 + (y 1).val) := by
  refine (dats m 0 c).arrAt_eq_of_covers 5 _ (by decide +kernel) fun t hf y => ?_
  blk_simp
  rw [after0_5]
  unfold_out out0_5
  frame_out
  idx_vars y
  have ht : t.val < 32 := t.isLt
  rw [show ((View.whole main_v44_2).slice (win0_5.rect t)).emb (ix2 y0 y1) = ix2 ⟨t.val * 512 + y0.val, by omega⟩ y1 by
    blk_ext [idx_facts t], show win0_5.index t 1 = 0 by simp [idx_facts t], Nat.zero_mul, Nat.zero_add]
  pointwise [k0_pay2, k0_pay12, pay7_apply]
  exact kcol_eq m c t y0 ⟨2048 + y1.val, by omega⟩ ⟨t.val * 512 + y0.val, by omega⟩ rfl

/-- The fourth output at the end: columns of the kernel's weights from 2176 on. -/
theorem final6 (c : Dev nD) : (dats m 0 c).arrAt 6 cfg0.N = fun y : S16384x512.Idx => kcol m c (y 0) (2176 + (y 1).val) := by
  refine (dats m 0 c).arrAt_eq_of_covers 6 _ (by decide +kernel) fun t hf y => ?_
  blk_simp
  rw [after0_6]
  unfold_out out0_6
  frame_out
  idx_vars y
  have ht : t.val < 32 := t.isLt
  rw [show ((View.whole main_v44_3).slice (win0_6.rect t)).emb (ix2 y0 y1) = ix2 ⟨t.val * 512 + y0.val, by omega⟩ y1 by
    blk_ext [idx_facts t], show win0_6.index t 1 = 0 by simp [idx_facts t], Nat.zero_mul, Nat.zero_add]
  pointwise [k0_pay3, k0_pay12, pay7_apply]
  exact kcol_eq m c t y0 ⟨2176 + y1.val, by omega⟩ ⟨t.val * 512 + y0.val, by omega⟩ rfl

/-- The fifth output at the end: columns of the kernel's weights from 2688 on. -/
theorem final7 (c : Dev nD) : (dats m 0 c).arrAt 7 cfg0.N = fun y : S16384x512.Idx => kcol m c (y 0) (2688 + (y 1).val) := by
  refine (dats m 0 c).arrAt_eq_of_covers 7 _ (by decide +kernel) fun t hf y => ?_
  blk_simp
  rw [after0_7]
  unfold_out out0_7
  frame_out
  idx_vars y
  have ht : t.val < 32 := t.isLt
  rw [show ((View.whole main_v44_4).slice (win0_7.rect t)).emb (ix2 y0 y1) = ix2 ⟨t.val * 512 + y0.val, by omega⟩ y1 by
    blk_ext [idx_facts t], show win0_7.index t 1 = 0 by simp [idx_facts t], Nat.zero_mul, Nat.zero_add]
  pointwise [k0_pay4, k0_pay12, pay7_apply]
  exact kcol_eq m c t y0 ⟨2688 + y1.val, by omega⟩ ⟨t.val * 512 + y0.val, by omega⟩ rfl

/-- The sixth output at the end: columns of the kernel's weights from 3200 on. -/
theorem final8 (c : Dev nD) : (dats m 0 c).arrAt 8 cfg0.N = fun y : S16384x512.Idx => kcol m c (y 0) (3200 + (y 1).val) := by
  refine (dats m 0 c).arrAt_eq_of_covers 8 _ (by decide +kernel) fun t hf y => ?_
  blk_simp
  rw [after0_8]
  unfold_out out0_8
  frame_out
  idx_vars y
  have ht : t.val < 32 := t.isLt
  rw [show ((View.whole main_v44_5).slice (win0_8.rect t)).emb (ix2 y0 y1) = ix2 ⟨t.val * 512 + y0.val, by omega⟩ y1 by
    blk_ext [idx_facts t], show win0_8.index t 1 = 0 by simp [idx_facts t], Nat.zero_mul, Nat.zero_add]
  pointwise [k0_pay5, k0_pay12, pay7_apply]
  exact kcol_eq m c t y0 ⟨3200 + y1.val, by omega⟩ ⟨t.val * 512 + y0.val, by omega⟩ rfl

/-- The seventh output at the end: columns of the kernel's weights from 3712 on. -/
theorem final9 (c : Dev nD) : (dats m 0 c).arrAt 9 cfg0.N = fun y : S16384x128.Idx => kcol m c (y 0) (3712 + (y 1).val) := by
  refine (dats m 0 c).arrAt_eq_of_covers 9 _ (by decide +kernel) fun t hf y => ?_
  blk_simp
  rw [after0_9]
  unfold_out out0_9
  frame_out
  idx_vars y
  have ht : t.val < 32 := t.isLt
  rw [show ((View.whole main_v44_6).slice (win0_9.rect t)).emb (ix2 y0 y1) = ix2 ⟨t.val * 512 + y0.val, by omega⟩ y1 by
    blk_ext [idx_facts t], show win0_9.index t 1 = 0 by simp [idx_facts t], Nat.zero_mul, Nat.zero_add]
  pointwise [k0_pay6, k0_pay12, pay7_apply]
  exact kcol_eq m c t y0 ⟨3712 + y1.val, by omega⟩ ⟨t.val * 512 + y0.val, by omega⟩ rfl

end

section
open Cert.Reference4Ideal hiding S2x8192x1024 S1024 S1024x8432
open Cert.Reference4Ideal.Gen
variable (m : (ℓ : Loc nD τ sig) → Buf (Elt Ideal) ℓ)

/-- The reference's projection of every token. -/
def refP (X : FVec Ideal S2x8192x1024 .f32) (np : FVec Ideal S1024 .f32) (W : FVec Ideal S1024x8432 .f32) : FVec Ideal S16384x8432 .f32 :=
  shapeCast S16384x8432 (Host.dotGeneral dot_S2x8192x1024_S1024x8432_S2x8192x8432_2_0_01_1_n_n none (rmsV X np) W) shapeCasts_S2x8192x8432_S16384x8432

/-- Its entry at token `t` is the column against the token's normalised row. -/
theorem refP_apply (X np W) (t : Fin 16384) (j : Fin 8432) : refP X np W (ix2 t j) = col X np (fun k => W (ix2 k j)) t := by
  pointwise [refP, rmsV_apply]
  rfl

/-- The columns from 2056 to 2175 of the kernel's weights are zeros. -/
theorem wcol_gap (W k) (j : ℕ) (h : 2056 ≤ j) (h' : j < 2176) : wcol W k j = 0 := by
  unfold wcol
  rw [dif_neg (by omega), if_pos h']

/-- The columns from 3728 on of the kernel's weights are zeros. -/
theorem wcol_tail (W k) (j : ℕ) (h : 3728 ≤ j) : wcol W k j = 0 := by
  unfold wcol
  rw [dif_neg (by omega), if_neg (by omega), dif_neg (by omega)]

/-- The first columns of the kernel's weights are those of `w_in`. -/
theorem ref_low (X np W) (t : Fin 16384) (i : Fin 8432) (j : ℕ) (h : j < 2056) (hi : i.val = j) :
    refP X np W (ix2 t i) = col X np (fun k => wcol W k j) t := by
  subst hi
  rw [refP_apply]
  simp only [wcol, dif_pos h]

/-- The later columns of the kernel's weights are those of `w_in` 1632 further on. -/
theorem ref_high (X np W) (t : Fin 16384) (i : Fin 8432) (j : ℕ) (h : 2176 ≤ j) (h' : j < 3728) (hi : i.val = 1632 + j) :
    refP X np W (ix2 t i) = col X np (fun k => wcol W k j) t := by
  rcases i with ⟨i, hi'⟩
  obtain rfl : i = 1632 + j := hi
  rw [refP_apply]
  unfold wcol
  simp only [dif_neg (show ¬ j < 2056 by omega), if_neg (show ¬ j < 2176 by omega), dif_pos h']

/-- The reference's joined columns of the first branch's two gates, filled up with zeros. -/
theorem ref_ba (X np W) (P : FVec Ideal S16384x8432 .f32) (hP : P = refP X np W) :
    concatenate S16384x128 1 [⟨S16384x8, extractStridedSlice S16384x8 ![0, 2048] P slices_S16384x8432_S16384x8_0_2048⟩,
      ⟨S16384x120, broadcastInDim S16384x120 ![] bcast_S_S16384x120 (constant S_ .f32 0x00000000#32)⟩] concatenates_S16384x8_S16384x120_S16384x128_d1 =
    fun y : S16384x128.Idx => col X np (fun k => wcol W k (2048 + (y 1).val)) (y 0) := by
  subst hP
  funext y
  idx_vars y
  pointwise
  split
  · exact ref_low X np W y0 _ _ (by omega) rfl
  · simp only [fun k => wcol_gap W k (2048 + y1.val) (by omega) (by omega), col_zero]

/-- The reference's low-rank gate of the third branch, filled up with zeros. -/
theorem ref_a (X np W) (P : FVec Ideal S16384x8432 .f32) (hP : P = refP X np W) :
    concatenate S16384x128 1 [⟨S16384x16, extractStridedSlice S16384x16 ![0, 5344] P slices_S16384x8432_S16384x16_0_5344⟩,
      ⟨S16384x112, broadcastInDim S16384x112 ![] bcast_S_S16384x112 (constant S_ .f32 0x00000000#32)⟩] concatenates_S16384x16_S16384x112_S16384x128_d1 =
    fun y : S16384x128.Idx => col X np (fun k => wcol W k (3712 + (y 1).val)) (y 0) := by
  subst hP
  funext y
  idx_vars y
  pointwise
  split
  · exact ref_high X np W y0 _ _ (by omega) (by omega) (by dsimp only; omega)
  · simp only [fun k => wcol_tail W k (3712 + y1.val) (by omega), col_zero]

/-- A run of 512 columns of the reference's projection from 3808 on. -/
theorem ref_run (X np W) (P : FVec Ideal S16384x8432 .f32) (hP : P = refP X np W) (o : ℕ) (h : 3808 ≤ o) (ho : o ≤ 4832)
    (hs : S16384x8432.Slices ![0, o] S16384x512) :
    extractStridedSlice S16384x512 ![0, o] P hs = fun y : S16384x512.Idx => col X np (fun k => wcol W k (o - 1632 + (y 1).val)) (y 0) := by
  subst hP
  funext y
  idx_vars y
  pointwise
  exact ref_high X np W y0 _ _ (by omega) (by omega) (by dsimp only; omega)

/-- The reference's first 1536 columns. -/
theorem ref_qkv (X np W) (P : FVec Ideal S16384x8432 .f32) (hP : P = refP X np W) :
    extractStridedSlice S16384x1536 ![0, 0] P slices_S16384x8432_S16384x1536_0_0 =
      fun y : S16384x1536.Idx => col X np (fun k => wcol W k (y 1).val) (y 0) := by
  subst hP
  funext y
  idx_vars y
  pointwise
  exact ref_low X np W y0 _ _ (by omega) rfl

/-- The reference's next 512 columns. -/
theorem ref_z (X np W) (P : FVec Ideal S16384x8432 .f32) (hP : P = refP X np W) :
    extractStridedSlice S16384x512 ![0, 1536] P slices_S16384x8432_S16384x512_0_1536 =
      fun y : S16384x512.Idx => col X np (fun k => wcol W k (1536 + (y 1).val)) (y 0) := by
  subst hP
  funext y
  idx_vars y
  pointwise
  exact ref_low X np W y0 _ _ (by omega) rfl

end

/-- From arrays that agree the kernel and the reference end with equal results, all seven of them. -/
theorem algebraic : Cert.algebraic_Kernel4Ideal_Reference4Ideal (hKernel4Ideal := Cert.Kernel4Ideal.Gen.facts)
    (hReference4Ideal := Cert.Reference4Ideal.Gen.facts) := by
  intro m g m' g' _ hag
  refine ⟨fun c => (fun y : Cert.Kernel4Ideal.S16384x1536.Idx => kcol m c (y 0) ((y 1).val)),
    fun c => (fun y : Cert.Kernel4Ideal.S16384x512.Idx => kcol m c (y 0) (1536 + (y 1).val)),
    fun c => (fun y : Cert.Kernel4Ideal.S16384x128.Idx => kcol m c (y 0) (2048 + (y 1).val)),
    fun c => (fun y : Cert.Kernel4Ideal.S16384x512.Idx => kcol m c (y 0) (2176 + (y 1).val)),
    fun c => (fun y : Cert.Kernel4Ideal.S16384x512.Idx => kcol m c (y 0) (2688 + (y 1).val)),
    fun c => (fun y : Cert.Kernel4Ideal.S16384x512.Idx => kcol m c (y 0) (3200 + (y 1).val)),
    fun c => (fun y : Cert.Kernel4Ideal.S16384x128.Idx => kcol m c (y 0) (3712 + (y 1).val)),
    (θ_run Cert.Kernel4Ideal.defs _ _).mono (fun _ h c => ?_) (Cert.Kernel4Ideal.Value.run_blocks (F := Ideal) m g),
    (θ_run Cert.Reference4Ideal.defs _ _).mono (fun _ h c => ?_) (Cert.Reference4Ideal.Value.run (F := Ideal) m' g')⟩
  · obtain ⟨a, b, d, e, f, i, j, k⟩ := h c
    exact ⟨a.trans (final3 m c), b.trans (final4 m c), d.trans (final5 m c), e.trans (final6 m c), f.trans (final7 m c),
      i.trans (final8 m c), j.trans (final9 m c), k⟩
  · obtain ⟨a, b, d, e, f, i, j, k⟩ := h c
    obtain ⟨h0, h1, h2⟩ := hag c
    exact ⟨a.trans ((ref_qkv _ _ _ _ rfl).trans (funext fun y => (kcol_of m c h0 h1 h2 _ _).symm)), b.trans ((ref_z _ _ _ _ rfl).trans (funext fun y => (kcol_of m c h0 h1 h2 _ _).symm)),
      d.trans ((ref_ba _ _ _ _ rfl).trans (funext fun y => (kcol_of m c h0 h1 h2 _ _).symm)),
      e.trans ((ref_run _ _ _ _ rfl 3808 (by decide) (by decide) _).trans (funext fun y => (kcol_of m c h0 h1 h2 _ _).symm)),
      f.trans ((ref_run _ _ _ _ rfl 4320 (by decide) (by decide) _).trans (funext fun y => (kcol_of m c h0 h1 h2 _ _).symm)),
      i.trans ((ref_run _ _ _ _ rfl 4832 (by decide) (by decide) _).trans (funext fun y => (kcol_of m c h0 h1 h2 _ _).symm)),
      j.trans ((ref_a _ _ _ _ rfl).trans (funext fun y => (kcol_of m c h0 h1 h2 _ _).symm)), k⟩

end Cert.Proj
end
-- ==== Proof.ProjNsa.lean ====
module

public import proofs.«01_k».proof.Defs
public import proofs.«01_k».proof.Proof.Gen.Kernel5Ideal.Value
public import proofs.«01_k».proof.Proof.Gen.Reference5Ideal.Run
public import proofs.«01_k».proof.Proof.Proj

@[expose] public section

set_option maxRecDepth 16384

noncomputable section

namespace Cert.ProjNsa

open Idealize.ShloMosaic Idealize.ShloMosaic.TcCoe Idealize.SL.Sem
open Cert.Kernel5Ideal (S2x8192x1024 S1024 S1024x8432 S1024x5632)
open Cert.Ffn (rmsRow rmsV rmsV_apply)
open Cert.Proj (col col_zero)

/-- Entry `n` of row `k` of `w_in`, zero past its end. -/
def at' (W : S1024x8432.Idx → EReal) (k : Fin 1024) (n : ℕ) : EReal := if h : n < 8432 then W (ix2 k ⟨n, h⟩) else 0

/-- An entry of `w_in` by the number of its column. -/
theorem at_of (W : S1024x8432.Idx → EReal) (k : Fin 1024) (f : Fin 8432) (n : ℕ) (h : f.val = n) : W (ix2 k f) = at' W k n := by
  subst h
  unfold at'
  rw [dif_pos f.isLt]

/-- Column `n` of the projection of token `t`. -/
def acol (X : S2x8192x1024.Idx → EReal) (np : S1024.Idx → EReal) (W : S1024x8432.Idx → EReal) (t : Fin 16384) (n : ℕ) : EReal :=
  col X np (fun k => at' W k n) t

/-- Lane `j` of heads of width `w` laid 128 apart, taken from `w_in` columns `s` apart from `o` on, the lanes left over holding `f`. -/
def head (X : S2x8192x1024.Idx → EReal) (np : S1024.Idx → EReal) (W : S1024x8432.Idx → EReal) (w s o : ℕ) (f : EReal) (t : Fin 16384) (j : ℕ) : EReal :=
  if j % 128 < w then acol X np W t (o + j / 128 * s + j % 128) else f

section
open Cert.Kernel5Ideal hiding S2x8192x1024 S1024 S1024x8432 S1024x5632
open Cert.Kernel5Ideal.Gen
variable (m : (ℓ : Loc nD τ sig) → Buf (Elt Ideal) ℓ)

/-- The integer zero converted to a float, with which the host fills up narrow heads. -/
abbrev padZ : FVec Ideal S_ .f32 := sitofp (F := Ideal) .f32 (constantI S_ 32 0#32)

/-- Two heads of 96 columns of a part of the weights, each filled up to 128. -/
def keys (P : FVec Ideal S1024x320 .f32) : FVec Ideal S1024x256 .f32 :=
  shapeCast S1024x256 (pad S1024x2x128 ![0, 0, 0] ![0, 0, 32] ![0, 0, 0] (extractStridedSlice S1024x2x96 ![0, 0, 0]
    (shapeCast S1024x2x160 P shapeCasts_S1024x320_S1024x2x160) slices_S1024x2x160_S1024x2x96_0_0_0) padZ
    pads_S1024x2x96_S1024x2x128_000_000_0320 h_S_) shapeCasts_S1024x2x128_S1024x256

/-- Two heads of 64 columns of a part of the weights, each filled up to 128. -/
def vals (P : FVec Ideal S1024x320 .f32) : FVec Ideal S1024x256 .f32 :=
  shapeCast S1024x256 (pad S1024x2x128 ![0, 0, 0] ![0, 0, 64] ![0, 0, 0] (extractStridedSlice S1024x2x64 ![0, 0, 96]
    (shapeCast S1024x2x160 P shapeCasts_S1024x320_S1024x2x160) slices_S1024x2x160_S1024x2x64_0_0_96) padZ
    pads_S1024x2x64_S1024x2x128_000_000_0640 h_S_) shapeCasts_S1024x2x128_S1024x256

/-- The eight heads of 96 columns of the queries, each filled up to 128. -/
def qrys (W : FVec Ideal S1024x8432 .f32) : FVec Ideal S1024x1024 .f32 :=
  shapeCast S1024x1024 (pad S1024x8x128 ![0, 0, 0] ![0, 0, 32] ![0, 0, 0] (shapeCast S1024x8x96
      (extractStridedSlice S1024x768 ![0, 2056] W slices_S1024x8432_S1024x768_0_2056) shapeCasts_S1024x768_S1024x8x96) padZ
      pads_S1024x8x96_S1024x8x128_000_000_0320 h_S_) shapeCasts_S1024x8x128_S1024x1024

/-- The columns of the compressed branch. -/
def cmps (W : FVec Ideal S1024x8432 .f32) : FVec Ideal S1024x320 .f32 :=
  extractStridedSlice S1024x320 ![0, 2824] W slices_S1024x8432_S1024x320_0_2824

/-- The columns of the gates, filled up to 128. -/
def gates (W : FVec Ideal S1024x8432 .f32) : FVec Ideal S1024x128 .f32 :=
  pad S1024x128 ![0, 0] ![0, 104] ![0, 0] (extractStridedSlice S1024x24 ![0, 3784] W slices_S1024x8432_S1024x24_0_3784) padZ
      pads_S1024x24_S1024x128_000_01040 h_S_

/-- The columns of the merging gate. -/
def mrgs (W : FVec Ideal S1024x8432 .f32) : FVec Ideal S1024x3072 .f32 :=
  extractStridedSlice S1024x3072 ![0, 5360] W slices_S1024x8432_S1024x3072_0_5360

/-- The weights the kernel's host lays side by side: queries, the compressed branch, keys and values of the selected and of
the windowed branch, the gates and the merging gate, narrow heads filled up with zeros. -/
def wall (W : FVec Ideal S1024x8432 .f32) : FVec Ideal S1024x5632 .bf16 :=
  truncf .bf16 (concatenate S1024x5632 1 [
    ⟨S1024x1024, qrys W⟩,
    ⟨S1024x320, cmps W⟩,
    ⟨S1024x64, broadcastInDim S1024x64 ![] bcast_S_S1024x64 (constant S_ .f32 0x00000000#32)⟩,
    ⟨S1024x256, keys (extractStridedSlice S1024x320 ![0, 3144] W slices_S1024x8432_S1024x320_0_3144)⟩,
    ⟨S1024x256, vals (extractStridedSlice S1024x320 ![0, 3144] W slices_S1024x8432_S1024x320_0_3144)⟩,
    ⟨S1024x256, keys (extractStridedSlice S1024x320 ![0, 3464] W slices_S1024x8432_S1024x320_0_3464)⟩,
    ⟨S1024x256, vals (extractStridedSlice S1024x320 ![0, 3464] W slices_S1024x8432_S1024x320_0_3464)⟩,
    ⟨S1024x128, gates W⟩,
    ⟨S1024x3072, mrgs W⟩]
    concatenates_S1024x1024_S1024x320_S1024x64_S1024x256_S1024x256_S1024x256_S1024x256_S1024x128_S1024x3072_S1024x5632_d1) bitsLt_bf16_f32

/-- The weights as the region finds them. -/
theorem V_v43 (c : Dev nD) : V m c main_v43 = wall (m ((c : Thread nD τ).loc main_arg2)) := by
  sl_kernel_rfl
/-- The layer input's rows as the region finds them. -/
theorem V_v40 (c : Dev nD) : V m c main_v40 = shapeCast S16384x1024 (m ((c : Thread nD τ).loc main_arg0)) shapeCasts_S2x8192x1024_S16384x1024 := by
  sl_kernel_rfl
/-- The norm's weight as the region finds it. -/
theorem V_v44 (c : Dev nD) : V m c main_v44 = shapeCast S1x1024 (m ((c : Thread nD τ).loc main_arg1)) shapeCasts_S1024_S1x1024 := by
  sl_kernel_rfl

/-- A column of two heads of keys. -/
theorem keys_apply (W : FVec Ideal S1024x8432 .f32) (o : ℕ) (ho : o ≤ 3464) (hs : S1024x8432.Slices ![0, o] S1024x320) (k : Fin 1024) (j : Fin 256) :
    keys (extractStridedSlice S1024x320 ![0, o] W hs) (ix2 k j) =
      if j.val % 128 < 96 then at' W k (o + j.val / 128 * 160 + j.val % 128) else 0 := by
  pointwise [keys, Cert.Merge.sitofp_zero]
  repeat' split
  all_goals first
    | (exfalso; omega)
    | rfl
    | exact at_of _ _ _ _ (by omega)
    | exact at_of _ _ _ _ (by dsimp only; omega)
    | exact at_of _ _ _ _ (by dsimp only)

/-- A column of two heads of values. -/
theorem vals_apply (W : FVec Ideal S1024x8432 .f32) (o : ℕ) (ho : o ≤ 3464) (hs : S1024x8432.Slices ![0, o] S1024x320) (k : Fin 1024) (j : Fin 256) :
    vals (extractStridedSlice S1024x320 ![0, o] W hs) (ix2 k j) =
      if j.val % 128 < 64 then at' W k (o + 96 + j.val / 128 * 160 + j.val % 128) else 0 := by
  pointwise [vals, Cert.Merge.sitofp_zero]
  repeat' split
  all_goals first
    | (exfalso; omega)
    | rfl
    | exact at_of _ _ _ _ (by omega)
    | exact at_of _ _ _ _ (by dsimp only; omega)
    | exact at_of _ _ _ _ (by dsimp only)

/-- A column of the eight heads of queries. -/
theorem qrys_apply (W) (k : Fin 1024) (j : Fin 1024) : qrys W (ix2 k j) = if j.val % 128 < 96 then at' W k (2056 + j.val / 128 * 96 + j.val % 128) else 0 := by
  pointwise [qrys, Cert.Merge.sitofp_zero]
  repeat' split
  all_goals first
    | (exfalso; omega)
    | rfl
    | exact at_of _ _ _ _ (by omega)
    | exact at_of _ _ _ _ (by dsimp only; omega)
    | exact at_of _ _ _ _ (by dsimp only)

/-- A column of the compressed branch. -/
theorem cmps_apply (W) (k : Fin 1024) (j : Fin 320) : cmps W (ix2 k j) = at' W k (2824 + j.val) := by
  pointwise [cmps, Cert.Merge.sitofp_zero]
  exact at_of _ _ _ _ rfl

/-- A column of the gates. -/
theorem gates_apply (W) (k : Fin 1024) (j : Fin 128) : gates W (ix2 k j) = if j.val < 24 then at' W k (3784 + j.val) else 0 := by
  pointwise [gates, Cert.Merge.sitofp_zero]
  repeat' split
  all_goals first
    | (exfalso; omega)
    | rfl
    | exact at_of _ _ _ _ (by omega)
    | exact at_of _ _ _ _ (by dsimp only; omega)
    | exact at_of _ _ _ _ (by dsimp only)

/-- A column of the merging gate. -/
theorem mrgs_apply (W) (k : Fin 1024) (j : Fin 3072) : mrgs W (ix2 k j) = at' W k (5360 + j.val) := by
  pointwise [mrgs, Cert.Merge.sitofp_zero]
  exact at_of _ _ _ _ rfl

/-- The entry of `w_in` a column of `wall` stands for, or zero. -/
def wcol (W : FVec Ideal S1024x8432 .f32) (k : Fin 1024) (j : ℕ) : EReal :=
  if j < 1024 then (if j % 128 < 96 then at' W k (2056 + j / 128 * 96 + j % 128) else 0)
  else if j < 1344 then at' W k (2824 + (j - 1024))
  else if j < 1408 then 0
  else if j < 1664 then (if (j - 1408) % 128 < 96 then at' W k (3144 + (j - 1408) / 128 * 160 + (j - 1408) % 128) else 0)
  else if j < 1920 then (if (j - 1664) % 128 < 64 then at' W k (3144 + 96 + (j - 1664) / 128 * 160 + (j - 1664) % 128) else 0)
  else if j < 2176 then (if (j - 1920) % 128 < 96 then at' W k (3464 + (j - 1920) / 128 * 160 + (j - 1920) % 128) else 0)
  else if j < 2432 then (if (j - 2176) % 128 < 64 then at' W k (3464 + 96 + (j - 2176) / 128 * 160 + (j - 2176) % 128) else 0)
  else if j < 2560 then (if j - 2432 < 24 then at' W k (3784 + (j - 2432)) else 0)
  else at' W k (5360 + (j - 2560))

/-- `wall` column by column. -/
theorem wall_apply (W) (k : Fin 1024) (j : Fin 5632) : wall W (ix2 k j) = wcol W k j.val := by
  unfold wcol
  pointwise [wall, qrys_apply, cmps_apply, keys_apply, vals_apply, gates_apply, mrgs_apply]
  simp only [Nat.sub_sub, Nat.reduceAdd]
  rcases (by omega : j.val < 1024 ∨ 1024 ≤ j.val ∧ j.val < 1344 ∨ 1344 ≤ j.val ∧ j.val < 1408 ∨ 1408 ≤ j.val ∧ j.val < 1664 ∨ 1664 ≤ j.val ∧ j.val < 1920 ∨
    1920 ≤ j.val ∧ j.val < 2176 ∨ 2176 ≤ j.val ∧ j.val < 2432 ∨ 2432 ≤ j.val ∧ j.val < 2560 ∨ 2560 ≤ j.val) with h | h | h | h | h | h | h | h | h
  all_goals simp (disch := omega) only [dif_pos, dif_neg, if_pos, if_neg, Nat.add_assoc]

/-- Where each window's block lies at a grid point. -/
theorem idx_facts : ∀ t : Fin grid0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] := by
  decide +kernel

/-- The body's normalised rows. -/
theorem pay2_apply (x0 x1) (i : Fin 512) (j : Fin 1024) :
    k0_pay2 (F := Ideal) x0 x1 (ix2 i j) = rmsRow (fun k => x0 (ix2 i k)) (fun k => x1 (ix2 0 k)) j := by
  pointwise [k0_pay2]
  rfl

/-- Row `i` of the block of tokens at point `t`. -/
theorem blk0 (c : Dev nD) (t : Fin cfg0.N) (i : Fin 512) (k : Fin 1024) (r : Fin 16384) (hr : r.val = t.val * 512 + i.val) :
    iblk m c 0 t (ix2 i k) = m ((c : Thread nD τ).loc main_arg0) (ix3 ⟨r.val / 8192, by omega⟩ ⟨r.val % 8192, by omega⟩ k) := by
  show V m c main_v40 ((win0_0.blk t).view.emb (ix2 i k)) = _
  rw [show (win0_0.blk t).view.emb (ix2 i k) = ix2 r k by blk_ext [idx_facts t], V_v40]
  exact Cert.Proj.row_apply _ r k

/-- The norm's weight, the same at every point. -/
theorem blk1 (c : Dev nD) (t : Fin cfg0.N) (k : Fin 1024) :
    iblk m c 1 t (ix2 0 k) = m ((c : Thread nD τ).loc main_arg1) (ix1 k) := by
  show V m c main_v44 ((win0_1.blk t).view.emb (ix2 0 k)) = _
  rw [show (win0_1.blk t).view.emb (ix2 0 k) = ix2 0 k by blk_ext [idx_facts t], V_v44]
  exact Cert.Proj.nrow_apply _ k

/-- The weights, the same at every point. -/
theorem blk2 (c : Dev nD) (t : Fin cfg0.N) (k : Fin 1024) (j : Fin 5632) :
    iblk m c 2 t (ix2 k j) = wcol (m ((c : Thread nD τ).loc main_arg2)) k j.val := by
  show V m c main_v43 ((win0_2.blk t).view.emb (ix2 k j)) = _
  rw [show (win0_2.blk t).view.emb (ix2 k j) = ix2 k j by blk_ext [idx_facts t], V_v43]
  exact wall_apply _ k j

/-- Column `j` of the kernel's weights against token `t`'s row, from the arrays at launch. -/
def kcol (c : Dev nD) (t : Fin 16384) (j : ℕ) : EReal :=
  col (m ((c : Thread nD τ).loc main_arg0)) (m ((c : Thread nD τ).loc main_arg1)) (fun k => wcol (m ((c : Thread nD τ).loc main_arg2)) k j) t

/-- The body's normalised rows against one column of the block of weights. -/
theorem kcol_eq (c : Dev nD) (t : Fin cfg0.N) (i : Fin 512) (j : Fin 5632) (r : Fin 16384) (hr : r.val = t.val * 512 + i.val) :
    ∑ k : Fin 1024, rmsRow (fun k => iblk m c 0 t (ix2 i k)) (fun k => iblk m c 1 t (ix2 0 k)) k * iblk m c 2 t (ix2 k j) =
      kcol m c r j.val := by
  unfold kcol col
  simp only [fun k => blk0 m c t i k r hr, blk1, blk2]

/-- A column of heads of width 64 laid 128 apart, the lanes left over holding one. -/
def onesHi (f : EReal) (j : ℕ) : EReal := if j % 128 < 64 then f else 1

/-- The body's mask of the lanes left over: lane numbers, taken modulo 128, from 64 on. -/
theorem lane_mask : ∀ j : Fin 256,
    IntOp.cmpi .sge (Scalar.select (IntOp.andi (IntOp.xori
      (IntOp.cmpi .slt (IntOp.remsi .vector (BitVec.ofNat 32 j.val) (Scalar.select (Scalar.cmpi .eq 128#32 0#32) 1#32 128#32)) 0#32)
      (Scalar.cmpi .slt (Scalar.select (Scalar.cmpi .eq 128#32 0#32) 1#32 128#32) 0#32))
      (IntOp.cmpi .ne (IntOp.remsi .vector (BitVec.ofNat 32 j.val) (Scalar.select (Scalar.cmpi .eq 128#32 0#32) 1#32 128#32)) 0#32))
      (IntOp.addi (IntOp.remsi .vector (BitVec.ofNat 32 j.val) (Scalar.select (Scalar.cmpi .eq 128#32 0#32) 1#32 128#32))
        (Scalar.select (Scalar.cmpi .eq 128#32 0#32) 1#32 128#32))
      (IntOp.remsi .vector (BitVec.ofNat 32 j.val) (Scalar.select (Scalar.cmpi .eq 128#32 0#32) 1#32 128#32))) 64#32 =
    if j.val % 128 < 64 then 0#1 else 1#1 := by decide +kernel

/-- The body's values of the selected branch: a matrix product with ones in the lanes left over. -/
theorem pay7_apply (v : FVec Ideal S512x1024 .bf16) (w : FVec Ideal S1024x256 .bf16) (i : Fin 512) (j : Fin 256) :
    k0_pay7 (F := Ideal) v w (ix2 i j) = onesHi (∑ k, v (ix2 i k) * w (ix2 k j)) j.val := by
  pointwise [k0_pay7, onesHi]
  rw [lane_mask]
  split <;> rfl

/-- The named constant the queries are scaled by. -/
def qs : EReal := (Named.named Cert.Kernel5Ideal.κ "inv_sqrt_d" (0x3DD105EC#32 : BitVec (FTy.bits .f32)) : Ideal .f32)

/-- The first output at the end: the queries' columns, scaled. -/
theorem final3 (c : Dev nD) : (dats m 0 c).arrAt 3 cfg0.N = fun y : S16384x1024.Idx => kcol m c (y 0) (y 1).val * qs := by
  refine (dats m 0 c).arrAt_eq_of_covers 3 _ (by decide +kernel) fun t hf y => ?_
  blk_simp
  rw [after0_3]
  unfold_out out0_3
  frame_out
  idx_vars y
  have ht : t.val < 32 := t.isLt
  rw [show ((View.whole main_v45_0).slice (win0_3.rect t)).emb (ix2 y0 y1) = ix2 ⟨t.val * 512 + y0.val, by omega⟩ y1 by
    blk_ext [idx_facts t], show win0_3.index t 1 = 0 by simp [idx_facts t], Nat.zero_mul, Nat.zero_add]
  refine Eq.trans ?_ (congrArg (· * qs) (kcol_eq m c t y0 ⟨y1.val, by omega⟩ ⟨t.val * 512 + y0.val, by omega⟩ rfl))
  canon_tiles x h
  all_goals idx_vars x
  all_goals pointwise [k0_pay3, k0_pay4, pay2_apply]
  all_goals
    obtain rfl : x0 = y0 := Fin.ext h0.symm
    simp only [h1]
    rfl

/-- The second output at the end: the compressed branch's columns. -/
theorem final4 (c : Dev nD) : (dats m 0 c).arrAt 4 cfg0.N = fun y : S16384x320.Idx => kcol m c (y 0) (1024 + (y 1).val) := by
  refine (dats m 0 c).arrAt_eq_of_covers 4 _ (by decide +kernel) fun t hf y => ?_
  blk_simp
  rw [after0_4]
  unfold_out out0_4
  frame_out
  idx_vars y
  have ht : t.val < 32 := t.isLt
  rw [show ((View.whole main_v45_1).slice (win0_4.rect t)).emb (ix2 y0 y1) = ix2 ⟨t.val * 512 + y0.val, by omega⟩ y1 by
    blk_ext [idx_facts t], show win0_4.index t 1 = 0 by simp [idx_facts t], Nat.zero_mul, Nat.zero_add]
  pointwise [k0_pay5, k0_pay17, pay2_apply]
  exact kcol_eq m c t y0 ⟨1024 + y1.val, by omega⟩ ⟨t.val * 512 + y0.val, by omega⟩ rfl

/-- The third output at the end: the selected branch's keys. -/
theorem final5 (c : Dev nD) : (dats m 0 c).arrAt 5 cfg0.N = fun y : S16384x256.Idx => kcol m c (y 0) (1408 + (y 1).val) := by
  refine (dats m 0 c).arrAt_eq_of_covers 5 _ (by decide +kernel) fun t hf y => ?_
  blk_simp
  rw [after0_5]
  unfold_out out0_5
  frame_out
  idx_vars y
  have ht : t.val < 32 := t.isLt
  rw [show ((View.whole main_v45_2).slice (win0_5.rect t)).emb (ix2 y0 y1) = ix2 ⟨t.val * 512 + y0.val, by omega⟩ y1 by
    blk_ext [idx_facts t], show win0_5.index t 1 = 0 by simp [idx_facts t], Nat.zero_mul, Nat.zero_add]
  pointwise [k0_pay6, k0_pay17, pay2_apply]
  exact kcol_eq m c t y0 ⟨1408 + y1.val, by omega⟩ ⟨t.val * 512 + y0.val, by omega⟩ rfl

/-- The fourth output at the end: the selected branch's values, ones in the lanes left over. -/
theorem final6 (c : Dev nD) : (dats m 0 c).arrAt 6 cfg0.N = fun y : S16384x256.Idx => onesHi (kcol m c (y 0) (1664 + (y 1).val)) (y 1).val := by
  refine (dats m 0 c).arrAt_eq_of_covers 6 _ (by decide +kernel) fun t hf y => ?_
  blk_simp
  rw [after0_6]
  unfold_out out0_6
  frame_out
  idx_vars y
  have ht : t.val < 32 := t.isLt
  rw [show ((View.whole main_v45_3).slice (win0_6.rect t)).emb (ix2 y0 y1) = ix2 ⟨t.val * 512 + y0.val, by omega⟩ y1 by
    blk_ext [idx_facts t], show win0_6.index t 1 = 0 by simp [idx_facts t], Nat.zero_mul, Nat.zero_add]
  pointwise [pay7_apply, k0_pay17, pay2_apply]
  exact congrArg (onesHi · y1.val) (kcol_eq m c t y0 ⟨1664 + y1.val, by omega⟩ ⟨t.val * 512 + y0.val, by omega⟩ rfl)

/-- The fifth output at the end: the windowed branch's keys. -/
theorem final7 (c : Dev nD) : (dats m 0 c).arrAt 7 cfg0.N = fun y : S16384x256.Idx => kcol m c (y 0) (1920 + (y 1).val) := by
  refine (dats m 0 c).arrAt_eq_of_covers 7 _ (by decide +kernel) fun t hf y => ?_
  blk_simp
  rw [after0_7]
  unfold_out out0_7
  frame_out
  idx_vars y
  have ht : t.val < 32 := t.isLt
  rw [show ((View.whole main_v45_4).slice (win0_7.rect t)).emb (ix2 y0 y1) = ix2 ⟨t.val * 512 + y0.val, by omega⟩ y1 by
    blk_ext [idx_facts t], show win0_7.index t 1 = 0 by simp [idx_facts t], Nat.zero_mul, Nat.zero_add]
  pointwise [k0_pay8, k0_pay9, k0_pay17, pay2_apply]
  exact (kcol_eq m c t y0 ⟨1920 + y1.val, by omega⟩ ⟨t.val * 512 + y0.val, by omega⟩ rfl)

/-- The sixth output at the end: the windowed branch's values, ones in the lanes left over. -/
theorem final8 (c : Dev nD) : (dats m 0 c).arrAt 8 cfg0.N = fun y : S16384x256.Idx => onesHi (kcol m c (y 0) (2176 + (y 1).val)) (y 1).val := by
  refine (dats m 0 c).arrAt_eq_of_covers 8 _ (by decide +kernel) fun t hf y => ?_
  blk_simp
  rw [after0_8]
  unfold_out out0_8
  frame_out
  idx_vars y
  have ht : t.val < 32 := t.isLt
  rw [show ((View.whole main_v45_5).slice (win0_8.rect t)).emb (ix2 y0 y1) = ix2 ⟨t.val * 512 + y0.val, by omega⟩ y1 by
    blk_ext [idx_facts t], show win0_8.index t 1 = 0 by simp [idx_facts t], Nat.zero_mul, Nat.zero_add]
  pointwise [show @k0_pay10 Ideal _ = k0_pay7 from rfl, pay7_apply, k0_pay17, pay2_apply]
  exact congrArg (onesHi · y1.val) (kcol_eq m c t y0 ⟨2176 + y1.val, by omega⟩ ⟨t.val * 512 + y0.val, by omega⟩ rfl)

/-- The seventh output at the end: the gates. -/
theorem final9 (c : Dev nD) : (dats m 0 c).arrAt 9 cfg0.N =
    fun y : S16384x128.Idx => Ideal.logistic (kcol m c (y 0) (2432 + (y 1).val)) := by
  refine (dats m 0 c).arrAt_eq_of_covers 9 _ (by decide +kernel) fun t hf y => ?_
  blk_simp
  rw [after0_9]
  unfold_out out0_9
  frame_out
  idx_vars y
  have ht : t.val < 32 := t.isLt
  rw [show ((View.whole main_v45_6).slice (win0_9.rect t)).emb (ix2 y0 y1) = ix2 ⟨t.val * 512 + y0.val, by omega⟩ y1 by
    blk_ext [idx_facts t], show win0_9.index t 1 = 0 by simp [idx_facts t], Nat.zero_mul, Nat.zero_add]
  pointwise [k0_pay11, k0_pay17, pay2_apply]
  exact congrArg Ideal.logistic (kcol_eq m c t y0 ⟨2432 + y1.val, by omega⟩ ⟨t.val * 512 + y0.val, by omega⟩ rfl)

/-- The eighth output at the end: the merging gate. -/
theorem final10 (c : Dev nD) : (dats m 0 c).arrAt 10 cfg0.N =
    fun y : S16384x3072.Idx => Ideal.logistic (kcol m c (y 0) (2560 + (y 1).val)) := by
  refine (dats m 0 c).arrAt_eq_of_covers 10 _ (by decide +kernel) fun t hf y => ?_
  blk_simp
  rw [after0_10]
  unfold_out out0_10
  frame_out
  idx_vars y
  have ht : t.val < 32 := t.isLt
  rw [show ((View.whole main_v45_7).slice (win0_10.rect t)).emb (ix2 y0 y1) = ix2 ⟨t.val * 512 + y0.val, by omega⟩ y1 by
    blk_ext [idx_facts t], show win0_10.index t 1 = 0 by simp [idx_facts t], Nat.zero_mul, Nat.zero_add]
  refine Eq.trans ?_ (congrArg Ideal.logistic (kcol_eq m c t y0 ⟨2560 + y1.val, by omega⟩ ⟨t.val * 512 + y0.val, by omega⟩ rfl))
  canon_tiles x h
  all_goals idx_vars x
  all_goals pointwise [k0_pay1, k0_pay12, k0_pay13, k0_pay14, k0_pay15, k0_pay16, k0_pay17, pay2_apply]
  all_goals
    obtain rfl : x0 = y0 := Fin.ext h0.symm
    simp only [h1, ← Nat.add_assoc, Nat.reduceAdd]

/-- The same from arrays equal to those at launch. -/
theorem kcol_of (c : Dev nD) {X : FVec Ideal S2x8192x1024 .f32} {np : FVec Ideal S1024 .f32} {W : FVec Ideal S1024x8432 .f32}
    (h0 : X = m ((c : Thread nD τ).loc main_arg0)) (h1 : np = m ((c : Thread nD τ).loc main_arg1)) (h2 : W = m ((c : Thread nD τ).loc main_arg2))
    (t : Fin 16384) (j : ℕ) : kcol m c t j = col X np (fun k => wcol W k j) t := by
  subst h0 h1 h2
  rfl

/-- The queries' scale is the reciprocal of the root of 96. -/
theorem qs_eq : qs = (((Real.sqrt 96)⁻¹ : ℝ) : EReal) := IdealRules.named_const.ideal_named_scalar _ _ _ _ rfl

end

/-- A column that is zero or not by a condition on its number. -/
theorem col_ite (X np) (p : Prop) [Decidable p] (f : Fin 1024 → EReal) (t) :
    col X np (fun k => if p then f k else 0) t = if p then col X np f t else 0 := by
  split
  · rfl
  · exact col_zero _ _ _

section
variable (X : S2x8192x1024.Idx → EReal) (np : S1024.Idx → EReal) (W : S1024x8432.Idx → EReal) (t : Fin 16384)

/-- The kernel's columns of the queries. -/
theorem k_q (j : ℕ) (h : j < 1024) : col X np (fun k => wcol W k j) t = head X np W 96 96 2056 0 t j := by
  simp (disch := omega) only [wcol, if_neg, if_pos, Nat.add_sub_cancel_left, col_ite]
  rfl

/-- The kernel's columns of the compressed branch. -/
theorem k_cmp (j : ℕ) (h : j < 320) : col X np (fun k => wcol W k (1024 + j)) t = acol X np W t (2824 + j) := by
  simp (disch := omega) only [wcol, if_neg, if_pos, Nat.add_sub_cancel_left, col_ite]
  rfl

/-- The kernel's columns of the selected branch's keys. -/
theorem k_ks (j : ℕ) (h : j < 256) : col X np (fun k => wcol W k (1408 + j)) t = head X np W 96 160 3144 0 t j := by
  simp (disch := omega) only [wcol, if_neg, if_pos, Nat.add_sub_cancel_left, col_ite]
  rfl

/-- The kernel's columns of the selected branch's values, with ones in the lanes left over. -/
theorem k_vs (j : ℕ) (h : j < 256) : onesHi (col X np (fun k => wcol W k (1664 + j)) t) j = head X np W 64 160 3240 1 t j := by
  simp (disch := omega) only [wcol, if_neg, if_pos, Nat.add_sub_cancel_left, col_ite, onesHi, head]
  split <;> rfl

/-- The kernel's columns of the windowed branch's keys. -/
theorem k_kw (j : ℕ) (h : j < 256) : col X np (fun k => wcol W k (1920 + j)) t = head X np W 96 160 3464 0 t j := by
  simp (disch := omega) only [wcol, if_neg, if_pos, Nat.add_sub_cancel_left, col_ite]
  rfl

/-- The kernel's columns of the windowed branch's values, with ones in the lanes left over. -/
theorem k_vw (j : ℕ) (h : j < 256) : onesHi (col X np (fun k => wcol W k (2176 + j)) t) j = head X np W 64 160 3560 1 t j := by
  simp (disch := omega) only [wcol, if_neg, if_pos, Nat.add_sub_cancel_left, col_ite, onesHi, head]
  split <;> rfl

/-- The kernel's columns of the gates. -/
theorem k_gate (j : ℕ) (h : j < 128) : col X np (fun k => wcol W k (2432 + j)) t = if j < 24 then acol X np W t (3784 + j) else 0 := by
  simp (disch := omega) only [wcol, if_neg, if_pos, Nat.add_sub_cancel_left, col_ite]
  rfl

/-- The kernel's columns of the merging gate. -/
theorem k_merge (j : ℕ) (h : j < 3072) : col X np (fun k => wcol W k (2560 + j)) t = acol X np W t (5360 + j) := by
  simp (disch := omega) only [wcol, if_neg, if_pos, Nat.add_sub_cancel_left, col_ite]
  rfl

end

section
open Cert.Reference5Ideal hiding S2x8192x1024 S1024 S1024x8432
open Cert.Reference5Ideal.Gen
variable (X : FVec Ideal S2x8192x1024 .f32) (np : FVec Ideal S1024 .f32) (W : FVec Ideal S1024x8432 .f32)

/-- The reference's projection of every token. -/
abbrev refP : FVec Ideal S16384x8432 .f32 :=
  shapeCast S16384x8432 (Host.dotGeneral dot_S2x8192x1024_S1024x8432_S2x8192x8432_2_0_01_1_n_n none (rmsV X np) W) shapeCasts_S2x8192x8432_S16384x8432

/-- Its entry at token `t` and column `n`. -/
theorem refP_apply (t : Fin 16384) (j : Fin 8432) (n : ℕ) (h : j.val = n) : refP X np W (ix2 t j) = acol X np W t n := by
  subst h
  unfold acol at'
  simp only [dif_pos j.isLt]
  exact Cert.Proj.refP_apply X np W t j

/-- The root the reference divides by. -/
theorem root96 : Ideal.sqrt (Ideal.ofBits FTy.f32 1119879168#32) = ((Real.sqrt 96 : ℝ) : EReal) := by
  rw [show Ideal.ofBits FTy.f32 1119879168#32 = ((96 : ℝ) : EReal) by
    simp [Ideal.ofBits, Ideal.ieee, -EReal.coe_mul]
    norm_num, Ideal.sqrt_coe, if_neg (by norm_num)]

variable (P : FVec Ideal S16384x8432 .f32) (hP : P = refP X np W)
include hP

/-- The reference's queries. -/
theorem ref_q : truncf .bf16 (shapeCast S16384x1024 (concatenate S16384x8x128 2 [⟨S16384x8x96, shapeCast S16384x8x96 (Host.divf
      (extractStridedSlice S16384x768 ![0, 2056] P slices_S16384x8432_S16384x768_0_2056) (broadcastInDim S16384x768 ![] bcast_S_S16384x768
      (Host.sqrt (constant S_ .f32 0x42C00000#32)))) shapeCasts_S16384x768_S16384x8x96⟩, ⟨S16384x8x32, broadcastInDim S16384x8x32 ![] bcast_S_S16384x8x32
      (constant S_ .f32 0x00000000#32)⟩] concatenates_S16384x8x96_S16384x8x32_S16384x8x128_d2) shapeCasts_S16384x8x128_S16384x1024) bitsLt_bf16_f32 =
    fun y : S16384x1024.Idx => head X np W 96 96 2056 0 (y 0) (y 1).val * qs := by
  subst hP
  funext y
  idx_vars y
  refine Eq.trans ?_ (ite_mul _ _ _ _).symm
  generalize hQ : refP X np W = Q
  pointwise
  rw [zero_mul]
  subst hQ
  split
  · rw [refP_apply X np W y0 _ (2056 + y1.val / 128 * 96 + y1.val % 128) (by dsimp only; omega), root96, qs_eq,
      Ideal.div_coe (Real.sqrt_pos.mpr (by norm_num)).ne', one_div]
  · rfl

/-- The reference's compressed branch. -/
theorem ref_cmp : truncf .bf16 (extractStridedSlice S16384x320 ![0, 2824] P slices_S16384x8432_S16384x320_0_2824) bitsLt_bf16_f32 =
    fun y : S16384x320.Idx => acol X np W (y 0) (2824 + (y 1).val) := by
  subst hP
  funext y
  idx_vars y
  refine Eq.trans ?_ (refP_apply X np W y0 ⟨2824 + y1.val, by omega⟩ _ rfl)
  pointwise

/-- The reference's keys of one branch. -/
theorem ref_keys (o : ℕ) (ho : o ≤ 3464) (hs : S16384x8432.Slices ![0, o] S16384x320) :
    truncf .bf16 (shapeCast S16384x256 (concatenate S16384x2x128 2 [⟨S16384x2x96, shapeCast S16384x2x96 (shapeCast S16384x192 (extractStridedSlice S16384x2x96 ![0, 0, 0]
      (shapeCast S16384x2x160 (extractStridedSlice S16384x320 ![0, o] P hs) shapeCasts_S16384x320_S16384x2x160) slices_S16384x2x160_S16384x2x96_0_0_0)
      shapeCasts_S16384x2x96_S16384x192) shapeCasts_S16384x192_S16384x2x96⟩, ⟨S16384x2x32, broadcastInDim S16384x2x32 ![] bcast_S_S16384x2x32
      (constant S_ .f32 0x00000000#32)⟩] concatenates_S16384x2x96_S16384x2x32_S16384x2x128_d2) shapeCasts_S16384x2x128_S16384x256) bitsLt_bf16_f32 =
    fun y : S16384x256.Idx => head X np W 96 160 o 0 (y 0) (y 1).val := by
  generalize hQ : refP X np W = Q at hP
  subst hP
  funext y
  idx_vars y
  pointwise [head]
  subst hQ
  split
  · exact refP_apply X np W _ _ _ (by dsimp only; omega)
  · rfl

/-- The reference's gates. -/
theorem ref_gate : Host.divf (broadcastInDim S16384x128 ![] bcast_S_S16384x128 (constant S_ .f32 0x3F800000#32)) (addf (broadcastInDim S16384x128 ![]
      bcast_S_S16384x128 (constant S_ .f32 0x3F800000#32)) (Host.exp (Host.negf (concatenate S16384x128 1 [⟨S16384x24, extractStridedSlice S16384x24 ![0, 3784] P
      slices_S16384x8432_S16384x24_0_3784⟩, ⟨S16384x104, broadcastInDim S16384x104 ![] bcast_S_S16384x104 (constant S_ .f32 0x00000000#32)⟩]
      concatenates_S16384x24_S16384x104_S16384x128_d1)))) =
    fun y : S16384x128.Idx => Ideal.logistic (if (y 1).val < 24 then acol X np W (y 0) (3784 + (y 1).val) else 0) := by
  generalize hQ : refP X np W = Q at hP
  subst hP
  funext y
  idx_vars y
  pointwise
  subst hQ
  split
  · rw [refP_apply X np W y0 _ _ rfl]
    rfl
  · rfl

/-- The reference's merging gate. -/
theorem ref_merge : truncf .bf16 (Host.divf (broadcastInDim S16384x3072 ![] bcast_S_S16384x3072 (constant S_ .f32 0x3F800000#32)) (addf (broadcastInDim S16384x3072 ![]
      bcast_S_S16384x3072 (constant S_ .f32 0x3F800000#32)) (Host.exp (Host.negf (extractStridedSlice S16384x3072 ![0, 5360] P
      slices_S16384x8432_S16384x3072_0_5360))))) bitsLt_bf16_f32 =
    fun y : S16384x3072.Idx => Ideal.logistic (acol X np W (y 0) (5360 + (y 1).val)) := by
  generalize hQ : refP X np W = Q at hP
  subst hP
  funext y
  idx_vars y
  pointwise
  subst hQ
  rw [refP_apply X np W y0 _ _ rfl]
  rfl

/-- The reference's values of one branch. -/
theorem ref_vals (o : ℕ) (ho : o ≤ 3464) (hs : S16384x8432.Slices ![0, o] S16384x320) :
    truncf .bf16 (shapeCast S16384x256 (concatenate S16384x2x128 2 [⟨S16384x2x64, shapeCast S16384x2x64 (shapeCast S16384x128 (extractStridedSlice S16384x2x64 ![0, 0, 96]
      (shapeCast S16384x2x160 (extractStridedSlice S16384x320 ![0, o] P hs) shapeCasts_S16384x320_S16384x2x160) slices_S16384x2x160_S16384x2x64_0_0_96)
      shapeCasts_S16384x2x64_S16384x128) shapeCasts_S16384x128_S16384x2x64⟩, ⟨S16384x2x64, broadcastInDim S16384x2x64 ![] bcast_S_S16384x2x64
      (constant S_ .f32 0x3F800000#32)⟩] concatenates_S16384x2x64_S16384x2x64_S16384x2x128_d2) shapeCasts_S16384x2x128_S16384x256) bitsLt_bf16_f32 =
    fun y : S16384x256.Idx => head X np W 64 160 (o + 96) 1 (y 0) (y 1).val := by
  generalize hQ : refP X np W = Q at hP
  subst hP
  funext y
  idx_vars y
  pointwise [head]
  subst hQ
  split
  · exact refP_apply X np W _ _ _ (by dsimp only; omega)
  · rfl

end

/-- From arrays that agree the kernel and the reference end with equal results, all eight of them. -/
theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => (fun y : Cert.Kernel5Ideal.S16384x1024.Idx => kcol m c (y 0) (y 1).val * qs),
    fun c => (fun y : Cert.Kernel5Ideal.S16384x320.Idx => kcol m c (y 0) (1024 + (y 1).val)),
    fun c => (fun y : Cert.Kernel5Ideal.S16384x256.Idx => kcol m c (y 0) (1408 + (y 1).val)),
    fun c => (fun y : Cert.Kernel5Ideal.S16384x256.Idx => onesHi (kcol m c (y 0) (1664 + (y 1).val)) (y 1).val),
    fun c => (fun y : Cert.Kernel5Ideal.S16384x256.Idx => kcol m c (y 0) (1920 + (y 1).val)),
    fun c => (fun y : Cert.Kernel5Ideal.S16384x256.Idx => onesHi (kcol m c (y 0) (2176 + (y 1).val)) (y 1).val),
    fun c => (fun y : Cert.Kernel5Ideal.S16384x128.Idx => Ideal.logistic (kcol m c (y 0) (2432 + (y 1).val))),
    fun c => (fun y : Cert.Kernel5Ideal.S16384x3072.Idx => Ideal.logistic (kcol m c (y 0) (2560 + (y 1).val))),
    (θ_run Cert.Kernel5Ideal.defs _ _).mono (fun _ h c => ?_) (Cert.Kernel5Ideal.Value.run_blocks (F := Ideal) m g),
    (θ_run Cert.Reference5Ideal.defs _ _).mono (fun _ h c => ?_) (Cert.Reference5Ideal.Value.run (F := Ideal) m' g')⟩
  · obtain ⟨a, b, d, e, f, i, j, k, l⟩ := h c
    exact ⟨a.trans (final3 m c), b.trans (final4 m c), d.trans (final5 m c), e.trans (final6 m c), f.trans (final7 m c),
      i.trans (final8 m c), j.trans (final9 m c), k.trans (final10 m c), l⟩
  · obtain ⟨a, b, d, e, f, i, j, k, l⟩ := h c
    obtain ⟨h0, h1, h2⟩ := hag c
    have key := kcol_of m c h0 h1 h2
    refine ⟨a.trans ((ref_q _ _ _ _ rfl).trans (funext fun y => ?_)), b.trans ((ref_cmp _ _ _ _ rfl).trans (funext fun y => ?_)),
      d.trans ((ref_keys _ _ _ _ rfl 3144 (by decide) _).trans (funext fun y => ?_)),
      e.trans ((ref_vals _ _ _ _ rfl 3144 (by decide) _).trans (funext fun y => ?_)),
      f.trans ((ref_keys _ _ _ _ rfl 3464 (by decide) _).trans (funext fun y => ?_)),
      i.trans ((ref_vals _ _ _ _ rfl 3464 (by decide) _).trans (funext fun y => ?_)),
      j.trans ((ref_gate _ _ _ _ rfl).trans (funext fun y => ?_)), k.trans ((ref_merge _ _ _ _ rfl).trans (funext fun y => ?_)), l⟩
    · exact congrArg (· * qs) ((key _ _).trans (k_q _ _ _ _ _ (y 1).isLt)).symm
    · exact ((key _ _).trans (k_cmp _ _ _ _ _ (y 1).isLt)).symm
    · exact ((key _ _).trans (k_ks _ _ _ _ _ (y 1).isLt)).symm
    · exact ((congrArg (onesHi · _) (key _ _)).trans (k_vs _ _ _ _ _ (y 1).isLt)).symm
    · exact ((key _ _).trans (k_kw _ _ _ _ _ (y 1).isLt)).symm
    · exact ((congrArg (onesHi · _) (key _ _)).trans (k_vw _ _ _ _ _ (y 1).isLt)).symm
    · exact congrArg Ideal.logistic ((key _ _).trans (k_gate _ _ _ _ _ (y 1).isLt)).symm
    · exact congrArg Ideal.logistic ((key _ _).trans (k_merge _ _ _ _ _ (y 1).isLt)).symm

end Cert.ProjNsa
end
-- ==== Proof.CmpSpec.lean ====
module

public import proofs.«01_k».proof.Defs
public import proofs.«01_k».proof.Proof.Gen.Kernel6Ideal.Value
public import proofs.«01_k».proof.Proof.Merge

@[expose] public section

set_option maxRecDepth 16384

noncomputable section

namespace Cert.Cmp

open Idealize.ShloMosaic Idealize.ShloMosaic.TcCoe Idealize.SL.Sem
open Cert.Kernel6Ideal (S2x8192x320)

/-! # The compressed blocks of keys and values: what both programs compute -/

/-- The tanh form of GELU, multiplied in the kernel's order. -/
def gelu (z : EReal) : EReal :=
  Ideal.ofBits .f32 0x3F000000#32 * z * (1 +
    Ideal.tanh (Ideal.ofBits .f32 0x3F4C422A#32 * (z + Ideal.ofBits .f32 0x3D372713#32 * z * z * z)))

/-- The same, multiplied in the reference's order. -/
theorem gelu_ref (z : EReal) : z * (Ideal.ofBits .f32 0x3F000000#32 * (1 +
    Ideal.tanh (Ideal.ofBits .f32 0x3F4C422A#32 * (z + Ideal.ofBits .f32 0x3D372713#32 * (z * z * z))))) = gelu z := by
  unfold gelu
  rw [show Ideal.ofBits .f32 0x3D372713#32 * (z * z * z) = Ideal.ofBits .f32 0x3D372713#32 * z * z * z by simp only [mul_assoc],
    ← mul_assoc, mul_comm z]

/-- A number that is neither infinity. -/
def Fin' (x : EReal) : Prop := x ≠ ⊤ ∧ x ≠ ⊥

/-- A sum with a finite second part multiplies out against a finite factor, whatever the first part is. -/
theorem add_mul_fin (x p w : EReal) (hp : Fin' p) (hw : Fin' w) : (x + p) * w = x * w + p * w := by
  lift p to ℝ using hp
  lift w to ℝ using hw
  induction x with
  | coe x => norm_cast; ring
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, ← EReal.coe_mul, EReal.bot_add]

/-- A sum over `N` places of a function that is zero outside a window of `d` places is the sum over the window. -/
theorem sum_window {N : ℕ} (f : Fin N → EReal) (b d : ℕ) (hb : b + d ≤ N)
    (hz : ∀ i : Fin N, i.val < b ∨ b + d ≤ i.val → f i = 0) : ∑ i, f i = ∑ c : Fin d, f ⟨b + c.val, by omega⟩ := by
  refine (Finset.sum_of_injOn (fun c : Fin d => (⟨b + c.val, by omega⟩ : Fin N)) ?_ ?_ ?_ ?_).symm
  · intro x _ y _ h
    have := congrArg Fin.val h
    dsimp only at this
    exact Fin.ext (by omega)
  · exact fun _ _ => Finset.mem_coe.2 (Finset.mem_univ _)
  · intro i _ hi
    refine hz i (by_contra fun hc => hi ⟨⟨i.val - b, by omega⟩, Finset.mem_coe.2 (Finset.mem_univ _), Fin.ext ?_⟩)
    show b + (i.val - b) = i.val
    omega
  · exact fun _ _ => rfl

/-- A sum over `a * b` places, by quotient and remainder. -/
theorem sum_grid {N : ℕ} (a b : ℕ) (hN : a * b = N) (f : Fin N → EReal) :
    ∑ r, f r = ∑ p : Fin a, ∑ c : Fin b, f ⟨p.val * b + c.val, by
      have := p.isLt; have := c.isLt; have : (p.val + 1) * b ≤ a * b := Nat.mul_le_mul_right _ (by omega)
      have : (p.val + 1) * b = p.val * b + b := by ring
      omega⟩ := by
  subst hN
  rw [← Equiv.sum_comp finProdFinEquiv, Fintype.sum_prod_type]
  refine Finset.sum_congr rfl fun p _ => Finset.sum_congr rfl fun c _ => congrArg f (Fin.ext ?_)
  show c.val + b * p.val = p.val * b + c.val
  ring

/-- A sum over a segment's 16 tokens of 320 numbers, zero outside a window of each token. -/
theorem sum_spread (f : Fin 5120 → EReal) (b d : ℕ) (hb : b + d ≤ 320)
    (hz : ∀ r : Fin 5120, r.val % 320 < b ∨ b + d ≤ r.val % 320 → f r = 0) :
    ∑ r, f r = ∑ p : Fin 16, ∑ c : Fin d, f ⟨p.val * 320 + (b + c.val), by omega⟩ := by
  rw [sum_grid 16 320 rfl f]
  refine Finset.sum_congr rfl fun p _ => sum_window _ b d hb fun i hi => hz _ ?_
  dsimp only
  omega

/-- What a block's tokens, its position embedding and the first weights give before the GELU. -/
def pre {d : ℕ} (X P W : Fin 32 → Fin d → EReal) : EReal := ∑ l, ∑ c, (X l c + P l c) * W l c

/-- The kernel's split of it: the block's first 16 tokens, its last 16, and the position embedding's share. The two agree
where the embedding and the weights are finite. -/
theorem pre_split {d : ℕ} (X P W : Fin 32 → Fin d → EReal) (hP : ∀ l c, Fin' (P l c)) (hW : ∀ l c, Fin' (W l c)) :
    (∑ p : Fin 16, ∑ c, X ⟨0 + p.val, by omega⟩ c * W ⟨0 + p.val, by omega⟩ c) +
      (∑ p : Fin 16, ∑ c, X ⟨16 + p.val, by omega⟩ c * W ⟨16 + p.val, by omega⟩ c) + (∑ l, ∑ c, P l c * W l c) = pre X P W := by
  unfold pre
  simp only [add_mul_fin _ _ _ (hP _ _) (hW _ _), Finset.sum_add_distrib]
  congr 1
  simp only [Nat.zero_add]
  exact (Fin.sum_univ_add (a := 16) (b := 16) fun l : Fin 32 => ∑ c, X l c * W l c).symm

/-- The part of token `l` of block `n` that group `g` has from place `o` on; the last block takes its last 16 tokens from the front. -/
def tok (x : FVec Ideal S2x8192x320 .f32) (b : Fin 2) (n : Fin 512) (g : Fin 2) (o d : ℕ) (hd : o + d ≤ 160) (l : Fin 32) (c : Fin d) : EReal :=
  x (ix3 b ⟨(16 * n.val + l.val) % 8192, by omega⟩ ⟨160 * g.val + (o + c.val), by omega⟩)

/-- A compressed block's number in lane `j` of its 128: the hidden units' GELU against the second weights, zero beyond their columns. -/
def outLane {d : ℕ} (z : Fin 256 → EReal) (w2 : Fin 256 → Fin d → EReal) (j : ℕ) : EReal :=
  if h : j < d then ∑ k, gelu (z k) * w2 k ⟨j, h⟩ else 0

/-- The compressed blocks: entry `j` of block `n`, group `j / 128`, from the group's part of the tokens from place `o` on. -/
def compress {d : ℕ} (o : ℕ) (hd : o + d ≤ 160) (x : FVec Ideal S2x8192x320 .f32) (pe : Fin 32 → Fin d → EReal)
    (w1 : Fin 32 → Fin d → Fin 256 → EReal) (w2 : Fin 256 → Fin d → EReal) (b : Fin 2) (n : Fin 512) (j : Fin 256) : EReal :=
  outLane (fun k => pre (tok x b n ⟨j.val / 128, by omega⟩ o d hd) pe fun l c => w1 l c k) w2 (j.val % 128)

/-- Row `q` of the first weights by token and place. -/
def rows {d N : ℕ} (hN : 32 * d = N) (w : (⟨2, ![N, 256]⟩ : Shape).Idx → EReal) (l : Fin 32) (c : Fin d) (k : Fin 256) : EReal :=
  w (ix2 ⟨l.val * d + c.val, by
    have := l.isLt; have := c.isLt; have : (l.val + 1) * d ≤ 32 * d := Nat.mul_le_mul_right _ (by omega)
    have : (l.val + 1) * d = l.val * d + d := by ring
    omega⟩ k)

end Cert.Cmp
-- ==== Proof.CmpHost.lean ====
module

public import proofs.«01_k».proof.Proof.CmpSpec

@[expose] public section

set_option maxRecDepth 16384

noncomputable section

namespace Cert.Cmp

open Idealize.ShloMosaic Idealize.ShloMosaic.TcCoe Idealize.SL.Sem
open Cert.Kernel6Ideal Cert.Kernel6Ideal.Gen

/-! # The weights the kernel's host lays out, index by index -/

variable (m : (ℓ : Loc nD τ sig) → Buf (Elt Ideal) ℓ)

/-- The host's 2 by 2 identity. -/
def eyeH (lit : Fin 4 → BitVec 32) : FVec Ideal S1x2x1x2x1 .f32 :=
  broadcastInDim S1x2x1x2x1 ![1, 3] bcast_S2x2_S1x2x1x2x1_1_3 fun i : S2x2.Idx => FloatOps.ofBits .f32 (lit (S2x2.rowMajor i))

/-- One half of the first weights, of keys and of values side by side, each group's copy in its own corner. -/
def spreadW (lo : ℕ) (hk : S32x96x256.Slices ![lo, 0, 0] S16x96x256) (hv : S32x64x256.Slices ![lo, 0, 0] S16x64x256)
    (lit : Fin 4 → BitVec 32) (wk : FVec Ideal S3072x256 .f32) (wv : FVec Ideal S2048x256 .f32) : FVec Ideal S5120x1024 .bf16 :=
  truncf .bf16 (shapeCast S5120x1024 (mulf
    (broadcastInDim S16x2x160x2x512 ![0, 1, 2, 3, 4] bcast_S16x1x160x1x512_S16x2x160x2x512_0_1_2_3_4
      (broadcastInDim S16x1x160x1x512 ![0, 2, 4] bcast_S16x160x512_S16x1x160x1x512_0_2_4
        (concatenate S16x160x512 1 [
          ⟨S16x96x512, concatenate S16x96x512 2 [⟨S16x96x256, extractStridedSlice S16x96x256 ![lo, 0, 0] (shapeCast S32x96x256 wk shapeCasts_S3072x256_S32x96x256) hk⟩,
            ⟨S16x96x256, broadcastInDim S16x96x256 ![] bcast_S_S16x96x256 (constant S_ .f32 0x00000000#32)⟩] concatenates_S16x96x256_S16x96x256_S16x96x512_d2⟩,
          ⟨S16x64x512, concatenate S16x64x512 2 [⟨S16x64x256, broadcastInDim S16x64x256 ![] bcast_S_S16x64x256 (constant S_ .f32 0x00000000#32)⟩,
            ⟨S16x64x256, extractStridedSlice S16x64x256 ![lo, 0, 0] (shapeCast S32x64x256 wv shapeCasts_S2048x256_S32x64x256) hv⟩] concatenates_S16x64x256_S16x64x256_S16x64x512_d2⟩]
          concatenates_S16x96x512_S16x64x512_S16x160x512_d1)))
    (broadcastInDim S16x2x160x2x512 ![0, 1, 2, 3, 4] bcast_S1x2x1x2x1_S16x2x160x2x512_0_1_2_3_4 (eyeH lit)))
    shapeCasts_S16x2x160x2x512_S5120x1024) bitsLt_bf16_f32

/-- The first half as the region finds it. -/
theorem V_v28 (c : Dev nD) : V m c main_v28 = spreadW 0 slices_S32x96x256_S16x96x256_0_0_0 slices_S32x64x256_S16x64x256_0_0_0 lit1
    (m ((c : Thread nD τ).loc main_arg2)) (m ((c : Thread nD τ).loc main_arg5)) := by
  sl_kernel_rfl

/-- The second half as the region finds it. -/
theorem V_v41 (c : Dev nD) : V m c main_v41 = spreadW 16 slices_S32x96x256_S16x96x256_16_0_0 slices_S32x64x256_S16x64x256_16_0_0 lit2
    (m ((c : Thread nD τ).loc main_arg2)) (m ((c : Thread nD τ).loc main_arg5)) := by
  sl_kernel_rfl

/-- A table of the 2 by 2 identity. -/
def IsEye (lit : Fin 4 → BitVec 32) : Prop :=
  ∀ a b : Fin 2, Ideal.ofBits .f32 (lit (S2x2.rowMajor (ix2 a b))) = if a.val = b.val then 1 else 0

/-- The first table is one. -/
theorem eye1 : IsEye lit1 := by
  intro a b; fin_cases a <;> fin_cases b <;> first | exact Ideal.ofBits_one_f32 | exact Ideal.ofBits_zero .f32

/-- The second table is one. -/
theorem eye2 : IsEye lit2 := by
  intro a b; fin_cases a <;> fin_cases b <;> first | exact Ideal.ofBits_one_f32 | exact Ideal.ofBits_zero .f32

/-- The laid-out weights at an index: a group's rows and columns hold the keys' weights, then the values', and zeros elsewhere. -/
theorem spreadW_apply (lo hk hv lit wk wv) (hl : IsEye lit) (r : Fin 5120) (j : Fin 1024) (hlo : lo ≤ 16) : spreadW lo hk hv lit wk wv (ix2 r j) =
    if r.val / 160 % 2 = j.val / 512 then
      (if h : r.val % 160 < 96 then (if h' : j.val % 512 < 256 then wk (ix2 ⟨(lo + r.val / 320) * 96 + r.val % 160, by omega⟩ ⟨j.val % 512, h'⟩) else 0)
        else (if h' : j.val % 512 < 256 then 0 else wv (ix2 ⟨(lo + r.val / 320) * 64 + (r.val % 160 - 96), by omega⟩ ⟨j.val % 512 - 256, by omega⟩)))
    else 0 := by
  pointwise [spreadW, eyeH]
  unfold IsEye at hl
  simp only [hl]
  by_cases h : r.val / 160 % 2 = j.val / 512
  · simp only [if_pos h, mul_one]
  · simp only [if_neg h, mul_zero]

/-- The second weights, each group's columns of keys and of values in a corner of their own. -/
def spreadW2 (wk : FVec Ideal S256x96 .f32) (wv : FVec Ideal S256x64 .f32) : FVec Ideal S1024x512 .bf16 :=
  truncf .bf16 (shapeCast S1024x512 (mulf
    (broadcastInDim S2x2x256x4x128 ![0, 1, 2, 3, 4] bcast_S1x2x256x1x128_S2x2x256x4x128_0_1_2_3_4
      (broadcastInDim S1x2x256x1x128 ![1, 2, 4] bcast_S2x256x128_S1x2x256x1x128_1_2_4
        (concatenate S2x256x128 0 [
          ⟨S1x256x128, broadcastInDim S1x256x128 ![1, 2] bcast_S256x128_S1x256x128_1_2
            (pad S256x128 ![0, 0] ![0, 32] ![0, 0] wk (sitofp (F := Ideal) .f32 (constantI S_ 32 0#32)) pads_S256x96_S256x128_000_0320 h_S_)⟩,
          ⟨S1x256x128, broadcastInDim S1x256x128 ![1, 2] bcast_S256x128_S1x256x128_1_2
            (pad S256x128 ![0, 0] ![0, 64] ![0, 0] wv (sitofp (F := Ideal) .f32 (constantI S_ 32 0#32)) pads_S256x64_S256x128_000_0640 h_S_)⟩]
          concatenates_S1x256x128_S1x256x128_S2x256x128_d0)))
    (broadcastInDim S2x2x256x4x128 ![0, 1, 2, 3, 4] bcast_S2x2x1x4x1_S2x2x256x4x128_0_1_2_3_4
      (broadcastInDim S2x2x1x4x1 ![0, 1, 3] bcast_S2x2x4_S2x2x1x4x1_0_1_3 fun i : S2x2x4.Idx => FloatOps.ofBits .f32 (lit0 (S2x2x4.rowMajor i)))))
    shapeCasts_S2x2x256x4x128_S1024x512) bitsLt_bf16_f32

/-- The second weights as the region finds them. -/
theorem V_v15 (c : Dev nD) : V m c main_v15 = spreadW2 (m ((c : Thread nD τ).loc main_arg3)) (m ((c : Thread nD τ).loc main_arg6)) := by
  sl_kernel_rfl

/-- The keys' position embedding in one row, as the region finds it. -/
theorem V_v44 (c : Dev nD) : V m c main_v44 = truncf (F := Ideal) .bf16 (pad S8x3072 ![0, 0] ![7, 0] ![0, 0]
    (shapeCast S1x3072 (m ((c : Thread nD τ).loc main_arg1) : FVec Ideal S32x96 .f32) shapeCasts_S32x96_S1x3072)
    (sitofp (F := Ideal) .f32 (constantI S_ 32 0#32)) pads_S1x3072_S8x3072_070_000 h_S_) bitsLt_bf16_f32 := by
  sl_kernel_rfl

/-- The values' position embedding in one row, as the region finds it. -/
theorem V_v49 (c : Dev nD) : V m c main_v49 = truncf (F := Ideal) .bf16 (pad S8x2048 ![0, 0] ![7, 0] ![0, 0]
    (shapeCast S1x2048 (m ((c : Thread nD τ).loc main_arg4) : FVec Ideal S32x64 .f32) shapeCasts_S32x64_S1x2048)
    (sitofp (F := Ideal) .f32 (constantI S_ 32 0#32)) pads_S1x2048_S8x2048_070_000 h_S_) bitsLt_bf16_f32 := by
  sl_kernel_rfl

/-- The keys' first weights as the region finds them. -/
theorem V_v46 (c : Dev nD) : V m c main_v46 = truncf (F := Ideal) .bf16 (shapeCast S3072x256 (shapeCast S32x96x256
    (m ((c : Thread nD τ).loc main_arg2) : FVec Ideal S3072x256 .f32) shapeCasts_S3072x256_S32x96x256) shapeCasts_S32x96x256_S3072x256) bitsLt_bf16_f32 := by
  sl_kernel_rfl

/-- The values' first weights as the region finds them. -/
theorem V_v51 (c : Dev nD) : V m c main_v51 = truncf (F := Ideal) .bf16 (shapeCast S2048x256 (shapeCast S32x64x256
    (m ((c : Thread nD τ).loc main_arg5) : FVec Ideal S2048x256 .f32) shapeCasts_S2048x256_S32x64x256) shapeCasts_S32x64x256_S2048x256) bitsLt_bf16_f32 := by
  sl_kernel_rfl

/-- The segments as the region finds them. -/
theorem V_v54 (c : Dev nD) : V m c main_v54 = shapeCast S2x512x5120 (truncf (F := Ideal) .bf16 (shapeCast S16384x320
    (m ((c : Thread nD τ).loc main_arg0) : FVec Ideal S2x8192x320 .f32) shapeCasts_S2x8192x320_S16384x320) bitsLt_bf16_f32) shapeCasts_S16384x320_S2x512x5120 := by
  sl_kernel_rfl

/-- Where a group's second weights of keys (row 0) and values (row 1) go. -/
theorem lit0_at (a b : Fin 2) (q : Fin 4) :
    Ideal.ofBits .f32 (lit0 (S2x2x4.rowMajor (ix3 a b q))) = if q.val = 2 * b.val + a.val then 1 else 0 := by
  fin_cases a <;> fin_cases b <;> fin_cases q <;> first | exact Ideal.ofBits_one_f32 | exact Ideal.ofBits_zero .f32

/-- The second weights at an index. -/
theorem spreadW2_apply (wk wv) (r : Fin 1024) (j : Fin 512) : spreadW2 wk wv (ix2 r j) =
    if j.val / 128 = 2 * (r.val / 256 % 2) + r.val / 512 then
      (if r.val / 256 % 2 < 1 then (if h : j.val % 128 < 96 then wk (ix2 ⟨r.val % 256, by omega⟩ ⟨j.val % 128, h⟩) else 0)
        else (if h : j.val % 128 < 64 then wv (ix2 ⟨r.val % 256, by omega⟩ ⟨j.val % 128, h⟩) else 0))
    else 0 := by
  pointwise [spreadW2]
  simp only [lit0_at, Merge.sitofp_zero, show r.val % 256 < 256 from Nat.mod_lt _ (by omega), true_and, dite_eq_ite]
  by_cases h : j.val / 128 = 2 * (r.val / 256 % 2) + r.val / 512
  · simp only [if_pos h, mul_one]
    rfl
  · simp only [if_neg h, mul_zero]

end Cert.Cmp
-- ==== Proof.CmpKernel.lean ====
module

public import proofs.«01_k».proof.Proof.CmpHost

@[expose] public section

set_option maxRecDepth 16384

noncomputable section

namespace Cert.Cmp

open Idealize.ShloMosaic Idealize.ShloMosaic.TcCoe Idealize.SL.Sem
open Cert.Kernel6Ideal Cert.Kernel6Ideal.Gen

/-! # The kernel's outputs, index by index -/

/-- A segment against one column of laid-out weights that is zero outside group `g`'s places `o`, …: half a block's tokens against their weights. -/
theorem half_sum (x : FVec Ideal S2x8192x320 .f32) (b : Fin 2) (n n' : Fin 512) (g : Fin 2) (o d : ℕ) (hd : o + d ≤ 160) (lo : ℕ) (hlo : lo ≤ 16)
    (hn : ∀ p < 16, 16 * n'.val + p = (16 * n.val + (lo + p)) % 8192) (v W : Fin 5120 → EReal) (w : Fin 32 → Fin d → EReal)
    (hv : ∀ r : Fin 5120, v r = x (ix3 b ⟨16 * n'.val + r.val / 320, by omega⟩ ⟨r.val % 320, by omega⟩))
    (hz : ∀ r : Fin 5120, r.val % 320 < 160 * g.val + o ∨ 160 * g.val + o + d ≤ r.val % 320 → W r = 0)
    (hw : ∀ (p : Fin 16) (c : Fin d), W ⟨p.val * 320 + (160 * g.val + o + c.val), by omega⟩ = w ⟨lo + p.val, by omega⟩ c) :
    ∑ r, v r * W r = ∑ p : Fin 16, ∑ c, tok x b n g o d hd ⟨lo + p.val, by omega⟩ c * w ⟨lo + p.val, by omega⟩ c := by
  rw [sum_spread _ (160 * g.val + o) d (by omega) fun r hr => by rw [hz r hr, mul_zero]]
  refine Finset.sum_congr rfl fun p _ => Finset.sum_congr rfl fun c _ => ?_
  rw [hw, hv]
  congr 1
  have := hn p.val p.isLt
  refine congrArg x (congr (congrArg (ix3 b) (Fin.ext ?_)) (Fin.ext ?_)) <;> dsimp only <;> omega

/-- The laid-out weights outside a group's places of the keys. -/
theorem key_zero (lo hk hv lit wk wv) (hl : IsEye lit) (hlo : lo ≤ 16) (g : Fin 2) (k : Fin 256) (r : Fin 5120)
    (hr : r.val % 320 < 160 * g.val + 0 ∨ 160 * g.val + 0 + 96 ≤ r.val % 320) :
    spreadW lo hk hv lit wk wv (ix2 r ⟨512 * g.val + k.val, by omega⟩) = 0 := by
  rw [spreadW_apply _ _ _ _ _ _ hl _ _ hlo]
  dsimp only
  by_cases h : r.val / 160 % 2 = (512 * g.val + k.val) / 512
  · rw [if_pos h, dif_neg (by omega), dif_pos (by omega)]
  · rw [if_neg h]

/-- The laid-out weights outside a group's places of the values. -/
theorem val_zero (lo hk hv lit wk wv) (hl : IsEye lit) (hlo : lo ≤ 16) (g : Fin 2) (k : Fin 256) (r : Fin 5120)
    (hr : r.val % 320 < 160 * g.val + 96 ∨ 160 * g.val + 96 + 64 ≤ r.val % 320) :
    spreadW lo hk hv lit wk wv (ix2 r ⟨512 * g.val + (256 + k.val), by omega⟩) = 0 := by
  rw [spreadW_apply _ _ _ _ _ _ hl _ _ hlo]
  dsimp only
  by_cases h : r.val / 160 % 2 = (512 * g.val + (256 + k.val)) / 512
  · rw [if_pos h, dif_pos (by omega), dif_neg (by omega)]
  · rw [if_neg h]

/-- The laid-out weights at a group's places of the keys. -/
theorem key_at (lo hk hv lit wk wv) (hl : IsEye lit) (hlo : lo ≤ 16) (g : Fin 2) (k : Fin 256) (p : Fin 16) (c : Fin 96) :
    spreadW lo hk hv lit wk wv (ix2 ⟨p.val * 320 + (160 * g.val + 0 + c.val), by omega⟩ ⟨512 * g.val + k.val, by omega⟩) =
      rows rfl wk ⟨lo + p.val, by omega⟩ c k := by
  rw [spreadW_apply _ _ _ _ _ _ hl _ _ hlo]
  dsimp only
  rw [if_pos (by omega), dif_pos (by omega), dif_pos (by omega)]
  refine congrArg wk (congr (congrArg ix2 (Fin.ext ?_)) (Fin.ext ?_)) <;> dsimp only <;> omega

/-- The laid-out weights at a group's places of the values. -/
theorem val_at (lo hk hv lit wk wv) (hl : IsEye lit) (hlo : lo ≤ 16) (g : Fin 2) (k : Fin 256) (p : Fin 16) (c : Fin 64) :
    spreadW lo hk hv lit wk wv (ix2 ⟨p.val * 320 + (160 * g.val + 96 + c.val), by omega⟩ ⟨512 * g.val + (256 + k.val), by omega⟩) =
      rows rfl wv ⟨lo + p.val, by omega⟩ c k := by
  rw [spreadW_apply _ _ _ _ _ _ hl _ _ hlo]
  dsimp only
  rw [if_pos (by omega), dif_neg (by omega), dif_neg (by omega)]
  refine congrArg wv (congr (congrArg ix2 (Fin.ext ?_)) (Fin.ext ?_)) <;> dsimp only <;> omega

/-- A segment against a group's column of the keys: half a block's tokens against their weights. -/
theorem key_half (x : FVec Ideal S2x8192x320 .f32) (lo hk hv lit wk wv) (hl : IsEye lit) (hlo : lo ≤ 16) (b : Fin 2) (n n' : Fin 512) (g : Fin 2) (k : Fin 256)
    (hn : ∀ p < 16, 16 * n'.val + p = (16 * n.val + (lo + p)) % 8192) :
    ∑ r : Fin 5120, x (ix3 b ⟨16 * n'.val + r.val / 320, by omega⟩ ⟨r.val % 320, by omega⟩) *
        spreadW lo hk hv lit wk wv (ix2 r ⟨512 * g.val + k.val, by omega⟩) =
      ∑ p : Fin 16, ∑ c, tok x b n g 0 96 (by omega) ⟨lo + p.val, by omega⟩ c * rows (d := 96) (N := 3072) rfl wk ⟨lo + p.val, by omega⟩ c k :=
  half_sum x b n n' g 0 96 (by omega) lo hlo hn (fun r => x (ix3 b ⟨16 * n'.val + r.val / 320, by omega⟩ ⟨r.val % 320, by omega⟩))
    (fun r => spreadW lo hk hv lit wk wv (ix2 r ⟨512 * g.val + k.val, by omega⟩)) (fun l c => rows (d := 96) (N := 3072) rfl wk l c k) (fun _ => rfl)
    (key_zero lo hk hv lit wk wv hl hlo g k) (key_at lo hk hv lit wk wv hl hlo g k)

/-- A segment against a group's column of the values: half a block's tokens against their weights. -/
theorem val_half (x : FVec Ideal S2x8192x320 .f32) (lo hk hv lit wk wv) (hl : IsEye lit) (hlo : lo ≤ 16) (b : Fin 2) (n n' : Fin 512) (g : Fin 2) (k : Fin 256)
    (hn : ∀ p < 16, 16 * n'.val + p = (16 * n.val + (lo + p)) % 8192) :
    ∑ r : Fin 5120, x (ix3 b ⟨16 * n'.val + r.val / 320, by omega⟩ ⟨r.val % 320, by omega⟩) *
        spreadW lo hk hv lit wk wv (ix2 r ⟨512 * g.val + (256 + k.val), by omega⟩) =
      ∑ p : Fin 16, ∑ c, tok x b n g 96 64 (by omega) ⟨lo + p.val, by omega⟩ c * rows (d := 64) (N := 2048) rfl wv ⟨lo + p.val, by omega⟩ c k :=
  half_sum x b n n' g 96 64 (by omega) lo hlo hn (fun r => x (ix3 b ⟨16 * n'.val + r.val / 320, by omega⟩ ⟨r.val % 320, by omega⟩))
    (fun r => spreadW lo hk hv lit wk wv (ix2 r ⟨512 * g.val + (256 + k.val), by omega⟩)) (fun l c => rows (d := 64) (N := 2048) rfl wv l c k) (fun _ => rfl)
    (val_zero lo hk hv lit wk wv hl hlo g k) (val_at lo hk hv lit wk wv hl hlo g k)

/-- What the body has before the GELU, from its blocks' entries: one half of the weights against the segment, the other half against the
next segment (the last against the first), and the position embedding's share. -/
def kpre (v0 : Fin 512 → Fin 5120 → EReal) (v2 v5 : Fin 5120 → Fin 1024 → EReal) (v8 : Fin 3072 → EReal) (v10 : Fin 3072 → Fin 256 → EReal)
    (v14 : Fin 2048 → EReal) (v16 : Fin 2048 → Fin 256 → EReal) (n : Fin 512) (j : Fin 1024) : EReal :=
  (∑ r, v0 n r * v2 r j) + (∑ r, v0 ⟨(n.val + 512 - 511) % 512, by omega⟩ r * v5 r j) +
    if h : j.val % 512 < 256 then ∑ q, v8 q * v10 q ⟨j.val % 512, h⟩ else ∑ q, v14 q * v16 q ⟨j.val % 512 - 256, by omega⟩

/-- The body's value before the GELU at an index. -/
theorem pay4_apply (v0 v2 v5 v8 v10 v14 v16) (n : Fin 512) (j : Fin 1024) : k0_pay4 (F := Ideal) v0 v2 v5 v8 v10 v14 v16 (ix2 n j) =
    kpre (fun n r => v0 (ix3 0 n r)) (fun r j => v2 (ix2 r j)) (fun r j => v5 (ix2 r j)) (fun q => v8 (ix2 0 q)) (fun q k => v10 (ix2 q k))
      (fun q => v14 (ix2 0 q)) (fun q k => v16 (ix2 q k)) n j := by
  pointwise [k0_pay4]
  unfold kpre
  congr 1
  by_cases h1 : j.val < 256
  · have e : (⟨j.val, h1⟩ : Fin 256) = ⟨j.val % 512, by omega⟩ := Fin.ext (by dsimp only; omega)
    rw [dif_pos h1, dif_pos (by omega), e]
  by_cases h2 : j.val - 256 < 256
  · have e : (⟨j.val - 256, h2⟩ : Fin 256) = ⟨j.val % 512 - 256, by omega⟩ := Fin.ext (by dsimp only; omega)
    rw [dif_neg h1, dif_pos h2, dif_neg (by omega), e]
  by_cases h3 : j.val - 256 - 256 < 256
  · have e : (⟨j.val - 256 - 256, h3⟩ : Fin 256) = ⟨j.val % 512, by omega⟩ := Fin.ext (by dsimp only; omega)
    rw [dif_neg h1, dif_neg h2, dif_pos h3, dif_pos (by omega), e]
  · have e : (⟨j.val - 256 - 256 - 256, by omega⟩ : Fin 256) = ⟨j.val % 512 - 256, by omega⟩ := Fin.ext (by dsimp only; omega)
    rw [dif_neg h1, dif_neg h2, dif_neg h3, dif_neg (by omega), e]

/-- The body's product with the second weights at an index. -/
theorem pay1_apply (v0 v2 v5 v8 v10 v14 v16 v39) (n : Fin 512) (j : Fin 512) :
    k0_pay1 (F := Ideal) (k0_pay5 v0 v2 v5 v8 v10 v14 v16) (k0_pay6 v0 v2 v5 v8 v10 v14 v16) (1 : EReal) v39 (ix2 n j) =
      ∑ i, gelu (kpre (fun n r => v0 (ix3 0 n r)) (fun r j => v2 (ix2 r j)) (fun r j => v5 (ix2 r j)) (fun q => v8 (ix2 0 q))
        (fun q k => v10 (ix2 q k)) (fun q => v14 (ix2 0 q)) (fun q k => v16 (ix2 q k)) n i) * v39 (ix2 i j) := by
  simp only [← pay4_apply]
  pointwise [k0_pay1, k0_pay5, k0_pay6]
  rfl

section
variable (x : FVec Ideal S2x8192x320 .f32) (pk : FVec Ideal S32x96 .f32) (wk : FVec Ideal S3072x256 .f32) (w2k : FVec Ideal S256x96 .f32)
  (pv : FVec Ideal S32x64 .f32) (wv : FVec Ideal S2048x256 .f32) (w2v : FVec Ideal S256x64 .f32)

/-- The body's value before the GELU from the host's arrays, for batch entry `b`. -/
def hpre (b : Fin 2) : Fin 512 → Fin 1024 → EReal :=
  kpre (fun n r => x (ix3 b ⟨16 * n.val + r.val / 320, by omega⟩ ⟨r.val % 320, by omega⟩))
    (fun r j => spreadW 0 slices_S32x96x256_S16x96x256_0_0_0 slices_S32x64x256_S16x64x256_0_0_0 lit1 wk wv (ix2 r j))
    (fun r j => spreadW 16 slices_S32x96x256_S16x96x256_16_0_0 slices_S32x64x256_S16x64x256_16_0_0 lit2 wk wv (ix2 r j))
    (fun q => pk (ix2 ⟨q.val / 96, by omega⟩ ⟨q.val % 96, by omega⟩)) (fun q k => wk (ix2 q k))
    (fun q => pv (ix2 ⟨q.val / 64, by omega⟩ ⟨q.val % 64, by omega⟩)) (fun q k => wv (ix2 q k))

/-- In a group's columns of the keys it is the keys' blocks, where embedding and weights are finite. -/
theorem hpre_key (b : Fin 2) (n : Fin 512) (g : Fin 2) (k : Fin 256) (hp : ∀ i, Fin' (pk i)) (hw : ∀ i, Fin' (wk i)) :
    hpre x pk wk pv wv b n ⟨512 * g.val + k.val, by omega⟩ =
      pre (tok x b n g 0 96 (by omega)) (fun l c => pk (ix2 l c)) fun l c => rows rfl wk l c k := by
  have hw' : ∀ l c, Fin' (rows (d := 96) (N := 3072) rfl wk l c k) := fun _ _ => hw _
  rw [← pre_split (tok x b n g 0 96 (by omega)) (fun l c => pk (ix2 l c)) (fun l c => rows rfl wk l c k) (fun _ _ => hp _) hw']
  unfold hpre kpre
  congr 1
  · congr 1
    · exact key_half x 0 _ _ lit1 wk wv eye1 (by omega) b n n g k fun p _ => by omega
    · exact key_half x 16 _ _ lit2 wk wv eye2 (by omega) b n ⟨(n.val + 512 - 511) % 512, by omega⟩ g k fun p _ => by dsimp only; omega
  · rw [dif_pos (by dsimp only; omega), sum_grid 32 96 rfl]
    refine Finset.sum_congr rfl fun l _ => Finset.sum_congr rfl fun c _ => ?_
    congr 1
    · refine congrArg pk (congr (congrArg ix2 (Fin.ext ?_)) (Fin.ext ?_)) <;> dsimp only <;> omega
    · refine congrArg wk (congr (congrArg ix2 (Fin.ext ?_)) (Fin.ext ?_)) <;> dsimp only <;> omega

/-- In a group's columns of the values it is the values' blocks, where embedding and weights are finite. -/
theorem hpre_val (b : Fin 2) (n : Fin 512) (g : Fin 2) (k : Fin 256) (hp : ∀ i, Fin' (pv i)) (hw : ∀ i, Fin' (wv i)) :
    hpre x pk wk pv wv b n ⟨512 * g.val + (256 + k.val), by omega⟩ =
      pre (tok x b n g 96 64 (by omega)) (fun l c => pv (ix2 l c)) fun l c => rows rfl wv l c k := by
  have hw' : ∀ l c, Fin' (rows (d := 64) (N := 2048) rfl wv l c k) := fun _ _ => hw _
  rw [← pre_split (tok x b n g 96 64 (by omega)) (fun l c => pv (ix2 l c)) (fun l c => rows rfl wv l c k) (fun _ _ => hp _) hw']
  unfold hpre kpre
  congr 1
  · congr 1
    · exact val_half x 0 _ _ lit1 wk wv eye1 (by omega) b n n g k fun p _ => by omega
    · exact val_half x 16 _ _ lit2 wk wv eye2 (by omega) b n ⟨(n.val + 512 - 511) % 512, by omega⟩ g k fun p _ => by dsimp only; omega
  · rw [dif_neg (by dsimp only; omega), sum_grid 32 64 rfl]
    refine Finset.sum_congr rfl fun l _ => Finset.sum_congr rfl fun c _ => ?_
    congr 1
    · refine congrArg pv (congr (congrArg ix2 (Fin.ext ?_)) (Fin.ext ?_)) <;> dsimp only <;> omega
    · refine congrArg wv (congr (congrArg ix2 (Fin.ext ?_)) (Fin.ext ?_)) <;> dsimp only <;> omega

/-- The body's result at column `j` of the keys. -/
theorem key_out (b : Fin 2) (n : Fin 512) (j : Fin 256) (hp : ∀ i, Fin' (pk i)) (hw : ∀ i, Fin' (wk i)) :
    ∑ i, gelu (hpre x pk wk pv wv b n i) * spreadW2 w2k w2v (ix2 i ⟨j.val, by omega⟩) =
      compress 0 (by omega) x (fun l c => pk (ix2 l c)) (rows rfl wk) (fun k c => w2k (ix2 k c)) b n j := by
  rw [sum_window _ (512 * (j.val / 128)) 256 (by omega) fun i hi => by
    have := Nat.div_div_eq_div_mul i.val 256 2
    rw [spreadW2_apply]
    dsimp only
    rw [if_neg (by omega), mul_zero]]
  unfold compress outLane
  have e := fun k : Fin 256 => hpre_key x pk wk pv wv b n ⟨j.val / 128, by omega⟩ k hp hw
  dsimp only at e
  simp only [e]
  by_cases h : j.val % 128 < 96
  · rw [dif_pos h]
    refine Finset.sum_congr rfl fun k _ => congrArg _ ?_
    rw [spreadW2_apply]
    dsimp only
    rw [if_pos (by omega), if_pos (by omega), dif_pos h]
    refine congrArg w2k (congr (congrArg ix2 (Fin.ext ?_)) (Fin.ext ?_)) <;> dsimp only <;> omega
  · rw [dif_neg h]
    refine Finset.sum_eq_zero fun k _ => ?_
    rw [spreadW2_apply]
    dsimp only
    rw [if_pos (by omega), if_pos (by omega), dif_neg h, mul_zero]

/-- The body's result at column `j` of the values. -/
theorem val_out (b : Fin 2) (n : Fin 512) (j : Fin 256) (hp : ∀ i, Fin' (pv i)) (hw : ∀ i, Fin' (wv i)) :
    ∑ i, gelu (hpre x pk wk pv wv b n i) * spreadW2 w2k w2v (ix2 i ⟨256 + j.val, by omega⟩) =
      compress 96 (by omega) x (fun l c => pv (ix2 l c)) (rows rfl wv) (fun k c => w2v (ix2 k c)) b n j := by
  rw [sum_window _ (512 * (j.val / 128) + 256) 256 (by omega) fun i hi => by
    have := Nat.div_div_eq_div_mul i.val 256 2
    rw [spreadW2_apply]
    dsimp only
    rw [if_neg (by omega), mul_zero]]
  unfold compress outLane
  have e := fun k : Fin 256 => hpre_val x pk wk pv wv b n ⟨j.val / 128, by omega⟩ k hp hw
  dsimp only at e
  simp only [← Nat.add_assoc] at e
  simp only [e]
  by_cases h : j.val % 128 < 64
  · rw [dif_pos h]
    refine Finset.sum_congr rfl fun k _ => congrArg _ ?_
    rw [spreadW2_apply]
    dsimp only
    rw [if_pos (by omega), if_neg (by omega), dif_pos (by omega)]
    refine congrArg w2v (congr (congrArg ix2 (Fin.ext ?_)) (Fin.ext ?_)) <;> dsimp only <;> omega
  · rw [dif_neg h]
    refine Finset.sum_eq_zero fun k _ => ?_
    rw [spreadW2_apply]
    dsimp only
    rw [if_pos (by omega), if_neg (by omega), dif_neg (by omega), mul_zero]

end

end Cert.Cmp
-- ==== Proof.Cmp.lean ====
module

public import proofs.«01_k».proof.Proof.CmpKernel

@[expose] public section

set_option maxRecDepth 16384

noncomputable section

namespace Cert.Cmp

open Idealize.ShloMosaic Idealize.ShloMosaic.TcCoe Idealize.SL.Sem

section
open Cert.Kernel6Ideal Cert.Kernel6Ideal.Gen
variable (m : (ℓ : Loc nD τ sig) → Buf (Elt Ideal) ℓ)

/-- Which block each window takes at step `t`. -/
theorem idx_facts : ∀ t : Fin grid0.N, win0_0.index t = ![t.val, 0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![t.val, 0, 0] ∧ win0_9.index t = ![t.val, 0, 0] := by decide +kernel

/-- A segment of the flattened tokens. -/
theorem seg_apply (x : FVec Ideal S2x8192x320 .f32) (b : Fin 2) (n : Fin 512) (r : Fin 5120) :
    shapeCast S2x512x5120 (truncf (F := Ideal) .bf16 (shapeCast S16384x320 x shapeCasts_S2x8192x320_S16384x320) bitsLt_bf16_f32)
      shapeCasts_S16384x320_S2x512x5120 (ix3 b n r) = x (ix3 b ⟨16 * n.val + r.val / 320, by omega⟩ ⟨r.val % 320, by omega⟩) := by
  pointwise
  refine congrArg x (congr (congr (congrArg ix3 (Fin.ext ?_)) (Fin.ext ?_)) (Fin.ext ?_)) <;> dsimp only <;> omega

/-- Segment `n` of the batch entry of step `t`. -/
theorem blk0 (c : Dev nD) (t : Fin cfg0.N) (b : Fin 2) (hb : b.val = t.val) (n : Fin 512) (r : Fin 5120) :
    iblk m c 0 t (ix3 0 n r) = m ((c : Thread nD τ).loc main_arg0) (ix3 b ⟨16 * n.val + r.val / 320, by omega⟩ ⟨r.val % 320, by omega⟩) := by
  show V m c main_v54 ((win0_0.blk t).view.emb (ix3 0 n r)) = _
  rw [show (win0_0.blk t).view.emb (ix3 0 n r) = ix3 b n r by blk_ext [idx_facts t, hb], V_v54]
  exact seg_apply _ b n r

/-- The first half of the first weights. -/
theorem blk1 (c : Dev nD) (t : Fin cfg0.N) (r : Fin 5120) (j : Fin 1024) :
    iblk m c 1 t (ix2 r j) = spreadW 0 slices_S32x96x256_S16x96x256_0_0_0 slices_S32x64x256_S16x64x256_0_0_0 lit1
      (m ((c : Thread nD τ).loc main_arg2)) (m ((c : Thread nD τ).loc main_arg5)) (ix2 r j) := by
  show V m c main_v28 ((win0_1.blk t).view.emb (ix2 r j)) = _
  rw [show (win0_1.blk t).view.emb (ix2 r j) = ix2 r j by blk_ext [idx_facts t], V_v28]

/-- The second half of the first weights. -/
theorem blk2 (c : Dev nD) (t : Fin cfg0.N) (r : Fin 5120) (j : Fin 1024) :
    iblk m c 2 t (ix2 r j) = spreadW 16 slices_S32x96x256_S16x96x256_16_0_0 slices_S32x64x256_S16x64x256_16_0_0 lit2
      (m ((c : Thread nD τ).loc main_arg2)) (m ((c : Thread nD τ).loc main_arg5)) (ix2 r j) := by
  show V m c main_v41 ((win0_2.blk t).view.emb (ix2 r j)) = _
  rw [show (win0_2.blk t).view.emb (ix2 r j) = ix2 r j by blk_ext [idx_facts t], V_v41]

/-- The keys' position embedding in one row. -/
theorem blk3_apply (x : FVec Ideal S32x96 .f32) (q : Fin 3072) :
    truncf (F := Ideal) .bf16 (pad S8x3072 ![0, 0] ![7, 0] ![0, 0] (shapeCast S1x3072 x shapeCasts_S32x96_S1x3072)
      (sitofp (F := Ideal) .f32 (constantI S_ 32 0#32)) pads_S1x3072_S8x3072_070_000 h_S_) bitsLt_bf16_f32 (ix2 0 q) =
      x (ix2 ⟨q.val / 96, by omega⟩ ⟨q.val % 96, by omega⟩) := by
  pointwise

/-- The keys' position embedding, one row after the other. -/
theorem blk3 (c : Dev nD) (t : Fin cfg0.N) (q : Fin 3072) :
    iblk m c 3 t (ix2 0 q) = m ((c : Thread nD τ).loc main_arg1) (ix2 ⟨q.val / 96, by omega⟩ ⟨q.val % 96, by omega⟩) := by
  show V m c main_v44 ((win0_3.blk t).view.emb (ix2 0 q)) = _
  rw [show (win0_3.blk t).view.emb (ix2 0 q) = ix2 0 q by blk_ext [idx_facts t], V_v44]
  exact blk3_apply _ q

/-- The keys' first weights. -/
theorem blk4 (c : Dev nD) (t : Fin cfg0.N) (q : Fin 3072) (k : Fin 256) :
    iblk m c 4 t (ix2 q k) = m ((c : Thread nD τ).loc main_arg2) (ix2 q k) := by
  show V m c main_v46 ((win0_4.blk t).view.emb (ix2 q k)) = _
  rw [show (win0_4.blk t).view.emb (ix2 q k) = ix2 q k by blk_ext [idx_facts t], V_v46]
  generalize (m ((c : Thread nD τ).loc main_arg2) : FVec Ideal S3072x256 .f32) = x
  pointwise

/-- The values' position embedding in one row. -/
theorem blk5_apply (x : FVec Ideal S32x64 .f32) (q : Fin 2048) :
    truncf (F := Ideal) .bf16 (pad S8x2048 ![0, 0] ![7, 0] ![0, 0] (shapeCast S1x2048 x shapeCasts_S32x64_S1x2048)
      (sitofp (F := Ideal) .f32 (constantI S_ 32 0#32)) pads_S1x2048_S8x2048_070_000 h_S_) bitsLt_bf16_f32 (ix2 0 q) =
      x (ix2 ⟨q.val / 64, by omega⟩ ⟨q.val % 64, by omega⟩) := by
  pointwise

/-- The values' position embedding, one row after the other. -/
theorem blk5 (c : Dev nD) (t : Fin cfg0.N) (q : Fin 2048) :
    iblk m c 5 t (ix2 0 q) = m ((c : Thread nD τ).loc main_arg4) (ix2 ⟨q.val / 64, by omega⟩ ⟨q.val % 64, by omega⟩) := by
  show V m c main_v49 ((win0_5.blk t).view.emb (ix2 0 q)) = _
  rw [show (win0_5.blk t).view.emb (ix2 0 q) = ix2 0 q by blk_ext [idx_facts t], V_v49]
  exact blk5_apply _ q

/-- The values' first weights. -/
theorem blk6 (c : Dev nD) (t : Fin cfg0.N) (q : Fin 2048) (k : Fin 256) :
    iblk m c 6 t (ix2 q k) = m ((c : Thread nD τ).loc main_arg5) (ix2 q k) := by
  show V m c main_v51 ((win0_6.blk t).view.emb (ix2 q k)) = _
  rw [show (win0_6.blk t).view.emb (ix2 q k) = ix2 q k by blk_ext [idx_facts t], V_v51]
  generalize (m ((c : Thread nD τ).loc main_arg5) : FVec Ideal S2048x256 .f32) = x
  pointwise

/-- The second weights. -/
theorem blk7 (c : Dev nD) (t : Fin cfg0.N) (i : Fin 1024) (j : Fin 512) :
    iblk m c 7 t (ix2 i j) = spreadW2 (m ((c : Thread nD τ).loc main_arg3)) (m ((c : Thread nD τ).loc main_arg6)) (ix2 i j) := by
  show V m c main_v15 ((win0_7.blk t).view.emb (ix2 i j)) = _
  rw [show (win0_7.blk t).view.emb (ix2 i j) = ix2 i j by blk_ext [idx_facts t], V_v15]

/-- The compressed keys from the arrays at launch. -/
def keyAt (c : Dev nD) : Fin 2 → Fin 512 → Fin 256 → EReal :=
  compress (d := 96) 0 (by omega) (m ((c : Thread nD τ).loc main_arg0)) (fun l d => m ((c : Thread nD τ).loc main_arg1) (ix2 l d))
    (rows (N := 3072) rfl (m ((c : Thread nD τ).loc main_arg2))) fun k d => m ((c : Thread nD τ).loc main_arg3) (ix2 k d)

/-- The compressed values from the arrays at launch. -/
def valAt (c : Dev nD) : Fin 2 → Fin 512 → Fin 256 → EReal :=
  compress (d := 64) 96 (by omega) (m ((c : Thread nD τ).loc main_arg0)) (fun l d => m ((c : Thread nD τ).loc main_arg4) (ix2 l d))
    (rows (N := 2048) rfl (m ((c : Thread nD τ).loc main_arg5))) fun k d => m ((c : Thread nD τ).loc main_arg6) (ix2 k d)

/-- The body's sum over the hidden units, from the blocks, is the one from the arrays at launch. -/
theorem body_eq (c : Dev nD) (t : Fin cfg0.N) (b : Fin 2) (hb : b.val = t.val) (n : Fin 512) (j : Fin 512) :
    ∑ i, gelu (kpre (fun n r => iblk m c 0 t (ix3 0 n r)) (fun r j => iblk m c 1 t (ix2 r j)) (fun r j => iblk m c 2 t (ix2 r j))
        (fun q => iblk m c 3 t (ix2 0 q)) (fun q k => iblk m c 4 t (ix2 q k)) (fun q => iblk m c 5 t (ix2 0 q))
        (fun q k => iblk m c 6 t (ix2 q k)) n i) * iblk m c 7 t (ix2 i j) =
      ∑ i, gelu (hpre (m ((c : Thread nD τ).loc main_arg0)) (m ((c : Thread nD τ).loc main_arg1)) (m ((c : Thread nD τ).loc main_arg2))
        (m ((c : Thread nD τ).loc main_arg4)) (m ((c : Thread nD τ).loc main_arg5)) b n i) *
        spreadW2 (m ((c : Thread nD τ).loc main_arg3)) (m ((c : Thread nD τ).loc main_arg6)) (ix2 i j) := by
  unfold hpre
  simp only [blk0 m c t b hb, blk1, blk2, blk3, blk4, blk5, blk6, blk7]

/-- At a column of the keys it is the compressed keys. -/
theorem body_key (c : Dev nD) (t : Fin cfg0.N) (b : Fin 2) (hb : b.val = t.val) (n : Fin 512) (j : Fin 256)
    (hp : ∀ i : S32x96.Idx, Fin' (m ((c : Thread nD τ).loc main_arg1) i)) (hw : ∀ i : S3072x256.Idx, Fin' (m ((c : Thread nD τ).loc main_arg2) i)) :
    ∑ i, gelu (kpre (fun n r => iblk m c 0 t (ix3 0 n r)) (fun r j => iblk m c 1 t (ix2 r j)) (fun r j => iblk m c 2 t (ix2 r j))
        (fun q => iblk m c 3 t (ix2 0 q)) (fun q k => iblk m c 4 t (ix2 q k)) (fun q => iblk m c 5 t (ix2 0 q))
        (fun q k => iblk m c 6 t (ix2 q k)) n i) * iblk m c 7 t (ix2 i ⟨j.val, by omega⟩) = keyAt m c b n j :=
  (body_eq m c t b hb n ⟨j.val, by omega⟩).trans (key_out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b n j hp hw)

/-- At a column of the values it is the compressed values. -/
theorem body_val (c : Dev nD) (t : Fin cfg0.N) (b : Fin 2) (hb : b.val = t.val) (n : Fin 512) (j : Fin 256)
    (hp : ∀ i : S32x64.Idx, Fin' (m ((c : Thread nD τ).loc main_arg4) i)) (hw : ∀ i : S2048x256.Idx, Fin' (m ((c : Thread nD τ).loc main_arg5) i)) :
    ∑ i, gelu (kpre (fun n r => iblk m c 0 t (ix3 0 n r)) (fun r j => iblk m c 1 t (ix2 r j)) (fun r j => iblk m c 2 t (ix2 r j))
        (fun q => iblk m c 3 t (ix2 0 q)) (fun q k => iblk m c 4 t (ix2 q k)) (fun q => iblk m c 5 t (ix2 0 q))
        (fun q k => iblk m c 6 t (ix2 q k)) n i) * iblk m c 7 t (ix2 i ⟨256 + j.val, by omega⟩) = valAt m c b n j :=
  (body_eq m c t b hb n ⟨256 + j.val, by omega⟩).trans (val_out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b n j hp hw)

/-- The first output at the end: the compressed keys. -/
theorem final8 (c : Dev nD) (hp : ∀ i : S32x96.Idx, Fin' (m ((c : Thread nD τ).loc main_arg1) i))
    (hw : ∀ i : S3072x256.Idx, Fin' (m ((c : Thread nD τ).loc main_arg2) i)) :
    (dats m 0 c).arrAt 8 cfg0.N = fun y : S2x512x256.Idx => keyAt m c (y 0) (y 1) (y 2) := by
  refine (dats m 0 c).arrAt_eq_of_covers 8 _ (by decide +kernel) fun t hf y => ?_
  blk_simp
  rw [after0_8]
  unfold_out out0_8
  frame_out
  idx_vars y
  have ht : t.val < 2 := t.isLt
  rw [show ((View.whole main_v55_0).slice (win0_8.rect t)).emb (ix3 y0 y1 y2) = ix3 ⟨t.val, ht⟩ y1 y2 by blk_ext [idx_facts t]]
  pointwise [k0_pay2]
  exact (pay1_apply _ _ _ _ _ _ _ _ y1 ⟨y2.val, by omega⟩).trans (body_key m c t ⟨t.val, ht⟩ rfl y1 y2 hp hw)

/-- The second output at the end: the compressed values. -/
theorem final9 (c : Dev nD) (hp : ∀ i : S32x64.Idx, Fin' (m ((c : Thread nD τ).loc main_arg4) i))
    (hw : ∀ i : S2048x256.Idx, Fin' (m ((c : Thread nD τ).loc main_arg5) i)) :
    (dats m 0 c).arrAt 9 cfg0.N = fun y : S2x512x256.Idx => valAt m c (y 0) (y 1) (y 2) := by
  refine (dats m 0 c).arrAt_eq_of_covers 9 _ (by decide +kernel) fun t hf y => ?_
  blk_simp
  rw [after0_9]
  unfold_out out0_9
  frame_out
  idx_vars y
  have ht : t.val < 2 := t.isLt
  rw [show ((View.whole main_v55_1).slice (win0_9.rect t)).emb (ix3 y0 y1 y2) = ix3 ⟨t.val, ht⟩ y1 y2 by blk_ext [idx_facts t]]
  pointwise [k0_pay3]
  exact (pay1_apply _ _ _ _ _ _ _ _ y1 ⟨256 + y2.val, by omega⟩).trans (body_val m c t ⟨t.val, ht⟩ rfl y1 y2 hp hw)

end

end Cert.Cmp
-- ==== Proof.CmpRef.lean ====
module

public import proofs.«01_k».proof.Proof.CmpSpec
public import proofs.«01_k».proof.Proof.Gen.Reference6Ideal.Run

@[expose] public section

set_option maxRecDepth 16384

noncomputable section

namespace Cert.Cmp

open Idealize.ShloMosaic Idealize.ShloMosaic.TcCoe Idealize.SL.Sem
open Cert.Reference6Ideal Cert.Reference6Ideal.Gen Cert.Reference6Ideal.Value

/-! # The reference's outputs, index by index -/

/-- The reference's keys before the GELU. -/
def keyH (x : FVec Ideal S2x8192x320 .f32) (pe : FVec Ideal S32x96 .f32) (w : FVec Ideal S3072x256 .f32) : FVec Ideal S2x512x2x256 .f32 :=
  Host.dotGeneral dot_S2x512x2x3072_S3072x256_S2x512x2x256_3_0_012_1_n_n none (shapeCast _ (transpose S2x512x2x32x96 [0, 1, 3, 2, 4] (addf
    (concatenate S2x512x32x2x96 2 [
      ⟨S2x512x16x2x96, shapeCast _ (extractStridedSlice S2x8192x2x96 ![0, 0, 0, 0] (shapeCast _ x shapeCasts_S2x8192x320_S2x8192x2x160) slices_S2x8192x2x160_S2x8192x2x96_0_0_0_0) shapeCasts_S2x8192x2x96_S2x512x16x2x96⟩,
      ⟨S2x512x16x2x96, concatenate S2x512x16x2x96 1 [
        ⟨S2x511x16x2x96, extractStridedSlice S2x511x16x2x96 ![0, 1, 0, 0, 0] (shapeCast _ (extractStridedSlice S2x8192x2x96 ![0, 0, 0, 0] (shapeCast _ x shapeCasts_S2x8192x320_S2x8192x2x160) slices_S2x8192x2x160_S2x8192x2x96_0_0_0_0) shapeCasts_S2x8192x2x96_S2x512x16x2x96) slices_S2x512x16x2x96_S2x511x16x2x96_0_1_0_0_0⟩,
        ⟨S2x1x16x2x96, extractStridedSlice S2x1x16x2x96 ![0, 0, 0, 0, 0] (shapeCast _ (extractStridedSlice S2x8192x2x96 ![0, 0, 0, 0] (shapeCast _ x shapeCasts_S2x8192x320_S2x8192x2x160) slices_S2x8192x2x160_S2x8192x2x96_0_0_0_0) shapeCasts_S2x8192x2x96_S2x512x16x2x96) slices_S2x512x16x2x96_S2x1x16x2x96_0_0_0_0_0⟩]
        concatenates_S2x511x16x2x96_S2x1x16x2x96_S2x512x16x2x96_d1⟩] concatenates_S2x512x16x2x96_S2x512x16x2x96_S2x512x32x2x96_d2)
    (broadcastInDim S2x512x32x2x96 ![0, 1, 2, 3, 4] bcast_S1x1x32x1x96_S2x512x32x2x96_0_1_2_3_4 (broadcastInDim S1x1x32x1x96 ![2, 4] bcast_S32x96_S1x1x32x1x96_2_4 pe)))
    transposes_S2x512x32x2x96_S2x512x2x32x96_0_1_3_2_4) shapeCasts_S2x512x2x32x96_S2x512x2x3072) w

/-- Its entry is the block's sum. -/
theorem keyH_apply (x pe w) (b : Fin 2) (n : Fin 512) (g : Fin 2) (k : Fin 256) :
    keyH x pe w (ix4 b n g k) = pre (tok x b n g 0 96 (by omega)) (fun l c => pe (ix2 l c)) fun l c => rows (d := 96) (N := 3072) rfl w l c k := by
  pointwise [keyH]
  unfold pre
  rw [sum_grid 32 96 rfl]
  refine Finset.sum_congr rfl fun l _ => Finset.sum_congr rfl fun c _ => ?_
  have e : (l.val * 96 + c.val) / 96 = l.val := by omega
  have e' : (l.val * 96 + c.val) % 96 = c.val := by omega
  refine congr (congrArg _ (congr (congrArg _ ?_) ?_)) rfl
  · unfold tok
    dsimp only
    by_cases h1 : (l.val * 96 + c.val) / 96 < 16
    · rw [dif_pos h1]
      refine congrArg x (congr (congrArg (ix3 b) (Fin.ext ?_)) (Fin.ext ?_)) <;> dsimp only <;> omega
    rw [dif_neg h1]
    by_cases h2 : n.val < 511
    · rw [dif_pos h2]
      refine congrArg x (congr (congrArg (ix3 b) (Fin.ext ?_)) (Fin.ext ?_)) <;> dsimp only <;> omega
    · rw [dif_neg h2]
      refine congrArg x (congr (congrArg (ix3 b) (Fin.ext ?_)) (Fin.ext ?_)) <;> dsimp only <;> omega
  · exact congrArg pe (congr (congrArg ix2 (Fin.ext e)) (Fin.ext e'))

/-- The reference's compressed keys from their values before the GELU. -/
def keyO (H : FVec Ideal S2x512x2x256 .f32) (w : FVec Ideal S256x96 .f32) : FVec Ideal S2x512x256 .bf16 :=
  truncf .bf16 (shapeCast _ (concatenate S2x512x2x128 3 [⟨S2x512x2x96, Host.dotGeneral dot_S2x512x2x256_S256x96_S2x512x2x96_3_0_012_1_n_n none
    (mulf H (mulf (broadcastInDim S2x512x2x256 ![] bcast_S_S2x512x2x256 (constant S_ .f32 0x3F000000#32))
      (addf (broadcastInDim S2x512x2x256 ![] bcast_S_S2x512x2x256 (constant S_ .f32 0x3F800000#32))
        (Host.tanh (mulf (broadcastInDim S2x512x2x256 ![] bcast_S_S2x512x2x256 (constant S_ .f32 0x3F4C422A#32))
          (addf H (mulf (broadcastInDim S2x512x2x256 ![] bcast_S_S2x512x2x256 (constant S_ .f32 0x3D372713#32)) (mulf (mulf H H) H)))))))) w⟩,
    ⟨S2x512x2x32, broadcastInDim S2x512x2x32 ![] bcast_S_S2x512x2x32 (constant S_ .f32 0x00000000#32)⟩]
    concatenates_S2x512x2x96_S2x512x2x32_S2x512x2x128_d3) shapeCasts_S2x512x2x128_S2x512x256) bitsLt_bf16_f32

/-- Its entry is the compressed block's lane. -/
theorem keyO_apply (H w) (b : Fin 2) (n : Fin 512) (j : Fin 256) :
    keyO H w (ix3 b n j) = outLane (fun k => H (ix4 b n ⟨j.val / 128, by omega⟩ k)) (fun k c => w (ix2 k c)) (j.val % 128) := by
  pointwise [keyO]
  unfold outLane
  simp only [← gelu_ref]

/-- The reference's keys at the end, from its arrays at launch. -/
theorem ref_key (m : (ℓ : Loc nD τ sig) → Buf (Elt Ideal) ℓ) (c : Dev nD) : res_out0 m c =
    keyO (keyH (m ((c.tc : Thread nD τ).loc main_arg0)) (m ((c.tc : Thread nD τ).loc main_arg1)) (m ((c.tc : Thread nD τ).loc main_arg2)))
      (m ((c.tc : Thread nD τ).loc main_arg3)) := rfl

/-- So they are the compressed keys. -/
theorem ref_key_eq (x pe w w2) : keyO (keyH x pe w) w2 = fun y : S2x512x256.Idx =>
    compress (d := 96) 0 (by omega) x (fun l c => pe (ix2 l c)) (rows (N := 3072) rfl w) (fun k c => w2 (ix2 k c)) (y 0) (y 1) (y 2) := by
  funext y
  idx_vars y
  rw [keyO_apply]
  simp only [keyH_apply]
  rfl

/-- The reference's values before the GELU. -/
def valH (x : FVec Ideal S2x8192x320 .f32) (pe : FVec Ideal S32x64 .f32) (w : FVec Ideal S2048x256 .f32) : FVec Ideal S2x512x2x256 .f32 :=
  Host.dotGeneral dot_S2x512x2x2048_S2048x256_S2x512x2x256_3_0_012_1_n_n none (shapeCast _ (transpose S2x512x2x32x64 [0, 1, 3, 2, 4] (addf
    (concatenate S2x512x32x2x64 2 [
      ⟨S2x512x16x2x64, shapeCast _ (extractStridedSlice S2x8192x2x64 ![0, 0, 0, 96] (shapeCast _ x shapeCasts_S2x8192x320_S2x8192x2x160) slices_S2x8192x2x160_S2x8192x2x64_0_0_0_96) shapeCasts_S2x8192x2x64_S2x512x16x2x64⟩,
      ⟨S2x512x16x2x64, concatenate S2x512x16x2x64 1 [
        ⟨S2x511x16x2x64, extractStridedSlice S2x511x16x2x64 ![0, 1, 0, 0, 0] (shapeCast _ (extractStridedSlice S2x8192x2x64 ![0, 0, 0, 96] (shapeCast _ x shapeCasts_S2x8192x320_S2x8192x2x160) slices_S2x8192x2x160_S2x8192x2x64_0_0_0_96) shapeCasts_S2x8192x2x64_S2x512x16x2x64) slices_S2x512x16x2x64_S2x511x16x2x64_0_1_0_0_0⟩,
        ⟨S2x1x16x2x64, extractStridedSlice S2x1x16x2x64 ![0, 0, 0, 0, 0] (shapeCast _ (extractStridedSlice S2x8192x2x64 ![0, 0, 0, 96] (shapeCast _ x shapeCasts_S2x8192x320_S2x8192x2x160) slices_S2x8192x2x160_S2x8192x2x64_0_0_0_96) shapeCasts_S2x8192x2x64_S2x512x16x2x64) slices_S2x512x16x2x64_S2x1x16x2x64_0_0_0_0_0⟩]
        concatenates_S2x511x16x2x64_S2x1x16x2x64_S2x512x16x2x64_d1⟩] concatenates_S2x512x16x2x64_S2x512x16x2x64_S2x512x32x2x64_d2)
    (broadcastInDim S2x512x32x2x64 ![0, 1, 2, 3, 4] bcast_S1x1x32x1x64_S2x512x32x2x64_0_1_2_3_4 (broadcastInDim S1x1x32x1x64 ![2, 4] bcast_S32x64_S1x1x32x1x64_2_4 pe)))
    transposes_S2x512x32x2x64_S2x512x2x32x64_0_1_3_2_4) shapeCasts_S2x512x2x32x64_S2x512x2x2048) w

/-- Its entry is the block's sum. -/
theorem valH_apply (x pe w) (b : Fin 2) (n : Fin 512) (g : Fin 2) (k : Fin 256) :
    valH x pe w (ix4 b n g k) = pre (tok x b n g 96 64 (by omega)) (fun l c => pe (ix2 l c)) fun l c => rows (d := 64) (N := 2048) rfl w l c k := by
  pointwise [valH]
  unfold pre
  rw [sum_grid 32 64 rfl]
  refine Finset.sum_congr rfl fun l _ => Finset.sum_congr rfl fun c _ => ?_
  have e : (l.val * 64 + c.val) / 64 = l.val := by omega
  have e' : (l.val * 64 + c.val) % 64 = c.val := by omega
  refine congr (congrArg _ (congr (congrArg _ ?_) ?_)) rfl
  · unfold tok
    dsimp only
    by_cases h1 : (l.val * 64 + c.val) / 64 < 16
    · rw [dif_pos h1]
      refine congrArg x (congr (congrArg (ix3 b) (Fin.ext ?_)) (Fin.ext ?_)) <;> dsimp only <;> omega
    rw [dif_neg h1]
    by_cases h2 : n.val < 511
    · rw [dif_pos h2]
      refine congrArg x (congr (congrArg (ix3 b) (Fin.ext ?_)) (Fin.ext ?_)) <;> dsimp only <;> omega
    · rw [dif_neg h2]
      refine congrArg x (congr (congrArg (ix3 b) (Fin.ext ?_)) (Fin.ext ?_)) <;> dsimp only <;> omega
  · exact congrArg pe (congr (congrArg ix2 (Fin.ext e)) (Fin.ext e'))

/-- The reference's compressed values from their values before the GELU. -/
def valO (H : FVec Ideal S2x512x2x256 .f32) (w : FVec Ideal S256x64 .f32) : FVec Ideal S2x512x256 .bf16 :=
  truncf .bf16 (shapeCast _ (concatenate S2x512x2x128 3 [⟨S2x512x2x64, Host.dotGeneral dot_S2x512x2x256_S256x64_S2x512x2x64_3_0_012_1_n_n none
    (mulf H (mulf (broadcastInDim S2x512x2x256 ![] bcast_S_S2x512x2x256 (constant S_ .f32 0x3F000000#32))
      (addf (broadcastInDim S2x512x2x256 ![] bcast_S_S2x512x2x256 (constant S_ .f32 0x3F800000#32))
        (Host.tanh (mulf (broadcastInDim S2x512x2x256 ![] bcast_S_S2x512x2x256 (constant S_ .f32 0x3F4C422A#32))
          (addf H (mulf (broadcastInDim S2x512x2x256 ![] bcast_S_S2x512x2x256 (constant S_ .f32 0x3D372713#32)) (mulf (mulf H H) H)))))))) w⟩,
    ⟨S2x512x2x64, broadcastInDim S2x512x2x64 ![] bcast_S_S2x512x2x64 (constant S_ .f32 0x00000000#32)⟩]
    concatenates_S2x512x2x64_S2x512x2x64_S2x512x2x128_d3) shapeCasts_S2x512x2x128_S2x512x256) bitsLt_bf16_f32

/-- Its entry is the compressed block's lane. -/
theorem valO_apply (H w) (b : Fin 2) (n : Fin 512) (j : Fin 256) :
    valO H w (ix3 b n j) = outLane (fun k => H (ix4 b n ⟨j.val / 128, by omega⟩ k)) (fun k c => w (ix2 k c)) (j.val % 128) := by
  pointwise [valO]
  unfold outLane
  simp only [← gelu_ref]

/-- The reference's values at the end, from its arrays at launch. -/
theorem ref_val (m : (ℓ : Loc nD τ sig) → Buf (Elt Ideal) ℓ) (c : Dev nD) : res_out1 m c =
    valO (valH (m ((c.tc : Thread nD τ).loc main_arg0)) (m ((c.tc : Thread nD τ).loc main_arg4)) (m ((c.tc : Thread nD τ).loc main_arg5)))
      (m ((c.tc : Thread nD τ).loc main_arg6)) := rfl

/-- So they are the compressed values. -/
theorem ref_val_eq (x pe w w2) : valO (valH x pe w) w2 = fun y : S2x512x256.Idx =>
    compress (d := 64) 96 (by omega) x (fun l c => pe (ix2 l c)) (rows (N := 2048) rfl w) (fun k c => w2 (ix2 k c)) (y 0) (y 1) (y 2) := by
  funext y
  idx_vars y
  rw [valO_apply]
  simp only [valH_apply]
  rfl

end Cert.Cmp
-- ==== Proof.CmpClaim.lean ====
module

public import proofs.«01_k».proof.Defs
public import proofs.«01_k».proof.Proof.Cmp
public import proofs.«01_k».proof.Proof.CmpRef
public import proofs.«01_k».proof.Proof.Gen.Pre_finite_weights
public import Idealize.ShloMosaic.Lib.ReduceAll

@[expose] public section

set_option maxRecDepth 16384

noncomputable section

namespace Cert.Cmp

open Idealize.ShloMosaic Idealize.ShloMosaic.TcCoe Idealize.SL.Sem

/-- The word of plus infinity, read as a value. -/
theorem ofBits_top : Ideal.ofBits .f32 0x7F800000#32 = ⊤ := by simp [Ideal.ofBits, Ideal.ieee]

/-- A value whose magnitude compares below plus infinity is finite. -/
theorem fin_of_cmp (x : EReal) (h : Ideal.cmp .olt (max x (-x)) ⊤ = 1#1) : Fin' x := by
  have h' : max x (-x) < ⊤ := by
    by_contra hn
    simp [Ideal.cmp, hn] at h
  constructor
  · rintro rfl; simp at h'
  · rintro rfl; simp at h'

/-- An array all of whose magnitudes compare below plus infinity is finite at every index. -/
theorem fin_of_all {s : Shape} {ax : List (Fin s.rank)} {t u : Shape} [Subsingleton t.Idx] (x : FVec Ideal s .f32) (b : FVec Ideal s .f32)
    (hb : ∀ i, b i = (⊤ : EReal)) (init : IVec u 1) (hr : s.ReducesTo ax t) (hu : 0 < u.numel) (j : t.Idx)
    (e : Host.reduce IntOp.andi (cmpf .olt (Host.absf x) b) init hr hu j = 1#1) (i : s.Idx) : Fin' (x i) := by
  have h := Host.reduce_andi_all _ init hr hu j e i
  refine fin_of_cmp (x i) ?_
  rw [← hb i]
  exact h

/-- Two words whose conjunction is one are both one. -/
theorem and_one : ∀ a b : BitVec 1, IntOp.andi a b = 1#1 → a = 1#1 ∧ b = 1#1 := by decide

/-- The precondition gives that the positions and the first weights of both branches are finite everywhere. -/
theorem fin_of_pre (m : (ℓ : Loc Cert.Kernel6Ideal.nD Cert.Kernel6Ideal.τ Cert.Kernel6Ideal.sig) → Buf (Elt Ideal) ℓ)
    (h : Cert.Pre_Kernel6Ideal_finite_weights (hPre_finite_weights := Cert.Pre_finite_weights.Gen.facts) m)
    (c : Dev Cert.Kernel6Ideal.nD) :
    (∀ i : Cert.Kernel6Ideal.S32x96.Idx, Fin' (m ((c : Thread Cert.Kernel6Ideal.nD Cert.Kernel6Ideal.τ).loc Cert.Kernel6Ideal.main_arg1) i))
    ∧ (∀ i : Cert.Kernel6Ideal.S3072x256.Idx, Fin' (m ((c : Thread Cert.Kernel6Ideal.nD Cert.Kernel6Ideal.τ).loc Cert.Kernel6Ideal.main_arg2) i))
    ∧ (∀ i : Cert.Kernel6Ideal.S32x64.Idx, Fin' (m ((c : Thread Cert.Kernel6Ideal.nD Cert.Kernel6Ideal.τ).loc Cert.Kernel6Ideal.main_arg4) i))
    ∧ (∀ i : Cert.Kernel6Ideal.S2048x256.Idx, Fin' (m ((c : Thread Cert.Kernel6Ideal.nD Cert.Kernel6Ideal.τ).loc Cert.Kernel6Ideal.main_arg5) i)) := by
  haveI := Cert.Pre_finite_weights.Gen.facts
  haveI : Subsingleton Cert.Pre_finite_weights.S_.Idx := ⟨fun a b => funext fun i => i.elim0⟩
  have e := congrFun (h c) (fun i => i.elim0)
  dsimp only [Cert.Pre_finite_weights.fn, Cert.Pre_finite_weights.fn_part1] at e
  obtain ⟨e, e5⟩ := and_one _ _ e
  obtain ⟨e, e4⟩ := and_one _ _ e
  obtain ⟨e1, e2⟩ := and_one _ _ e
  exact ⟨fin_of_all _ _ (fun _ => ofBits_top) _ _ _ _ e1, fin_of_all _ _ (fun _ => ofBits_top) _ _ _ _ e2,
    fin_of_all _ _ (fun _ => ofBits_top) _ _ _ _ e4, fin_of_all _ _ (fun _ => ofBits_top) _ _ _ _ e5⟩

section
open Cert.Kernel6Ideal
variable (m : (ℓ : Loc nD τ sig) → Buf (Elt Ideal) ℓ) (c : Dev nD)

/-- The compressed keys, read off arrays equal to the kernel's arguments. -/
theorem keyAt_of {x : S2x8192x320.Idx → EReal} {pe : S32x96.Idx → EReal} {w : S3072x256.Idx → EReal} {w2 : S256x96.Idx → EReal}
    (h0 : x = m ((c : Thread nD τ).loc main_arg0)) (h1 : pe = m ((c : Thread nD τ).loc main_arg1))
    (h2 : w = m ((c : Thread nD τ).loc main_arg2)) (h3 : w2 = m ((c : Thread nD τ).loc main_arg3)) (b : Fin 2) (n : Fin 512) (j : Fin 256) :
    compress (d := 96) 0 (by omega) x (fun l k => pe (ix2 l k)) (rows (N := 3072) rfl w) (fun k l => w2 (ix2 k l)) b n j
      = keyAt m c b n j := by
  subst h0 h1 h2 h3
  rfl

/-- The compressed values, read off arrays equal to the kernel's arguments. -/
theorem valAt_of {x : S2x8192x320.Idx → EReal} {pe : S32x64.Idx → EReal} {w : S2048x256.Idx → EReal} {w2 : S256x64.Idx → EReal}
    (h0 : x = m ((c : Thread nD τ).loc main_arg0)) (h4 : pe = m ((c : Thread nD τ).loc main_arg4))
    (h5 : w = m ((c : Thread nD τ).loc main_arg5)) (h6 : w2 = m ((c : Thread nD τ).loc main_arg6)) (b : Fin 2) (n : Fin 512) (j : Fin 256) :
    compress (d := 64) 96 (by omega) x (fun l k => pe (ix2 l k)) (rows (N := 2048) rfl w) (fun k l => w2 (ix2 k l)) b n j
      = valAt m c b n j := by
  subst h0 h4 h5 h6
  rfl

end

/-- With finite positions and first weights, the compression's kernel and its reference end with the same keys and values. -/
theorem algebraic : Cert.algebraic_Kernel6Ideal_Reference6Ideal_pre_finite_weights (hKernel6Ideal := Cert.Kernel6Ideal.Gen.facts)
    (hReference6Ideal := Cert.Reference6Ideal.Gen.facts) (hPre_finite_weights := Cert.Pre_finite_weights.Gen.facts) := by
  intro m g m' g' hpre hag
  refine ⟨fun c => (fun y : Cert.Kernel6Ideal.S2x512x256.Idx => keyAt m c (y 0) (y 1) (y 2)),
    fun c => (fun y : Cert.Kernel6Ideal.S2x512x256.Idx => valAt m c (y 0) (y 1) (y 2)),
    (θ_run Cert.Kernel6Ideal.defs _ _).mono (fun _ h c => ?_) (Cert.Kernel6Ideal.Value.run_blocks (F := Ideal) m g),
    (θ_run Cert.Reference6Ideal.defs _ _).mono (fun _ h c => ?_) (Cert.Reference6Ideal.Value.run (F := Ideal) m' g')⟩
  · obtain ⟨a, b, k⟩ := h c
    obtain ⟨f1, f2, f4, f5⟩ := fin_of_pre m hpre c
    exact ⟨a.trans (final8 m c f1 f2), b.trans (final9 m c f4 f5), k⟩
  · obtain ⟨a, b, k⟩ := h c
    obtain ⟨h0, h1, h2, h3, h4, h5, h6⟩ := hag c
    exact ⟨a.trans ((ref_key m' c).trans ((ref_key_eq _ _ _ _).trans (funext fun y => keyAt_of m c h0 h1 h2 h3 _ _ _))),
      b.trans ((ref_val m' c).trans ((ref_val_eq _ _ _ _).trans (funext fun y => valAt_of m c h0 h4 h5 h6 _ _ _))), k⟩

end Cert.Cmp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_weights
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gla
public import proofs.«01_k».proof.Proof.Ffn
public import proofs.«01_k».proof.Proof.Merge
public import proofs.«01_k».proof.Proof.Proj
public import proofs.«01_k».proof.Proof.ProjNsa
public import proofs.«01_k».proof.Proof.CmpClaim
public import Idealize.ShloMosaic.Adequacy
public import Idealize.ShloMosaic.Init

@[expose] public section

noncomputable section

namespace Cert.Proof

open Idealize.ShloMosaic Idealize.SL.Sem

/-- The frame of the gated linear attention's reference: it ends, leaves its arguments as they were, and no semaphore is left raised. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frame of the feed-forward's reference: it ends, leaves its arguments as they were, and no semaphore is left raised. -/
theorem reference2_frame : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The frame of the merge's reference: it ends, leaves its arguments as they were, and no semaphore is left raised. -/
theorem reference3_frame : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The frame of the recurrent branches' projection's reference: it ends, leaves its arguments as they were, and no semaphore is left raised. -/
theorem reference4_frame : Cert.quiescent_Reference4Ideal (hReference4Ideal := Cert.Reference4Ideal.Gen.facts) :=
  fun m ρ _ => (θ_run Cert.Reference4Ideal.defs _ _).mono
    (fun r h => ⟨fun c => (h c).2.2.2.2.2.2.2, Idealize.ShloMosaic.sem_eq_zero_of_no_sems (by decide) r.2⟩)
    (Cert.Reference4Ideal.Value.run (F := Ideal) m ρ)

/-- The frame of the sparse attention's projection's reference: it ends, leaves its arguments as they were, and no semaphore is left raised. -/
theorem reference5_frame : Cert.quiescent_Reference5Ideal (hReference5Ideal := Cert.Reference5Ideal.Gen.facts) :=
  fun m ρ _ => (θ_run Cert.Reference5Ideal.defs _ _).mono
    (fun r h => ⟨fun c => (h c).2.2.2.2.2.2.2.2, Idealize.ShloMosaic.sem_eq_zero_of_no_sems (by decide) r.2⟩)
    (Cert.Reference5Ideal.Value.run (F := Ideal) m ρ)

/-- The compression's reference, from any memory: it ends, leaves its arguments as they were, and no semaphore is left raised. -/
theorem reference6_frame : Cert.quiescent_Reference6Ideal (hReference6Ideal := Cert.Reference6Ideal.Gen.facts) :=
  fun m ρ _ => (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The gated linear attention's idealized kernel is the kernel with the mask's finite word read as minus infinity. -/
theorem preserves_gla : Cert.preserves_Kernel_KernelIdeal :=
  IdealRules.named_const.statement Cert.KernelIdeal.κ "mask" .f32 0xF149F2CA#32 ⊥ rfl

/-- The sparse attention's projection's idealized kernel is the kernel with its rounded scale read as one over the root of 96. -/
theorem preserves_nsa : Cert.preserves_Kernel5_Kernel5Ideal :=
  IdealRules.named_const.statement Cert.Kernel5Ideal.κ "inv_sqrt_d" .f32 0x3DD105EC#32 (((Real.sqrt 96)⁻¹ : ℝ) : EReal) rfl

/-- Every claim of the test: the frames of the eighteen programs, the six idealizations, and the equalities of values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_weights.Gen.facts,
  fun m ρ _ => Cert.Kernel.Gen.frame m ρ,
  fun m ρ _ => Cert.KernelIdeal.Gen.frame m ρ,
  reference_frame,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  fun m ρ _ => Cert.Kernel6Ideal.Gen.frame m ρ,
  reference6_frame,
  fun m ρ _ => reference6_frame m ρ trivial,
  preserves_gla,
  Cert.Gla.algebraic,
  trivial,
  Cert.Ffn.algebraic,
  trivial,
  Cert.Merge.algebraic,
  trivial,
  Cert.Proj.algebraic,
  preserves_nsa,
  Cert.ProjNsa.algebraic,
  trivial,
  Cert.Cmp.algebraic⟩

end Cert.Proof

end
